-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def preserves_Kernel_KernelIdeal : Prop :=
  IdealRules.named_const.Statement Cert.KernelIdeal.κ "inv_sqrt2" .f32 0x3F3504F3#32 (((Real.sqrt 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v15)) (v2 : (c : Dev Cert.KernelIdeal.nD) → Buf (Elt Ideal) ((c.tc : Thread Cert.KernelIdeal.nD Cert.KernelIdeal.τ).loc Cert.KernelIdeal.main_v16)) (v3 : (c : Dev Cert.KernelIdeal.nD) → Buf (Elt Ideal) ((c.tc : Thread Cert.KernelIdeal.nD Cert.KernelIdeal.τ).loc Cert.KernelIdeal.main_v17)) (v4 : (c : Dev Cert.KernelIdeal.nD) → Buf (Elt Ideal) ((c.tc : Thread Cert.KernelIdeal.nD Cert.KernelIdeal.τ).loc Cert.KernelIdeal.main_v18)) (v5 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_v16) = v2 c
          ∧ r.2.mem ((c.tc : Thread Cert.KernelIdeal.nD Cert.KernelIdeal.τ).loc Cert.KernelIdeal.main_v17) = v3 c
          ∧ r.2.mem ((c.tc : Thread Cert.KernelIdeal.nD Cert.KernelIdeal.τ).loc Cert.KernelIdeal.main_v18) = v4 c
          ∧ r.2.mem ((c.tc : Thread Cert.KernelIdeal.nD Cert.KernelIdeal.τ).loc Cert.KernelIdeal.main_v19) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v174) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_v53) = v2 c
          ∧ r.2.mem ((c.tc : Thread Cert.ReferenceIdeal.nD Cert.ReferenceIdeal.τ).loc Cert.ReferenceIdeal.main_v103) = v3 c
          ∧ r.2.mem ((c.tc : Thread Cert.ReferenceIdeal.nD Cert.ReferenceIdeal.τ).loc Cert.ReferenceIdeal.main_v153) = v4 c
          ∧ r.2.mem ((c.tc : Thread Cert.ReferenceIdeal.nD Cert.ReferenceIdeal.τ).loc Cert.ReferenceIdeal.main_v168) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x1024x768 : Shape := ⟨3, ![8, 1024, 768]⟩
abbrev S128x768 : Shape := ⟨2, ![128, 768]⟩
abbrev S128 : Shape := ⟨1, ![128]⟩
abbrev S1024x128 : Shape := ⟨2, ![1024, 128]⟩
abbrev S128x256 : Shape := ⟨2, ![128, 256]⟩
abbrev S256x128 : Shape := ⟨2, ![256, 128]⟩
abbrev S256 : Shape := ⟨1, ![256]⟩
abbrev S1024x256 : Shape := ⟨2, ![1024, 256]⟩
abbrev S256x512 : Shape := ⟨2, ![256, 512]⟩
abbrev S256x256 : Shape := ⟨2, ![256, 256]⟩
abbrev S768x768 : Shape := ⟨2, ![768, 768]⟩
abbrev S768 : Shape := ⟨1, ![768]⟩
abbrev S8192x768 : Shape := ⟨2, ![8192, 768]⟩
abbrev S_ : Shape := ⟨0, ![]⟩
abbrev S1024 : Shape := ⟨1, ![1024]⟩
abbrev S1x1024 : Shape := ⟨2, ![1, 1024]⟩
abbrev S8192 : Shape := ⟨1, ![8192]⟩
abbrev S1x1 : Shape := ⟨2, ![1, 1]⟩
abbrev S1024x768 : Shape := ⟨2, ![1024, 768]⟩
abbrev S1024x512 : Shape := ⟨2, ![1024, 512]⟩
abbrev S128x512 : Shape := ⟨2, ![128, 512]⟩
abbrev S1x128 : Shape := ⟨2, ![1, 128]⟩
abbrev S1024x8 : Shape := ⟨2, ![1024, 8]⟩
abbrev S1024x4 : Shape := ⟨2, ![1024, 4]⟩
abbrev S1024x2 : Shape := ⟨2, ![1024, 2]⟩
abbrev S1024x1 : Shape := ⟨2, ![1024, 1]⟩
abbrev S1024x1024 : Shape := ⟨2, ![1024, 1024]⟩
abbrev S1x1024x128 : Shape := ⟨3, ![1, 1024, 128]⟩
abbrev S1 : Shape := ⟨1, ![1]⟩
abbrev S1x1x1 : Shape := ⟨3, ![1, 1, 1]⟩
abbrev S1x256 : Shape := ⟨2, ![1, 256]⟩
abbrev S1x1024x256 : Shape := ⟨3, ![1, 1024, 256]⟩
abbrev S768x512 : Shape := ⟨2, ![768, 512]⟩
abbrev S768x256 : Shape := ⟨2, ![768, 256]⟩
abbrev S1x768 : Shape := ⟨2, ![1, 768]⟩
abbrev S8x1024 : Shape := ⟨2, ![8, 1024]⟩

abbrev nBuf : Space → Nat
  | .hbm => 48
  | .vmem => 35
  | .smem => 0
  | _ => 0

abbrev bufTy : (tb : Table) → Fin (tcTables nBuf tb) → BufTy
  | .hbm, ⟨0, _⟩ => ⟨S8x1024x768, .f32⟩
  | .hbm, ⟨1, _⟩ => ⟨S128x768, .f32⟩
  | .hbm, ⟨2, _⟩ => ⟨S128, .f32⟩
  | .hbm, ⟨3, _⟩ => ⟨S128x768, .f32⟩
  | .hbm, ⟨4, _⟩ => ⟨S128, .f32⟩
  | .hbm, ⟨5, _⟩ => ⟨S1024x128, .f32⟩
  | .hbm, ⟨6, _⟩ => ⟨S1024x128, .f32⟩
  | .hbm, ⟨7, _⟩ => ⟨S128x256, .f32⟩
  | .hbm, ⟨8, _⟩ => ⟨S128, .f32⟩
  | .hbm, ⟨9, _⟩ => ⟨S256x128, .f32⟩
  | .hbm, ⟨10, _⟩ => ⟨S256, .f32⟩
  | .hbm, ⟨11, _⟩ => ⟨S1024x256, .f32⟩
  | .hbm, ⟨12, _⟩ => ⟨S256x512, .f32⟩
  | .hbm, ⟨13, _⟩ => ⟨S256, .f32⟩
  | .hbm, ⟨14, _⟩ => ⟨S256x256, .f32⟩
  | .hbm, ⟨15, _⟩ => ⟨S256, .f32⟩
  | .hbm, ⟨16, _⟩ => ⟨S1024x256, .f32⟩
  | .hbm, ⟨17, _⟩ => ⟨S768x768, .f32⟩
  | .hbm, ⟨18, _⟩ => ⟨S768, .f32⟩
  | .hbm, ⟨19, _⟩ => ⟨S8192x768, .f32⟩
  | .hbm, ⟨20, _⟩ => ⟨S1024x128, .f32⟩
  | .hbm, ⟨21, _⟩ => ⟨S_, .f32⟩
  | .hbm, ⟨22, _⟩ => ⟨S1024, .f32⟩
  | .hbm, ⟨23, _⟩ => ⟨S1x1024, .f32⟩
  | .hbm, ⟨24, _⟩ => ⟨S1024x128, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S1024x256, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S1024x256, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S8192x768, .f32⟩
  | .hbm, ⟨37, _⟩ => ⟨S8192, .i32⟩
  | .hbm, ⟨38, _⟩ => ⟨S8192, .i32⟩
  | .hbm, ⟨39, _⟩ => ⟨S8192, .i32⟩
  | .hbm, ⟨40, _⟩ => ⟨S8192, .i32⟩
  | .hbm, ⟨41, _⟩ => ⟨S1x1, .f32⟩
  | .hbm, ⟨42, _⟩ => ⟨S8x1024x768, .f32⟩
  | .hbm, ⟨43, _⟩ => ⟨S8x1024, .i32⟩
  | .hbm, ⟨44, _⟩ => ⟨S8x1024, .i32⟩
  | .hbm, ⟨45, _⟩ => ⟨S8x1024, .i32⟩
  | .hbm, ⟨46, _⟩ => ⟨S8x1024, .i32⟩
  | .hbm, ⟨47, _⟩ => ⟨S_, .f32⟩
  | .local _ .vmem, ⟨0, _⟩ => ⟨S1024x768, .f32⟩
  | .local _ .vmem, ⟨1, _⟩ => ⟨S1024x768, .f32⟩
  | .local _ .vmem, ⟨2, _⟩ => ⟨S128x768, .f32⟩
  | .local _ .vmem, ⟨3, _⟩ => ⟨S128, .f32⟩
  | .local _ .vmem, ⟨4, _⟩ => ⟨S128x768, .f32⟩
  | .local _ .vmem, ⟨5, _⟩ => ⟨S128, .f32⟩
  | .local _ .vmem, ⟨6, _⟩ => ⟨S1024x128, .f32⟩
  | .local _ .vmem, ⟨7, _⟩ => ⟨S1024x128, .f32⟩
  | .local _ .vmem, ⟨8, _⟩ => ⟨S128x256, .f32⟩
  | .local _ .vmem, ⟨9, _⟩ => ⟨S128, .f32⟩
  | .local _ .vmem, ⟨10, _⟩ => ⟨S256x128, .f32⟩
  | .local _ .vmem, ⟨11, _⟩ => ⟨S256, .f32⟩
  | .local _ .vmem, ⟨12, _⟩ => ⟨S1024x256, .f32⟩
  | .local _ .vmem, ⟨13, _⟩ => ⟨S256x512, .f32⟩
  | .local _ .vmem, ⟨14, _⟩ => ⟨S256, .f32⟩
  | .local _ .vmem, ⟨15, _⟩ => ⟨S256x256, .f32⟩
  | .local _ .vmem, ⟨16, _⟩ => ⟨S256, .f32⟩
  | .local _ .vmem, ⟨17, _⟩ => ⟨S1024x256, .f32⟩
  | .local _ .vmem, ⟨18, _⟩ => ⟨S768x768, .f32⟩
  | .local _ .vmem, ⟨19, _⟩ => ⟨S768, .f32⟩
  | .local _ .vmem, ⟨20, _⟩ => ⟨S1x1024, .f32⟩
  | .local _ .vmem, ⟨21, _⟩ => ⟨S1x1024, .f32⟩
  | .local _ .vmem, ⟨22, _⟩ => ⟨S1x1024, .f32⟩
  | .local _ .vmem, ⟨23, _⟩ => ⟨S1x1024, .f32⟩
  | .local _ .vmem, ⟨24, _⟩ => ⟨S1024x768, .f32⟩
  | .local _ .vmem, ⟨25, _⟩ => ⟨S1024x768, .f32⟩
  | .local _ .vmem, ⟨26, _⟩ => ⟨S1024, .i32⟩
  | .local _ .vmem, ⟨27, _⟩ => ⟨S1024, .i32⟩
  | .local _ .vmem, ⟨28, _⟩ => ⟨S1024, .i32⟩
  | .local _ .vmem, ⟨29, _⟩ => ⟨S1024, .i32⟩
  | .local _ .vmem, ⟨30, _⟩ => ⟨S1024, .i32⟩
  | .local _ .vmem, ⟨31, _⟩ => ⟨S1024, .i32⟩
  | .local _ .vmem, ⟨32, _⟩ => ⟨S1024, .i32⟩
  | .local _ .vmem, ⟨33, _⟩ => ⟨S1024, .i32⟩
  | .local _ .vmem, ⟨34, _⟩ => ⟨S1x1, .f32⟩
  | _, _ => ⟨S8x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_cst : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_cst_0 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst_1 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst_2 : Ref sig .tc := ⟨.hbm, 33, rfl⟩
abbrev main_v11 : Ref sig .tc := ⟨.hbm, 34, rfl⟩
abbrev main_v12 : Ref sig .tc := ⟨.hbm, 35, rfl⟩
abbrev main_v13_0 : Ref sig .tc := ⟨.hbm, 36, rfl⟩
abbrev main_v13_1 : Ref sig .tc := ⟨.hbm, 37, rfl⟩
abbrev main_v13_2 : Ref sig .tc := ⟨.hbm, 38, rfl⟩
abbrev main_v13_3 : Ref sig .tc := ⟨.hbm, 39, rfl⟩
abbrev main_v13_4 : Ref sig .tc := ⟨.hbm, 40, rfl⟩
abbrev main_v13_5 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg22_0 : Ref sig .tc := ⟨.vmem, 23, rfl⟩
abbrev cc0_stg23_0 : Ref sig .tc := ⟨.vmem, 24, rfl⟩
abbrev cc0_stg23_1 : Ref sig .tc := ⟨.vmem, 25, rfl⟩
abbrev cc0_stg24_0 : Ref sig .tc := ⟨.vmem, 26, rfl⟩
abbrev cc0_stg24_1 : Ref sig .tc := ⟨.vmem, 27, rfl⟩
abbrev cc0_stg25_0 : Ref sig .tc := ⟨.vmem, 28, rfl⟩
abbrev cc0_stg25_1 : Ref sig .tc := ⟨.vmem, 29, rfl⟩
abbrev cc0_stg26_0 : Ref sig .tc := ⟨.vmem, 30, rfl⟩
abbrev cc0_stg26_1 : Ref sig .tc := ⟨.vmem, 31, rfl⟩
abbrev cc0_stg27_0 : Ref sig .tc := ⟨.vmem, 32, rfl⟩
abbrev cc0_stg27_1 : Ref sig .tc := ⟨.vmem, 33, rfl⟩
abbrev cc0_stg28_0 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem22_0 : DmaSem sig := 23
abbrev cc0_sem23_0 : DmaSem sig := 24
abbrev cc0_sem23_1 : DmaSem sig := 25
abbrev cc0_sem24_0 : DmaSem sig := 26
abbrev cc0_sem24_1 : DmaSem sig := 27
abbrev cc0_sem25_0 : DmaSem sig := 28
abbrev cc0_sem25_1 : DmaSem sig := 29
abbrev cc0_sem26_0 : DmaSem sig := 30
abbrev cc0_sem26_1 : DmaSem sig := 31
abbrev cc0_sem27_0 : DmaSem sig := 32
abbrev cc0_sem27_1 : DmaSem sig := 33
abbrev cc0_sem28_0 : DmaSem sig := 34

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v448 : BitVec 1 := Scalar.cmpi .eq arg0 c0_i32
  let v449 : BitVec 32 := Scalar.extui v448
  let c0_i32_89 : BitVec 32 := 0#32
  let v450 : BitVec 1 := Scalar.cmpi .ne v449 c0_i32_89
  v450

def k0_cond2 (i : grid0.Coords) : BitVec 1 :=
  let arg0 : BitVec 32 := BitVec.ofNat 32 (i 0).val
  let c0_i32_90 : BitVec 32 := 0#32
  let v451 : BitVec 1 := Scalar.cmpi .ne arg0 c0_i32_90
  let v452 : BitVec 32 := Scalar.extui v451
  let c0_i32_91 : BitVec 32 := 0#32
  let v453 : BitVec 1 := Scalar.cmpi .ne v452 c0_i32_91
  v453

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 1 → Nat :=
  let arg0 : BitVec 32 := BitVec.ofNat 32 (i 0).val
  let c0_i32 : BitVec 32 := 0#32
  ![arg0.toNat]

def cc0_transform_25 (i : grid0.Coords) : Fin 1 → Nat :=
  let arg0 : BitVec 32 := BitVec.ofNat 32 (i 0).val
  let c0_i32 : BitVec 32 := 0#32
  ![arg0.toNat]

def cc0_transform_26 (i : grid0.Coords) : Fin 1 → Nat :=
  let arg0 : BitVec 32 := BitVec.ofNat 32 (i 0).val
  let c0_i32 : BitVec 32 := 0#32
  ![arg0.toNat]

def cc0_transform_27 (i : grid0.Coords) : Fin 1 → Nat :=
  let arg0 : BitVec 32 := BitVec.ofNat 32 (i 0).val
  let c0_i32 : BitVec 32 := 0#32
  ![arg0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S768x768 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S768 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 2 → Memref sig .tc .vmem S1024x768 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S1024 .i32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S1024 .i32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S1024 .i32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S1024 .i32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 1 → Memref sig .tc .vmem S1x1 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]
-- ==== KernelIdeal.lean ====
variable {F : FTy → Type} [FloatOps F] [Named F]
def κ : String → Option EReal := fun
  | "inv_sqrt2" => some (((Real.sqrt 2)⁻¹ : ℝ) : EReal)
  | _ => none
-- ==== ReferenceIdeal.lean ====
abbrev S8x1024x768 : Shape := ⟨3, ![8, 1024, 768]⟩
abbrev S128x768 : Shape := ⟨2, ![128, 768]⟩
abbrev S128 : Shape := ⟨1, ![128]⟩
abbrev S1024x128 : Shape := ⟨2, ![1024, 128]⟩
abbrev S128x256 : Shape := ⟨2, ![128, 256]⟩
abbrev S256x128 : Shape := ⟨2, ![256, 128]⟩
abbrev S256 : Shape := ⟨1, ![256]⟩
abbrev S1024x256 : Shape := ⟨2, ![1024, 256]⟩
abbrev S256x512 : Shape := ⟨2, ![256, 512]⟩
abbrev S256x256 : Shape := ⟨2, ![256, 256]⟩
abbrev S768x768 : Shape := ⟨2, ![768, 768]⟩
abbrev S768 : Shape := ⟨1, ![768]⟩
abbrev S768x128 : Shape := ⟨2, ![768, 128]⟩
abbrev S8x1024x128 : Shape := ⟨3, ![8, 1024, 128]⟩
abbrev S1x1x128 : Shape := ⟨3, ![1, 1, 128]⟩
abbrev S_ : Shape := ⟨0, ![]⟩
abbrev S8x1024 : Shape := ⟨2, ![8, 1024]⟩
abbrev S8x1024x1 : Shape := ⟨3, ![8, 1024, 1]⟩
abbrev S128x1024 : Shape := ⟨2, ![128, 1024]⟩
abbrev S8x1024x1024 : Shape := ⟨3, ![8, 1024, 1024]⟩
abbrev S1024 : Shape := ⟨1, ![1024]⟩
abbrev S1x1x1024 : Shape := ⟨3, ![1, 1, 1024]⟩
abbrev S8x1024x256 : Shape := ⟨3, ![8, 1024, 256]⟩
abbrev S1x1x256 : Shape := ⟨3, ![1, 1, 256]⟩
abbrev S256x1024 : Shape := ⟨2, ![256, 1024]⟩
abbrev S8x1024x512 : Shape := ⟨3, ![8, 1024, 512]⟩
abbrev S512x256 : Shape := ⟨2, ![512, 256]⟩
abbrev S1x1x768 : Shape := ⟨3, ![1, 1, 768]⟩

abbrev nBuf : Space → Nat
  | .hbm => 248
  | .vmem => 0
  | .smem => 0
  | _ => 0

abbrev hbmTy0_0 (i : Nat) : BufTy := match i % 128 with
  | 0 => ⟨S8x1024x768, .f32⟩
  | 1 => ⟨S128x768, .f32⟩
  | 2 => ⟨S128, .f32⟩
  | 3 => ⟨S128x768, .f32⟩
  | 4 => ⟨S128, .f32⟩
  | 5 => ⟨S1024x128, .f32⟩
  | 6 => ⟨S1024x128, .f32⟩
  | 7 => ⟨S128x256, .f32⟩
  | 8 => ⟨S128, .f32⟩
  | 9 => ⟨S256x128, .f32⟩
  | 10 => ⟨S256, .f32⟩
  | 11 => ⟨S1024x256, .f32⟩
  | 12 => ⟨S256x512, .f32⟩
  | 13 => ⟨S256, .f32⟩
  | 14 => ⟨S256x256, .f32⟩
  | 15 => ⟨S256, .f32⟩
  | 16 => ⟨S1024x256, .f32⟩
  | 17 => ⟨S768x768, .f32⟩
  | 18 => ⟨S768, .f32⟩
  | 19 => ⟨S768x128, .f32⟩
  | 20 => ⟨S8x1024x128, .f32⟩
  | 21 => ⟨S1x1x128, .f32⟩
  | 22 => ⟨S8x1024x128, .f32⟩
  | 23 => ⟨S8x1024x128, .f32⟩
  | 24 => ⟨S8x1024x128, .f32⟩
  | 25 => ⟨S_, .f32⟩
  | 26 => ⟨S8x1024, .f32⟩
  | 27 => ⟨S8x1024x1, .f32⟩
  | 28 => ⟨S128x1024, .f32⟩
  | 29 => ⟨S8x1024x1024, .f32⟩
  | 30 => ⟨S_, .f32⟩
  | 31 => ⟨S8x1024x1024, .f32⟩
  | 32 => ⟨S8x1024x1024, .f32⟩
  | 33 => ⟨S8x1024x1024, .f32⟩
  | 34 => ⟨S8x1024x1024, .f32⟩
  | 35 => ⟨S1024x128, .f32⟩
  | 36 => ⟨S_, .f32⟩
  | 37 => ⟨S1024, .f32⟩
  | 38 => ⟨S1x1x1024, .f32⟩
  | 39 => ⟨S8x1024x1024, .f32⟩
  | 40 => ⟨S8x1024x1024, .f32⟩
  | 41 => ⟨S8x1024x1024, .i32⟩
  | 42 => ⟨S_, .f32⟩
  | 43 => ⟨S_, .i32⟩
  | 44 => ⟨S8x1024, .f32⟩
  | 45 => ⟨S8x1024, .i32⟩
  | 46 => ⟨S_, .i32⟩
  | 47 => ⟨S8x1024, .i32⟩
  | 48 => ⟨S8x1024, .i1⟩
  | 49 => ⟨S_, .i32⟩
  | 50 => ⟨S8x1024, .i32⟩
  | 51 => ⟨S8x1024, .i32⟩
  | 52 => ⟨S8x1024, .i32⟩
  | 53 => ⟨S8x1024x1, .i32⟩
  | 54 => ⟨S8x1024x128, .f32⟩
  | 55 => ⟨S8x1024x128, .f32⟩
  | 56 => ⟨S8x1024x128, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S8x1024x128, .f32⟩
  | 64 => ⟨S8x1024x128, .f32⟩
  | 65 => ⟨S768x128, .f32⟩
  | 66 => ⟨S8x1024x128, .f32⟩
  | 67 => ⟨S1x1x128, .f32⟩
  | 68 => ⟨S8x1024x128, .f32⟩
  | 69 => ⟨S8x1024x128, .f32⟩
  | 70 => ⟨S8x1024x128, .f32⟩
  | 71 => ⟨S_, .f32⟩
  | 72 => ⟨S8x1024, .f32⟩
  | 73 => ⟨S8x1024x1, .f32⟩
  | 74 => ⟨S128x1024, .f32⟩
  | 75 => ⟨S8x1024x1024, .f32⟩
  | 76 => ⟨S_, .f32⟩
  | 77 => ⟨S8x1024x1024, .f32⟩
  | 78 => ⟨S8x1024x1024, .f32⟩
  | 79 => ⟨S8x1024x1024, .f32⟩
  | 80 => ⟨S8x1024x1024, .f32⟩
  | 81 => ⟨S1024x128, .f32⟩
  | 82 => ⟨S_, .f32⟩
  | 83 => ⟨S1024, .f32⟩
  | 84 => ⟨S1x1x1024, .f32⟩
  | 85 => ⟨S8x1024x1024, .f32⟩
  | 86 => ⟨S8x1024x1024, .f32⟩
  | 87 => ⟨S8x1024x1024, .i32⟩
  | 88 => ⟨S_, .f32⟩
  | 89 => ⟨S_, .i32⟩
  | 90 => ⟨S8x1024, .f32⟩
  | 91 => ⟨S8x1024, .i32⟩
  | 92 => ⟨S_, .i32⟩
  | 93 => ⟨S8x1024, .i32⟩
  | 94 => ⟨S8x1024, .i1⟩
  | 95 => ⟨S_, .i32⟩
  | 96 => ⟨S8x1024, .i32⟩
  | 97 => ⟨S8x1024, .i32⟩
  | 98 => ⟨S8x1024, .i32⟩
  | 99 => ⟨S8x1024x1, .i32⟩
  | 100 => ⟨S8x1024x128, .f32⟩
  | 101 => ⟨S8x1024x128, .f32⟩
  | 102 => ⟨S8x1024x128, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S8x1024x128, .f32⟩
  | 110 => ⟨S8x1024x128, .f32⟩
  | 111 => ⟨S8x1024x256, .f32⟩
  | 112 => ⟨S_, .f32⟩
  | 113 => ⟨S256x128, .f32⟩
  | 114 => ⟨S8x1024x128, .f32⟩
  | 115 => ⟨S1x1x128, .f32⟩
  | 116 => ⟨S8x1024x128, .f32⟩
  | 117 => ⟨S8x1024x128, .f32⟩
  | 118 => ⟨S_, .f32⟩
  | 119 => ⟨S8x1024x128, .f32⟩
  | 120 => ⟨S8x1024x128, .f32⟩
  | 121 => ⟨S_, .f32⟩
  | 122 => ⟨S_, .f32⟩
  | 123 => ⟨S8x1024x128, .f32⟩
  | 124 => ⟨S8x1024x128, .f32⟩
  | 125 => ⟨S8x1024x128, .f32⟩
  | 126 => ⟨S_, .f32⟩
  | 127 => ⟨S8x1024x128, .f32⟩
  | _ => ⟨S8x1024x768, .f32⟩

abbrev hbmTy0_1 (i : Nat) : BufTy := match i % 128 with
  | 0 => ⟨S8x1024x128, .f32⟩
  | 1 => ⟨S8x1024x128, .f32⟩
  | 2 => ⟨S128x256, .f32⟩
  | 3 => ⟨S8x1024x256, .f32⟩
  | 4 => ⟨S1x1x256, .f32⟩
  | 5 => ⟨S8x1024x256, .f32⟩
  | 6 => ⟨S8x1024x256, .f32⟩
  | 7 => ⟨S8x1024x256, .f32⟩
  | 8 => ⟨S_, .f32⟩
  | 9 => ⟨S8x1024, .f32⟩
  | 10 => ⟨S8x1024x1, .f32⟩
  | 11 => ⟨S256x1024, .f32⟩
  | 12 => ⟨S8x1024x1024, .f32⟩
  | 13 => ⟨S_, .f32⟩
  | 14 => ⟨S8x1024x1024, .f32⟩
  | 15 => ⟨S8x1024x1024, .f32⟩
  | 16 => ⟨S8x1024x1024, .f32⟩
  | 17 => ⟨S8x1024x1024, .f32⟩
  | 18 => ⟨S1024x256, .f32⟩
  | 19 => ⟨S_, .f32⟩
  | 20 => ⟨S1024, .f32⟩
  | 21 => ⟨S1x1x1024, .f32⟩
  | 22 => ⟨S8x1024x1024, .f32⟩
  | 23 => ⟨S8x1024x1024, .f32⟩
  | 24 => ⟨S8x1024x1024, .i32⟩
  | 25 => ⟨S_, .f32⟩
  | 26 => ⟨S_, .i32⟩
  | 27 => ⟨S8x1024, .f32⟩
  | 28 => ⟨S8x1024, .i32⟩
  | 29 => ⟨S_, .i32⟩
  | 30 => ⟨S8x1024, .i32⟩
  | 31 => ⟨S8x1024, .i1⟩
  | 32 => ⟨S_, .i32⟩
  | 33 => ⟨S8x1024, .i32⟩
  | 34 => ⟨S8x1024, .i32⟩
  | 35 => ⟨S8x1024, .i32⟩
  | 36 => ⟨S8x1024x1, .i32⟩
  | 37 => ⟨S8x1024x256, .f32⟩
  | 38 => ⟨S8x1024x256, .f32⟩
  | 39 => ⟨S8x1024x256, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S8x1024x256, .f32⟩
  | 47 => ⟨S8x1024x256, .f32⟩
  | 48 => ⟨S_, .f32⟩
  | 49 => ⟨S8x1024x512, .f32⟩
  | 50 => ⟨S512x256, .f32⟩
  | 51 => ⟨S8x1024x256, .f32⟩
  | 52 => ⟨S1x1x256, .f32⟩
  | 53 => ⟨S8x1024x256, .f32⟩
  | 54 => ⟨S8x1024x256, .f32⟩
  | 55 => ⟨S_, .f32⟩
  | 56 => ⟨S8x1024x256, .f32⟩
  | 57 => ⟨S8x1024x256, .f32⟩
  | 58 => ⟨S_, .f32⟩
  | 59 => ⟨S_, .f32⟩
  | 60 => ⟨S8x1024x256, .f32⟩
  | 61 => ⟨S8x1024x256, .f32⟩
  | 62 => ⟨S8x1024x256, .f32⟩
  | 63 => ⟨S_, .f32⟩
  | 64 => ⟨S8x1024x256, .f32⟩
  | 65 => ⟨S8x1024x256, .f32⟩
  | 66 => ⟨S8x1024x256, .f32⟩
  | 67 => ⟨S256x256, .f32⟩
  | 68 => ⟨S8x1024x256, .f32⟩
  | 69 => ⟨S1x1x256, .f32⟩
  | 70 => ⟨S8x1024x256, .f32⟩
  | 71 => ⟨S8x1024x256, .f32⟩
  | 72 => ⟨S8x1024x256, .f32⟩
  | 73 => ⟨S_, .f32⟩
  | 74 => ⟨S8x1024, .f32⟩
  | 75 => ⟨S8x1024x1, .f32⟩
  | 76 => ⟨S256x1024, .f32⟩
  | 77 => ⟨S8x1024x1024, .f32⟩
  | 78 => ⟨S_, .f32⟩
  | 79 => ⟨S8x1024x1024, .f32⟩
  | 80 => ⟨S8x1024x1024, .f32⟩
  | 81 => ⟨S8x1024x1024, .f32⟩
  | 82 => ⟨S8x1024x1024, .f32⟩
  | 83 => ⟨S1024x256, .f32⟩
  | 84 => ⟨S_, .f32⟩
  | 85 => ⟨S1024, .f32⟩
  | 86 => ⟨S1x1x1024, .f32⟩
  | 87 => ⟨S8x1024x1024, .f32⟩
  | 88 => ⟨S8x1024x1024, .f32⟩
  | 89 => ⟨S8x1024x1024, .i32⟩
  | 90 => ⟨S_, .f32⟩
  | 91 => ⟨S_, .i32⟩
  | 92 => ⟨S8x1024, .f32⟩
  | 93 => ⟨S8x1024, .i32⟩
  | 94 => ⟨S_, .i32⟩
  | 95 => ⟨S8x1024, .i32⟩
  | 96 => ⟨S8x1024, .i1⟩
  | 97 => ⟨S_, .i32⟩
  | 98 => ⟨S8x1024, .i32⟩
  | 99 => ⟨S8x1024, .i32⟩
  | 100 => ⟨S8x1024, .i32⟩
  | 101 => ⟨S8x1024x1, .i32⟩
  | 102 => ⟨S8x1024x256, .f32⟩
  | 103 => ⟨S8x1024x256, .f32⟩
  | 104 => ⟨S8x1024x256, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S8x1024x256, .f32⟩
  | 112 => ⟨S8x1024x256, .f32⟩
  | 113 => ⟨S_, .f32⟩
  | 114 => ⟨S8x1024x768, .f32⟩
  | 115 => ⟨S768x768, .f32⟩
  | 116 => ⟨S8x1024x768, .f32⟩
  | 117 => ⟨S1x1x768, .f32⟩
  | 118 => ⟨S8x1024x768, .f32⟩
  | 119 => ⟨S8x1024x768, .f32⟩
  | _ => ⟨S8x1024x768, .f32⟩

abbrev hbmTy (i : Nat) : BufTy := match i / 128 with
  | 0 => hbmTy0_0 i
  | 1 => hbmTy0_1 i
  | _ => ⟨S8x1024x768, .f32⟩

abbrev bufTy : (tb : Table) → Fin (tcTables nBuf tb) → BufTy
  | .hbm, ⟨i, _⟩ => hbmTy i
  | _, _ => ⟨S8x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_cst : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_cst_0 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst_1 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_call0_v0 : Ref sig .tc := ⟨.hbm, 41, rfl⟩
abbrev main_call0_cst : Ref sig .tc := ⟨.hbm, 42, rfl⟩
abbrev main_call0_c : Ref sig .tc := ⟨.hbm, 43, rfl⟩
abbrev main_call0_v1_0 : Ref sig .tc := ⟨.hbm, 44, rfl⟩
abbrev main_v19 : Ref sig .tc := ⟨.hbm, 45, rfl⟩
abbrev main_c : Ref sig .tc := ⟨.hbm, 46, rfl⟩
abbrev main_v20 : Ref sig .tc := ⟨.hbm, 47, rfl⟩
abbrev main_v21 : Ref sig .tc := ⟨.hbm, 48, rfl⟩
abbrev main_c_2 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_cst_3 : Ref sig .tc := ⟨.hbm, 57, rfl⟩
abbrev main_v29 : Ref sig .tc := ⟨.hbm, 58, rfl⟩
abbrev main_cst_4 : Ref sig .tc := ⟨.hbm, 59, rfl⟩
abbrev main_v30 : Ref sig .tc := ⟨.hbm, 60, rfl⟩
abbrev main_cst_5 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_6 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_cst_7 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_cst_8 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_call1_v0 : Ref sig .tc := ⟨.hbm, 87, rfl⟩
abbrev main_call1_cst : Ref sig .tc := ⟨.hbm, 88, rfl⟩
abbrev main_call1_c : Ref sig .tc := ⟨.hbm, 89, rfl⟩
abbrev main_call1_v1_0 : Ref sig .tc := ⟨.hbm, 90, rfl⟩
abbrev main_v53 : Ref sig .tc := ⟨.hbm, 91, rfl⟩
abbrev main_c_9 : Ref sig .tc := ⟨.hbm, 92, rfl⟩
abbrev main_v54 : Ref sig .tc := ⟨.hbm, 93, rfl⟩
abbrev main_v55 : Ref sig .tc := ⟨.hbm, 94, rfl⟩
abbrev main_c_10 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_cst_11 : Ref sig .tc := ⟨.hbm, 103, rfl⟩
abbrev main_v63 : Ref sig .tc := ⟨.hbm, 104, rfl⟩
abbrev main_cst_12 : Ref sig .tc := ⟨.hbm, 105, rfl⟩
abbrev main_v64 : Ref sig .tc := ⟨.hbm, 106, rfl⟩
abbrev main_cst_13 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_cst_14 : Ref sig .tc := ⟨.hbm, 118, rfl⟩
abbrev main_v75 : Ref sig .tc := ⟨.hbm, 119, rfl⟩
abbrev main_v76 : Ref sig .tc := ⟨.hbm, 120, rfl⟩
abbrev main_cst_15 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_cst_16 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_cst_17 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_cst_18 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_cst_19 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_call2_v0 : Ref sig .tc := ⟨.hbm, 152, rfl⟩
abbrev main_call2_cst : Ref sig .tc := ⟨.hbm, 153, rfl⟩
abbrev main_call2_c : Ref sig .tc := ⟨.hbm, 154, rfl⟩
abbrev main_call2_v1_0 : Ref sig .tc := ⟨.hbm, 155, rfl⟩
abbrev main_v103 : Ref sig .tc := ⟨.hbm, 156, rfl⟩
abbrev main_c_20 : Ref sig .tc := ⟨.hbm, 157, rfl⟩
abbrev main_v104 : Ref sig .tc := ⟨.hbm, 158, rfl⟩
abbrev main_v105 : Ref sig .tc := ⟨.hbm, 159, rfl⟩
abbrev main_c_21 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_cst_22 : Ref sig .tc := ⟨.hbm, 168, rfl⟩
abbrev main_v113 : Ref sig .tc := ⟨.hbm, 169, rfl⟩
abbrev main_cst_23 : Ref sig .tc := ⟨.hbm, 170, rfl⟩
abbrev main_v114 : Ref sig .tc := ⟨.hbm, 171, rfl⟩
abbrev main_cst_24 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_cst_25 : Ref sig .tc := ⟨.hbm, 183, rfl⟩
abbrev main_v125 : Ref sig .tc := ⟨.hbm, 184, rfl⟩
abbrev main_v126 : Ref sig .tc := ⟨.hbm, 185, rfl⟩
abbrev main_cst_26 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_cst_27 : Ref sig .tc := ⟨.hbm, 191, rfl⟩
abbrev main_v131 : Ref sig .tc := ⟨.hbm, 192, rfl⟩
abbrev main_v132 : Ref sig .tc := ⟨.hbm, 193, rfl⟩
abbrev main_v133 : Ref sig .tc := ⟨.hbm, 194, rfl⟩
abbrev main_v134 : Ref sig .tc := ⟨.hbm, 195, rfl⟩
abbrev main_v135 : Ref sig .tc := ⟨.hbm, 196, rfl⟩
abbrev main_v136 : Ref sig .tc := ⟨.hbm, 197, rfl⟩
abbrev main_v137 : Ref sig .tc := ⟨.hbm, 198, rfl⟩
abbrev main_v138 : Ref sig .tc := ⟨.hbm, 199, rfl⟩
abbrev main_v139 : Ref sig .tc := ⟨.hbm, 200, rfl⟩
abbrev main_cst_28 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_cst_29 : Ref sig .tc := ⟨.hbm, 206, rfl⟩
abbrev main_v144 : Ref sig .tc := ⟨.hbm, 207, rfl⟩
abbrev main_v145 : Ref sig .tc := ⟨.hbm, 208, rfl⟩
abbrev main_v146 : Ref sig .tc := ⟨.hbm, 209, rfl⟩
abbrev main_v147 : Ref sig .tc := ⟨.hbm, 210, rfl⟩
abbrev main_v148 : Ref sig .tc := ⟨.hbm, 211, rfl⟩
abbrev main_cst_30 : Ref sig .tc := ⟨.hbm, 212, rfl⟩
abbrev main_v149 : Ref sig .tc := ⟨.hbm, 213, rfl⟩
abbrev main_v150 : Ref sig .tc := ⟨.hbm, 214, rfl⟩
abbrev main_v151 : Ref sig .tc := ⟨.hbm, 215, rfl⟩
abbrev main_v152 : Ref sig .tc := ⟨.hbm, 216, rfl⟩
abbrev main_call3_v0 : Ref sig .tc := ⟨.hbm, 217, rfl⟩
abbrev main_call3_cst : Ref sig .tc := ⟨.hbm, 218, rfl⟩
abbrev main_call3_c : Ref sig .tc := ⟨.hbm, 219, rfl⟩
abbrev main_call3_v1_0 : Ref sig .tc := ⟨.hbm, 220, rfl⟩
abbrev main_v153 : Ref sig .tc := ⟨.hbm, 221, rfl⟩
abbrev main_c_31 : Ref sig .tc := ⟨.hbm, 222, rfl⟩
abbrev main_v154 : Ref sig .tc := ⟨.hbm, 223, rfl⟩
abbrev main_v155 : Ref sig .tc := ⟨.hbm, 224, rfl⟩
abbrev main_c_32 : Ref sig .tc := ⟨.hbm, 225, rfl⟩
abbrev main_v156 : Ref sig .tc := ⟨.hbm, 226, rfl⟩
abbrev main_v157 : Ref sig .tc := ⟨.hbm, 227, rfl⟩
abbrev main_v158 : Ref sig .tc := ⟨.hbm, 228, rfl⟩
abbrev main_v159 : Ref sig .tc := ⟨.hbm, 229, rfl⟩
abbrev main_v160 : Ref sig .tc := ⟨.hbm, 230, rfl⟩
abbrev main_v161 : Ref sig .tc := ⟨.hbm, 231, rfl⟩
abbrev main_v162 : Ref sig .tc := ⟨.hbm, 232, rfl⟩
abbrev main_cst_33 : Ref sig .tc := ⟨.hbm, 233, rfl⟩
abbrev main_v163 : Ref sig .tc := ⟨.hbm, 234, rfl⟩
abbrev main_cst_34 : Ref sig .tc := ⟨.hbm, 235, rfl⟩
abbrev main_v164 : Ref sig .tc := ⟨.hbm, 236, rfl⟩
abbrev main_cst_35 : Ref sig .tc := ⟨.hbm, 237, rfl⟩
abbrev main_v165 : Ref sig .tc := ⟨.hbm, 238, rfl⟩
abbrev main_v166 : Ref sig .tc := ⟨.hbm, 239, rfl⟩
abbrev main_v167 : Ref sig .tc := ⟨.hbm, 240, rfl⟩
abbrev main_v168 : Ref sig .tc := ⟨.hbm, 241, rfl⟩
abbrev main_v169 : Ref sig .tc := ⟨.hbm, 242, rfl⟩
abbrev main_v170 : Ref sig .tc := ⟨.hbm, 243, rfl⟩
abbrev main_v171 : Ref sig .tc := ⟨.hbm, 244, rfl⟩
abbrev main_v172 : Ref sig .tc := ⟨.hbm, 245, rfl⟩
abbrev main_v173 : Ref sig .tc := ⟨.hbm, 246, rfl⟩
abbrev main_v174 : Ref sig .tc := ⟨.hbm, 247, rfl⟩

abbrev nD : Nat := 1
abbrev τ : Topo := Topo.v7x

variable {F : FTy → Type} [FloatOps F]
-- ==== Proof.Launch.KernelRunA.lean ====
/- The run of the kernel's body in case A of its launch, at any float instance: the text of the generated run module, under a larger
   budget (the body has thirty buffers and nine printed parts, and the run's proof outgrows the budget the generated text sets). -/
module

public import proofs.«01_k».proof.Proof.Gen.Kernel.Frame.Runs

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 2000000 in
/-- The body's triple IN CASE A (`scf.if` 0 taken, `scf.if` 1 not taken: points 0): on whole staging memrefs — the inputs' at their contents,
    the FORGOTTEN outputs' (23, 24, 25, 26, 27, 28) at anything, handed back at some contents nothing names —
    the body runs to the continuation holding the inputs' as they were: the printed functions are their skeletons (`Gen.*_eq_skeleton`),
    which `sl_exec` runs (Lib/Exec.lean) — each `scf.if` decided by the case's hypotheses `hc·`. -/
theorem kernelRun0_A (c : Dev nD) (i : grid0.Coords) (arg1 : Memref sig .tc .vmem S1024x768 .f32) (harg1 : arg1.IsWhole) (arg2 : Memref sig .tc .vmem S128x768 .f32) (harg2 : arg2.IsWhole) (arg3 : Memref sig .tc .vmem S128 .f32) (harg3 : arg3.IsWhole) (arg4 : Memref sig .tc .vmem S128x768 .f32) (harg4 : arg4.IsWhole) (arg5 : Memref sig .tc .vmem S128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S128x256 .f32) (harg8 : arg8.IsWhole) (arg9 : Memref sig .tc .vmem S128 .f32) (harg9 : arg9.IsWhole) (arg10 : Memref sig .tc .vmem S256x128 .f32) (harg10 : arg10.IsWhole) (arg11 : Memref sig .tc .vmem S256 .f32) (harg11 : arg11.IsWhole) (arg12 : Memref sig .tc .vmem S1024x256 .f32) (harg12 : arg12.IsWhole) (arg13 : Memref sig .tc .vmem S256x512 .f32) (harg13 : arg13.IsWhole) (arg14 : Memref sig .tc .vmem S256 .f32) (harg14 : arg14.IsWhole) (arg15 : Memref sig .tc .vmem S256x256 .f32) (harg15 : arg15.IsWhole) (arg16 : Memref sig .tc .vmem S256 .f32) (harg16 : arg16.IsWhole) (arg17 : Memref sig .tc .vmem S1024x256 .f32) (harg17 : arg17.IsWhole) (arg18 : Memref sig .tc .vmem S768x768 .f32) (harg18 : arg18.IsWhole) (arg19 : Memref sig .tc .vmem S768 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S1x1024 .f32) (harg22 : arg22.IsWhole) (arg23 : Memref sig .tc .vmem S1x1024 .f32) (harg23 : arg23.IsWhole) (arg24 : Memref sig .tc .vmem S1024x768 .f32) (harg24 : arg24.IsWhole) (arg25 : Memref sig .tc .vmem S1024 .i32) (harg25 : arg25.IsWhole) (arg26 : Memref sig .tc .vmem S1024 .i32) (harg26 : arg26.IsWhole) (arg27 : Memref sig .tc .vmem S1024 .i32) (harg27 : arg27.IsWhole) (arg28 : Memref sig .tc .vmem S1024 .i32) (harg28 : arg28.IsWhole) (arg29 : Memref sig .tc .vmem S1x1 .f32) (harg29 : arg29.IsWhole) (hc0 : cond0_0 i) (hc1 : ¬cond0_1 i)
    (x0 : Vec F S1024x768 .f32) (x1 : Vec F S128x768 .f32) (x2 : Vec F S128 .f32) (x3 : Vec F S128x768 .f32) (x4 : Vec F S128 .f32) (x5 : Vec F S1024x128 .f32) (x6 : Vec F S1024x128 .f32) (x7 : Vec F S128x256 .f32) (x8 : Vec F S128 .f32) (x9 : Vec F S256x128 .f32) (x10 : Vec F S256 .f32) (x11 : Vec F S1024x256 .f32) (x12 : Vec F S256x512 .f32) (x13 : Vec F S256 .f32) (x14 : Vec F S256x256 .f32) (x15 : Vec F S256 .f32) (x16 : Vec F S1024x256 .f32) (x17 : Vec F S768x768 .f32) (x18 : Vec F S768 .f32) (x19 : Vec F S1x1024 .f32) (x20 : Vec F S1x1024 .f32) (x21 : Vec F S1x1024 .f32) (x22 : Vec F S1x1024 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K := by
    intro E K
    simp only [cc0__fused_kernel_eq_skeleton]; unfold cc0__fused_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [H22]
    · iexists _; isplitr; · ipureintro; exact harg23.read_unread _
      iexact H22
    isplitl [H23]
    · iexists _, _; isplitr; swap; · iexact H23
      ipureintro; rfl
    isplitl [H24]
    · iexists _, _; isplitr; swap; · iexact H24
      ipureintro; rfl
    isplitl [H25]
    · iexists _, _; isplitr; swap; · iexact H25
      ipureintro; rfl
    isplitl [H26]
    · iexists _, _; isplitr; swap; · iexact H26
      ipureintro; rfl
    isplitl [H27]
    · iexists _, _; isplitr; swap; · iexact H27
      ipureintro; rfl
    iexists _, _; isplitr; swap; · iexact H28
    ipureintro; rfl

end Cert.Kernel.Gen

end
-- ==== Proof.Launch.KernelRunB.lean ====
/- The run of the kernel's body in case B of its launch, at any float instance: the text of the generated run module, under a larger
   budget (the body has thirty buffers and nine printed parts, and the run's proof outgrows the budget the generated text sets). -/
module

public import proofs.«01_k».proof.Proof.Launch.KernelRunA

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 2000000 in
/-- The body's triple IN CASE B (`scf.if` 0 not taken, `scf.if` 1 taken: points 1, 2, … 7: 7 of 8): on whole staging memrefs — the inputs' at their contents,
    the FORGOTTEN outputs' (23, 24, 25, 26, 27, 28) at anything, handed back at some contents nothing names —
    the body runs to the continuation holding the inputs' as they were: the printed functions are their skeletons (`Gen.*_eq_skeleton`),
    which `sl_exec` runs (Lib/Exec.lean) — each `scf.if` decided by the case's hypotheses `hc·`. -/
theorem kernelRun0_B (c : Dev nD) (i : grid0.Coords) (arg1 : Memref sig .tc .vmem S1024x768 .f32) (harg1 : arg1.IsWhole) (arg2 : Memref sig .tc .vmem S128x768 .f32) (harg2 : arg2.IsWhole) (arg3 : Memref sig .tc .vmem S128 .f32) (harg3 : arg3.IsWhole) (arg4 : Memref sig .tc .vmem S128x768 .f32) (harg4 : arg4.IsWhole) (arg5 : Memref sig .tc .vmem S128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S128x256 .f32) (harg8 : arg8.IsWhole) (arg9 : Memref sig .tc .vmem S128 .f32) (harg9 : arg9.IsWhole) (arg10 : Memref sig .tc .vmem S256x128 .f32) (harg10 : arg10.IsWhole) (arg11 : Memref sig .tc .vmem S256 .f32) (harg11 : arg11.IsWhole) (arg12 : Memref sig .tc .vmem S1024x256 .f32) (harg12 : arg12.IsWhole) (arg13 : Memref sig .tc .vmem S256x512 .f32) (harg13 : arg13.IsWhole) (arg14 : Memref sig .tc .vmem S256 .f32) (harg14 : arg14.IsWhole) (arg15 : Memref sig .tc .vmem S256x256 .f32) (harg15 : arg15.IsWhole) (arg16 : Memref sig .tc .vmem S256 .f32) (harg16 : arg16.IsWhole) (arg17 : Memref sig .tc .vmem S1024x256 .f32) (harg17 : arg17.IsWhole) (arg18 : Memref sig .tc .vmem S768x768 .f32) (harg18 : arg18.IsWhole) (arg19 : Memref sig .tc .vmem S768 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S1x1024 .f32) (harg22 : arg22.IsWhole) (arg23 : Memref sig .tc .vmem S1x1024 .f32) (harg23 : arg23.IsWhole) (arg24 : Memref sig .tc .vmem S1024x768 .f32) (harg24 : arg24.IsWhole) (arg25 : Memref sig .tc .vmem S1024 .i32) (harg25 : arg25.IsWhole) (arg26 : Memref sig .tc .vmem S1024 .i32) (harg26 : arg26.IsWhole) (arg27 : Memref sig .tc .vmem S1024 .i32) (harg27 : arg27.IsWhole) (arg28 : Memref sig .tc .vmem S1024 .i32) (harg28 : arg28.IsWhole) (arg29 : Memref sig .tc .vmem S1x1 .f32) (harg29 : arg29.IsWhole) (hc0 : ¬cond0_0 i) (hc1 : cond0_1 i)
    (x0 : Vec F S1024x768 .f32) (x1 : Vec F S128x768 .f32) (x2 : Vec F S128 .f32) (x3 : Vec F S128x768 .f32) (x4 : Vec F S128 .f32) (x5 : Vec F S1024x128 .f32) (x6 : Vec F S1024x128 .f32) (x7 : Vec F S128x256 .f32) (x8 : Vec F S128 .f32) (x9 : Vec F S256x128 .f32) (x10 : Vec F S256 .f32) (x11 : Vec F S1024x256 .f32) (x12 : Vec F S256x512 .f32) (x13 : Vec F S256 .f32) (x14 : Vec F S256x256 .f32) (x15 : Vec F S256 .f32) (x16 : Vec F S1024x256 .f32) (x17 : Vec F S768x768 .f32) (x18 : Vec F S768 .f32) (x19 : Vec F S1x1024 .f32) (x20 : Vec F S1x1024 .f32) (x21 : Vec F S1x1024 .f32) (x22 : Vec F S1x1024 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K := by
    intro E K
    simp only [cc0__fused_kernel_eq_skeleton]; unfold cc0__fused_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [H22]
    · iexists _; isplitr; · ipureintro; exact harg23.read_unread _
      iexact H22
    isplitl [H23]
    · iexists _, _; isplitr; swap; · iexact H23
      ipureintro; rfl
    isplitl [H24]
    · iexists _, _; isplitr; swap; · iexact H24
      ipureintro; rfl
    isplitl [H25]
    · iexists _, _; isplitr; swap; · iexact H25
      ipureintro; rfl
    isplitl [H26]
    · iexists _, _; isplitr; swap; · iexact H26
      ipureintro; rfl
    isplitl [H27]
    · iexists _, _; isplitr; swap; · iexact H27
      ipureintro; rfl
    iexists _, _; isplitr; swap; · iexact H28
    ipureintro; rfl

end Cert.Kernel.Gen

end
-- ==== Proof.Launch.KernelFrame.lean ====
/- The launch of the kernel at any float instance: what it is proved against at each grid point (what it leaves in its results is
   not named), its run, and the frame claim.  The text follows the generated module; the body's obligation is proved point case by
   point case, each under its own budget. -/
module

public import proofs.«01_k».proof.Proof.Launch.KernelRunB
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The output windows this certificate FORGETS (23, 24, 25, 26, 27, 28): nothing reads what the kernel leaves in them, so nothing
    of it is named (Lib/Pipeline/Dat.lean `Dat.toRForget`). -/
def forgets0 : Fin 29 → Bool := fun w => w.val == 23 || w.val == 24 || w.val == 25 || w.val == 26 || w.val == 27 || w.val == 28

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, h⟩ => Pipeline.Dat.unnamed (cfg := cfg0) ⟨23, h⟩ t
    | ⟨24, h⟩ => Pipeline.Dat.unnamed (cfg := cfg0) ⟨24, h⟩ t
    | ⟨25, h⟩ => Pipeline.Dat.unnamed (cfg := cfg0) ⟨25, h⟩ t
    | ⟨26, h⟩ => Pipeline.Dat.unnamed (cfg := cfg0) ⟨26, h⟩ t
    | ⟨27, h⟩ => Pipeline.Dat.unnamed (cfg := cfg0) ⟨27, h⟩ t
    | ⟨28, h⟩ => Pipeline.Dat.unnamed (cfg := cfg0) ⟨28, h⟩ t
    | ⟨_ + 29, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
/-- The body leaves in window 1's buffer what this window's block says. -/
theorem after0_1 (c : Dev nD) (t : Fin cfg0.N) : (dats m 0 c).after 1 t = iblk m c 1 t := by dsimp only [dats]
/-- The body leaves in window 2's buffer what this window's block says. -/
theorem after0_2 (c : Dev nD) (t : Fin cfg0.N) : (dats m 0 c).after 2 t = iblk m c 2 t := by dsimp only [dats]
/-- The body leaves in window 3's buffer what this window's block says. -/
theorem after0_3 (c : Dev nD) (t : Fin cfg0.N) : (dats m 0 c).after 3 t = iblk m c 3 t := by dsimp only [dats]
/-- The body leaves in window 4's buffer what this window's block says. -/
theorem after0_4 (c : Dev nD) (t : Fin cfg0.N) : (dats m 0 c).after 4 t = iblk m c 4 t := by dsimp only [dats]
/-- The body leaves in window 5's buffer what this window's block says. -/
theorem after0_5 (c : Dev nD) (t : Fin cfg0.N) : (dats m 0 c).after 5 t = iblk m c 5 t := by dsimp only [dats]
/-- The body leaves in window 6's buffer what this window's block says. -/
theorem after0_6 (c : Dev nD) (t : Fin cfg0.N) : (dats m 0 c).after 6 t = iblk m c 6 t := by dsimp only [dats]
/-- The body leaves in window 7's buffer what this window's block says. -/
theorem after0_7 (c : Dev nD) (t : Fin cfg0.N) : (dats m 0 c).after 7 t = iblk m c 7 t := by dsimp only [dats]
/-- The body leaves in window 8's buffer what this window's block says. -/
theorem after0_8 (c : Dev nD) (t : Fin cfg0.N) : (dats m 0 c).after 8 t = iblk m c 8 t := by dsimp only [dats]
/-- The body leaves in window 9's buffer what this window's block says. -/
theorem after0_9 (c : Dev nD) (t : Fin cfg0.N) : (dats m 0 c).after 9 t = iblk m c 9 t := by dsimp only [dats]
/-- The body leaves in window 10's buffer what this window's block says. -/
theorem after0_10 (c : Dev nD) (t : Fin cfg0.N) : (dats m 0 c).after 10 t = iblk m c 10 t := by dsimp only [dats]
/-- The body leaves in window 11's buffer what this window's block says. -/
theorem after0_11 (c : Dev nD) (t : Fin cfg0.N) : (dats m 0 c).after 11 t = iblk m c 11 t := by dsimp only [dats]
/-- The body leaves in window 12's buffer what this window's block says. -/
theorem after0_12 (c : Dev nD) (t : Fin cfg0.N) : (dats m 0 c).after 12 t = iblk m c 12 t := by dsimp only [dats]
/-- The body leaves in window 13's buffer what this window's block says. -/
theorem after0_13 (c : Dev nD) (t : Fin cfg0.N) : (dats m 0 c).after 13 t = iblk m c 13 t := by dsimp only [dats]
/-- The body leaves in window 14's buffer what this window's block says. -/
theorem after0_14 (c : Dev nD) (t : Fin cfg0.N) : (dats m 0 c).after 14 t = iblk m c 14 t := by dsimp only [dats]
/-- The body leaves in window 15's buffer what this window's block says. -/
theorem after0_15 (c : Dev nD) (t : Fin cfg0.N) : (dats m 0 c).after 15 t = iblk m c 15 t := by dsimp only [dats]
/-- The body leaves in window 16's buffer what this window's block says. -/
theorem after0_16 (c : Dev nD) (t : Fin cfg0.N) : (dats m 0 c).after 16 t = iblk m c 16 t := by dsimp only [dats]
/-- The body leaves in window 17's buffer what this window's block says. -/
theorem after0_17 (c : Dev nD) (t : Fin cfg0.N) : (dats m 0 c).after 17 t = iblk m c 17 t := by dsimp only [dats]
/-- The body leaves in window 18's buffer what this window's block says. -/
theorem after0_18 (c : Dev nD) (t : Fin cfg0.N) : (dats m 0 c).after 18 t = iblk m c 18 t := by dsimp only [dats]
/-- The body leaves in window 19's buffer what this window's block says. -/
theorem after0_19 (c : Dev nD) (t : Fin cfg0.N) : (dats m 0 c).after 19 t = iblk m c 19 t := by dsimp only [dats]
/-- The body leaves in window 20's buffer what this window's block says. -/
theorem after0_20 (c : Dev nD) (t : Fin cfg0.N) : (dats m 0 c).after 20 t = iblk m c 20 t := by dsimp only [dats]
/-- The body leaves in window 21's buffer what this window's block says. -/
theorem after0_21 (c : Dev nD) (t : Fin cfg0.N) : (dats m 0 c).after 21 t = iblk m c 21 t := by dsimp only [dats]
/-- The body leaves in window 22's buffer what this window's block says. -/
theorem after0_22 (c : Dev nD) (t : Fin cfg0.N) : (dats m 0 c).after 22 t = iblk m c 22 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- Window 1's buffer holds its block before the body. -/
theorem before0_1 (c : Dev nD) (t : Fin cfg0.N) (d) : (dats m 0 c).before 1 t d = iblk m c 1 t :=
  before0_1_of m (dats m 0 c) (A_eq m c 1) (after0_1 m c) t d
/-- Window 2's buffer holds its block before the body. -/
theorem before0_2 (c : Dev nD) (t : Fin cfg0.N) (d) : (dats m 0 c).before 2 t d = iblk m c 2 t :=
  before0_2_of m (dats m 0 c) (A_eq m c 2) (after0_2 m c) t d
/-- Window 3's buffer holds its block before the body. -/
theorem before0_3 (c : Dev nD) (t : Fin cfg0.N) (d) : (dats m 0 c).before 3 t d = iblk m c 3 t :=
  before0_3_of m (dats m 0 c) (A_eq m c 3) (after0_3 m c) t d
/-- Window 4's buffer holds its block before the body. -/
theorem before0_4 (c : Dev nD) (t : Fin cfg0.N) (d) : (dats m 0 c).before 4 t d = iblk m c 4 t :=
  before0_4_of m (dats m 0 c) (A_eq m c 4) (after0_4 m c) t d
/-- Window 5's buffer holds its block before the body. -/
theorem before0_5 (c : Dev nD) (t : Fin cfg0.N) (d) : (dats m 0 c).before 5 t d = iblk m c 5 t :=
  before0_5_of m (dats m 0 c) (A_eq m c 5) (after0_5 m c) t d
/-- Window 6's buffer holds its block before the body. -/
theorem before0_6 (c : Dev nD) (t : Fin cfg0.N) (d) : (dats m 0 c).before 6 t d = iblk m c 6 t :=
  before0_6_of m (dats m 0 c) (A_eq m c 6) (after0_6 m c) t d
/-- Window 7's buffer holds its block before the body. -/
theorem before0_7 (c : Dev nD) (t : Fin cfg0.N) (d) : (dats m 0 c).before 7 t d = iblk m c 7 t :=
  before0_7_of m (dats m 0 c) (A_eq m c 7) (after0_7 m c) t d
/-- Window 8's buffer holds its block before the body. -/
theorem before0_8 (c : Dev nD) (t : Fin cfg0.N) (d) : (dats m 0 c).before 8 t d = iblk m c 8 t :=
  before0_8_of m (dats m 0 c) (A_eq m c 8) (after0_8 m c) t d
/-- Window 9's buffer holds its block before the body. -/
theorem before0_9 (c : Dev nD) (t : Fin cfg0.N) (d) : (dats m 0 c).before 9 t d = iblk m c 9 t :=
  before0_9_of m (dats m 0 c) (A_eq m c 9) (after0_9 m c) t d
/-- Window 10's buffer holds its block before the body. -/
theorem before0_10 (c : Dev nD) (t : Fin cfg0.N) (d) : (dats m 0 c).before 10 t d = iblk m c 10 t :=
  before0_10_of m (dats m 0 c) (A_eq m c 10) (after0_10 m c) t d
/-- Window 11's buffer holds its block before the body. -/
theorem before0_11 (c : Dev nD) (t : Fin cfg0.N) (d) : (dats m 0 c).before 11 t d = iblk m c 11 t :=
  before0_11_of m (dats m 0 c) (A_eq m c 11) (after0_11 m c) t d
/-- Window 12's buffer holds its block before the body. -/
theorem before0_12 (c : Dev nD) (t : Fin cfg0.N) (d) : (dats m 0 c).before 12 t d = iblk m c 12 t :=
  before0_12_of m (dats m 0 c) (A_eq m c 12) (after0_12 m c) t d
/-- Window 13's buffer holds its block before the body. -/
theorem before0_13 (c : Dev nD) (t : Fin cfg0.N) (d) : (dats m 0 c).before 13 t d = iblk m c 13 t :=
  before0_13_of m (dats m 0 c) (A_eq m c 13) (after0_13 m c) t d
/-- Window 14's buffer holds its block before the body. -/
theorem before0_14 (c : Dev nD) (t : Fin cfg0.N) (d) : (dats m 0 c).before 14 t d = iblk m c 14 t :=
  before0_14_of m (dats m 0 c) (A_eq m c 14) (after0_14 m c) t d
/-- Window 15's buffer holds its block before the body. -/
theorem before0_15 (c : Dev nD) (t : Fin cfg0.N) (d) : (dats m 0 c).before 15 t d = iblk m c 15 t :=
  before0_15_of m (dats m 0 c) (A_eq m c 15) (after0_15 m c) t d
/-- Window 16's buffer holds its block before the body. -/
theorem before0_16 (c : Dev nD) (t : Fin cfg0.N) (d) : (dats m 0 c).before 16 t d = iblk m c 16 t :=
  before0_16_of m (dats m 0 c) (A_eq m c 16) (after0_16 m c) t d
/-- Window 17's buffer holds its block before the body. -/
theorem before0_17 (c : Dev nD) (t : Fin cfg0.N) (d) : (dats m 0 c).before 17 t d = iblk m c 17 t :=
  before0_17_of m (dats m 0 c) (A_eq m c 17) (after0_17 m c) t d
/-- Window 18's buffer holds its block before the body. -/
theorem before0_18 (c : Dev nD) (t : Fin cfg0.N) (d) : (dats m 0 c).before 18 t d = iblk m c 18 t :=
  before0_18_of m (dats m 0 c) (A_eq m c 18) (after0_18 m c) t d
/-- Window 19's buffer holds its block before the body. -/
theorem before0_19 (c : Dev nD) (t : Fin cfg0.N) (d) : (dats m 0 c).before 19 t d = iblk m c 19 t :=
  before0_19_of m (dats m 0 c) (A_eq m c 19) (after0_19 m c) t d
/-- Window 20's buffer holds its block before the body. -/
theorem before0_20 (c : Dev nD) (t : Fin cfg0.N) (d) : (dats m 0 c).before 20 t d = iblk m c 20 t :=
  before0_20_of m (dats m 0 c) (A_eq m c 20) (after0_20 m c) t d
/-- Window 21's buffer holds its block before the body. -/
theorem before0_21 (c : Dev nD) (t : Fin cfg0.N) (d) : (dats m 0 c).before 21 t d = iblk m c 21 t :=
  before0_21_of m (dats m 0 c) (A_eq m c 21) (after0_21 m c) t d
/-- Window 22's buffer holds its block before the body. -/
theorem before0_22 (c : Dev nD) (t : Fin cfg0.N) (d) : (dats m 0 c).before 22 t d = iblk m c 22 t :=
  before0_22_of m (dats m 0 c) (A_eq m c 22) (after0_22 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare d)
    ∗ (∃ d, owns (c : Thread nD τ) (ms0_24 t) fullShare d)
    ∗ (∃ d, owns (c : Thread nD τ) (ms0_25 t) fullShare d)
    ∗ (∃ d, owns (c : Thread nD τ) (ms0_26 t) fullShare d)
    ∗ (∃ d, owns (c : Thread nD τ) (ms0_27 t) fullShare d)
    ∗ (∃ d, owns (c : Thread nD τ) (ms0_28 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t
    ∗ (dats m 0 c).leavesExact 22 t
    ∗ (∃ d, owns (c : Thread nD τ) (ms0_23 t) fullShare d)
    ∗ (∃ d, owns (c : Thread nD τ) (ms0_24 t) fullShare d)
    ∗ (∃ d, owns (c : Thread nD τ) (ms0_25 t) fullShare d)
    ∗ (∃ d, owns (c : Thread nD τ) (ms0_26 t) fullShare d)
    ∗ (∃ d, owns (c : Thread nD τ) (ms0_27 t) fullShare d)
    ∗ (∃ d, owns (c : Thread nD τ) (ms0_28 t) fullShare d))

set_option maxHeartbeats 2000000 in
/-- The body at the first point: the inputs' memrefs hold their blocks, so the run of case A applies; the invariant passes through
    unread and the core owes nothing throughout. -/
theorem sound_body_A (c : Dev nD) (t : Fin cfg0.N) (h0 : t.val % 8 = 0) (h1 : ¬1 ≤ t.val) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10 t], after0_10]
  rw [show (dats m 0 c).leavesExact 11 t = owns (c : Thread nD τ) (ms0_11 t) fullShare ((dats m 0 c).after 11 t) from by
    unfold Dat.leavesExact; rw [liveAt0_11 t], after0_11]
  rw [show (dats m 0 c).leavesExact 12 t = owns (c : Thread nD τ) (ms0_12 t) fullShare ((dats m 0 c).after 12 t) from by
    unfold Dat.leavesExact; rw [liveAt0_12 t], after0_12]
  rw [show (dats m 0 c).leavesExact 13 t = owns (c : Thread nD τ) (ms0_13 t) fullShare ((dats m 0 c).after 13 t) from by
    unfold Dat.leavesExact; rw [liveAt0_13 t], after0_13]
  rw [show (dats m 0 c).leavesExact 14 t = owns (c : Thread nD τ) (ms0_14 t) fullShare ((dats m 0 c).after 14 t) from by
    unfold Dat.leavesExact; rw [liveAt0_14 t], after0_14]
  rw [show (dats m 0 c).leavesExact 15 t = owns (c : Thread nD τ) (ms0_15 t) fullShare ((dats m 0 c).after 15 t) from by
    unfold Dat.leavesExact; rw [liveAt0_15 t], after0_15]
  rw [show (dats m 0 c).leavesExact 16 t = owns (c : Thread nD τ) (ms0_16 t) fullShare ((dats m 0 c).after 16 t) from by
    unfold Dat.leavesExact; rw [liveAt0_16 t], after0_16]
  rw [show (dats m 0 c).leavesExact 17 t = owns (c : Thread nD τ) (ms0_17 t) fullShare ((dats m 0 c).after 17 t) from by
    unfold Dat.leavesExact; rw [liveAt0_17 t], after0_17]
  rw [show (dats m 0 c).leavesExact 18 t = owns (c : Thread nD τ) (ms0_18 t) fullShare ((dats m 0 c).after 18 t) from by
    unfold Dat.leavesExact; rw [liveAt0_18 t], after0_18]
  rw [show (dats m 0 c).leavesExact 19 t = owns (c : Thread nD τ) (ms0_19 t) fullShare ((dats m 0 c).after 19 t) from by
    unfold Dat.leavesExact; rw [liveAt0_19 t], after0_19]
  rw [show (dats m 0 c).leavesExact 20 t = owns (c : Thread nD τ) (ms0_20 t) fullShare ((dats m 0 c).after 20 t) from by
    unfold Dat.leavesExact; rw [liveAt0_20 t], after0_20]
  rw [show (dats m 0 c).leavesExact 21 t = owns (c : Thread nD τ) (ms0_21 t) fullShare ((dats m 0 c).after 21 t) from by
    unfold Dat.leavesExact; rw [liveAt0_21 t], after0_21]
  rw [show (dats m 0 c).leavesExact 22 t = owns (c : Thread nD τ) (ms0_22 t) fullShare ((dats m 0 c).after 22 t) from by
    unfold Dat.leavesExact; rw [liveAt0_22 t], after0_22]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  iintro ⟨H0, H1, H2, H3, H4, H5, H6, H7, H8, H9, H10, H11, H12, H13, H14, H15, H16, H17, H18, H19, H20, H21, H22, H23, H24, H25, H26, H27, H28⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  iexact H28

set_option maxHeartbeats 2000000 in
/-- The body at every later point: the inputs' memrefs hold their blocks and the loss what the point before left, so the run of
    case B applies. -/
theorem sound_body_B (c : Dev nD) (t : Fin cfg0.N) (h0 : ¬t.val % 8 = 0) (h1 : 1 ≤ t.val) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10 t], after0_10]
  rw [show (dats m 0 c).leavesExact 11 t = owns (c : Thread nD τ) (ms0_11 t) fullShare ((dats m 0 c).after 11 t) from by
    unfold Dat.leavesExact; rw [liveAt0_11 t], after0_11]
  rw [show (dats m 0 c).leavesExact 12 t = owns (c : Thread nD τ) (ms0_12 t) fullShare ((dats m 0 c).after 12 t) from by
    unfold Dat.leavesExact; rw [liveAt0_12 t], after0_12]
  rw [show (dats m 0 c).leavesExact 13 t = owns (c : Thread nD τ) (ms0_13 t) fullShare ((dats m 0 c).after 13 t) from by
    unfold Dat.leavesExact; rw [liveAt0_13 t], after0_13]
  rw [show (dats m 0 c).leavesExact 14 t = owns (c : Thread nD τ) (ms0_14 t) fullShare ((dats m 0 c).after 14 t) from by
    unfold Dat.leavesExact; rw [liveAt0_14 t], after0_14]
  rw [show (dats m 0 c).leavesExact 15 t = owns (c : Thread nD τ) (ms0_15 t) fullShare ((dats m 0 c).after 15 t) from by
    unfold Dat.leavesExact; rw [liveAt0_15 t], after0_15]
  rw [show (dats m 0 c).leavesExact 16 t = owns (c : Thread nD τ) (ms0_16 t) fullShare ((dats m 0 c).after 16 t) from by
    unfold Dat.leavesExact; rw [liveAt0_16 t], after0_16]
  rw [show (dats m 0 c).leavesExact 17 t = owns (c : Thread nD τ) (ms0_17 t) fullShare ((dats m 0 c).after 17 t) from by
    unfold Dat.leavesExact; rw [liveAt0_17 t], after0_17]
  rw [show (dats m 0 c).leavesExact 18 t = owns (c : Thread nD τ) (ms0_18 t) fullShare ((dats m 0 c).after 18 t) from by
    unfold Dat.leavesExact; rw [liveAt0_18 t], after0_18]
  rw [show (dats m 0 c).leavesExact 19 t = owns (c : Thread nD τ) (ms0_19 t) fullShare ((dats m 0 c).after 19 t) from by
    unfold Dat.leavesExact; rw [liveAt0_19 t], after0_19]
  rw [show (dats m 0 c).leavesExact 20 t = owns (c : Thread nD τ) (ms0_20 t) fullShare ((dats m 0 c).after 20 t) from by
    unfold Dat.leavesExact; rw [liveAt0_20 t], after0_20]
  rw [show (dats m 0 c).leavesExact 21 t = owns (c : Thread nD τ) (ms0_21 t) fullShare ((dats m 0 c).after 21 t) from by
    unfold Dat.leavesExact; rw [liveAt0_21 t], after0_21]
  rw [show (dats m 0 c).leavesExact 22 t = owns (c : Thread nD τ) (ms0_22 t) fullShare ((dats m 0 c).after 22 t) from by
    unfold Dat.leavesExact; rw [liveAt0_22 t], after0_22]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩⟩
  iapply ((kernelRun0_B c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  iintro ⟨H0, H1, H2, H3, H4, H5, H6, H7, H8, H9, H10, H11, H12, H13, H14, H15, H16, H17, H18, H19, H20, H21, H22, H23, H24, H25, H26, H27, H28⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  iexact H28

/-- The body at any point: the first or a later one. -/
theorem sound_body (c : Dev nD) (t : Fin cfg0.N) :
    bodyPre m c t ⊢ wp frame (wpE (defs₀ (F := F)) Variants.none c none) Set.univ (bodyAt0 t) (fun _ => bodyPost m c t) := by
  have hN : t.val < 8 := lt_of_lt_of_eq t.isLt (show cfg0.N = 8 from N_0)
  by_cases h1 : 1 ≤ t.val
  · exact sound_body_B m c t (by omega) h1
  · exact sound_body_A m c t (by omega) h1

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 2000000 in
/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

/-- The buffers that the lines after the region write: the reshaped results, computed from outputs that the run does not name. -/
def tailSet : Finset (Ref sig .tc) := {main_v14, main_v15, main_v16, main_v17, main_v18, main_v19}

/-- Every buffer that a later line writes is one of them. -/
theorem tail_writes : ∀ ops ∈ ([hostOps1] : List (List (HloOp τ sig (Elt F)))), ∀ op ∈ ops,
    ∀ b : Ref sig .tc, Proc.devRef .tc b ∈ op.writes → b ∈ tailSet := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl
  all_goals
    intro b hb
    simp only [StableHlo.reshape_writes, Finset.mem_singleton] at hb
    rw [Proc.devRef_injective _ hb]
    decide

-- `θ_run_frame_around_T_forget`'s implicit arguments are found by unifying its conclusion with this one, which takes unfolding plain
-- definitions in a metavariable's type
set_option backward.isDefEq.respectTransparency.types false in
set_option maxHeartbeats 800000 in
/-- THE LAUNCH: `run_main`'s statement, and every semaphore counter at zero at every final state. -/
theorem run_main_quiescent : θ_run defs (onTc (τ := τ) (main (F := F))) (s₀ m ρ) (fun r => (Pipeline.RDat.FramePostR (cfgs 0) (fun c => (dats m 0 c).toRForget forgets0) tailSet (V m)) r ∧ r.2.sem = fun _ => 0) :=
  Pipeline.θ_run_frame_around_T_forget (Q' := _) cfgs (dats m) (0 : Fin 1) launch0 defs₀ Variants.none forgets0 tailSet m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := tail_writes)
    (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 23, 24, 25, 26, 27, 28) (Lib/Pipeline/Frame.lean `RDat.FramePostR` over the proof data with those windows
    forgotten, Dat.lean `Dat.toRForget`), and every other unscoped buffer outside `tailSet` at its region-entry contents. -/
theorem run_main : θ_run defs (onTc (τ := τ) (main (F := F))) (s₀ m ρ) (Pipeline.RDat.FramePostR (cfgs 0) (fun c => (dats m 0 c).toRForget forgets0) tailSet (V m)) :=
  (θ_run defs _ _).mono (fun _ h => h.1) (run_main_quiescent m ρ)

set_option maxHeartbeats 2000000 in
/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => ⟨((h c).2 main_arg0 (Finset.mem_sdiff.mpr ⟨Pipeline.mem_restRefs_of main_arg0 (by decide) (by decide), by decide⟩)).trans (V_main_arg0 m c),
    (h.arr_in c 1 rfl).trans ((A_eq m c 1).trans (V_main_arg1 m c)),
    (h.arr_in c 2 rfl).trans ((A_eq m c 2).trans (V_main_arg2 m c)),
    (h.arr_in c 3 rfl).trans ((A_eq m c 3).trans (V_main_arg3 m c)),
    (h.arr_in c 4 rfl).trans ((A_eq m c 4).trans (V_main_arg4 m c)),
    (h.arr_in c 5 rfl).trans ((A_eq m c 5).trans (V_main_arg5 m c)),
    (h.arr_in c 6 rfl).trans ((A_eq m c 6).trans (V_main_arg6 m c)),
    (h.arr_in c 7 rfl).trans ((A_eq m c 7).trans (V_main_arg7 m c)),
    (h.arr_in c 8 rfl).trans ((A_eq m c 8).trans (V_main_arg8 m c)),
    (h.arr_in c 9 rfl).trans ((A_eq m c 9).trans (V_main_arg9 m c)),
    (h.arr_in c 10 rfl).trans ((A_eq m c 10).trans (V_main_arg10 m c)),
    (h.arr_in c 11 rfl).trans ((A_eq m c 11).trans (V_main_arg11 m c)),
    (h.arr_in c 12 rfl).trans ((A_eq m c 12).trans (V_main_arg12 m c)),
    (h.arr_in c 13 rfl).trans ((A_eq m c 13).trans (V_main_arg13 m c)),
    (h.arr_in c 14 rfl).trans ((A_eq m c 14).trans (V_main_arg14 m c)),
    (h.arr_in c 15 rfl).trans ((A_eq m c 15).trans (V_main_arg15 m c)),
    (h.arr_in c 16 rfl).trans ((A_eq m c 16).trans (V_main_arg16 m c)),
    (h.arr_in c 17 rfl).trans ((A_eq m c 17).trans (V_main_arg17 m c)),
    (h.arr_in c 18 rfl).trans ((A_eq m c 18).trans (V_main_arg18 m c))⟩) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18))
      ∧ r.2.sem = fun _ => 0) :=
  θ_run_and (unchanged m ρ) ((θ_run defs _ _).mono (fun _ h => h.2) (run_main_quiescent m ρ))

end Cert.Kernel.Gen

end
-- ==== Proof.Launch.KernelIdealRunA.lean ====
/- The run of the kernel's body in case A of its launch, at any float instance: the text of the generated run module, under a larger
   budget (the body has thirty buffers and nine printed parts, and the run's proof outgrows the budget the generated text sets). -/
module

public import proofs.«01_k».proof.Proof.Gen.KernelIdeal.Frame.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 2000000 in
/-- What the body's stores leave in each output's staging memref, as pieces (last first) IN CASE A (`scf.if` 0 taken, `scf.if` 1 not taken: points 0), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S1024x768 .f32) (harg1 : arg1.IsWhole) (arg2 : Memref sig .tc .vmem S128x768 .f32) (harg2 : arg2.IsWhole) (arg3 : Memref sig .tc .vmem S128 .f32) (harg3 : arg3.IsWhole) (arg4 : Memref sig .tc .vmem S128x768 .f32) (harg4 : arg4.IsWhole) (arg5 : Memref sig .tc .vmem S128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S128x256 .f32) (harg8 : arg8.IsWhole) (arg9 : Memref sig .tc .vmem S128 .f32) (harg9 : arg9.IsWhole) (arg10 : Memref sig .tc .vmem S256x128 .f32) (harg10 : arg10.IsWhole) (arg11 : Memref sig .tc .vmem S256 .f32) (harg11 : arg11.IsWhole) (arg12 : Memref sig .tc .vmem S1024x256 .f32) (harg12 : arg12.IsWhole) (arg13 : Memref sig .tc .vmem S256x512 .f32) (harg13 : arg13.IsWhole) (arg14 : Memref sig .tc .vmem S256 .f32) (harg14 : arg14.IsWhole) (arg15 : Memref sig .tc .vmem S256x256 .f32) (harg15 : arg15.IsWhole) (arg16 : Memref sig .tc .vmem S256 .f32) (harg16 : arg16.IsWhole) (arg17 : Memref sig .tc .vmem S1024x256 .f32) (harg17 : arg17.IsWhole) (arg18 : Memref sig .tc .vmem S768x768 .f32) (harg18 : arg18.IsWhole) (arg19 : Memref sig .tc .vmem S768 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S1x1024 .f32) (harg22 : arg22.IsWhole) (arg23 : Memref sig .tc .vmem S1x1024 .f32) (harg23 : arg23.IsWhole) (arg24 : Memref sig .tc .vmem S1024x768 .f32) (harg24 : arg24.IsWhole) (arg25 : Memref sig .tc .vmem S1024 .i32) (harg25 : arg25.IsWhole) (arg26 : Memref sig .tc .vmem S1024 .i32) (harg26 : arg26.IsWhole) (arg27 : Memref sig .tc .vmem S1024 .i32) (harg27 : arg27.IsWhole) (arg28 : Memref sig .tc .vmem S1024 .i32) (harg28 : arg28.IsWhole) (arg29 : Memref sig .tc .vmem S1x1 .f32) (harg29 : arg29.IsWhole) (hc0 : cond0_0 i) (hc1 : ¬cond0_1 i)
    (x0 : Vec F S1024x768 .f32) (x1 : Vec F S128x768 .f32) (x2 : Vec F S128 .f32) (x3 : Vec F S128x768 .f32) (x4 : Vec F S128 .f32) (x5 : Vec F S1024x128 .f32) (x6 : Vec F S1024x128 .f32) (x7 : Vec F S128x256 .f32) (x8 : Vec F S128 .f32) (x9 : Vec F S256x128 .f32) (x10 : Vec F S256 .f32) (x11 : Vec F S1024x256 .f32) (x12 : Vec F S256x512 .f32) (x13 : Vec F S256 .f32) (x14 : Vec F S256x256 .f32) (x15 : Vec F S256 .f32) (x16 : Vec F S1024x256 .f32) (x17 : Vec F S768x768 .f32) (x18 : Vec F S768 .f32) (x19 : Vec F S1x1024 .f32) (x20 : Vec F S1x1024 .f32) (x21 : Vec F S1x1024 .f32) (x22 : Vec F S1x1024 .f32) :
    Σ' (L23 : List (View.Piece (Elt F) S1024x768 .f32)), Σ' (L24 : List (View.Piece (Elt F) S1024 .i32)), Σ' (L25 : List (View.Piece (Elt F) S1024 .i32)), Σ' (L26 : List (View.Piece (Elt F) S1024 .i32)), Σ' (L27 : List (View.Piece (Elt F) S1024 .i32)), { L28 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ (∃ f, arg24.view.loc (c : Thread nD τ) ↦[arg24.view.set]{fullShare} arg24.view.writes (Elt F) f L23) ∗ (∃ f, arg25.view.loc (c : Thread nD τ) ↦[arg25.view.set]{fullShare} arg25.view.writes (Elt F) f L24) ∗ (∃ f, arg26.view.loc (c : Thread nD τ) ↦[arg26.view.set]{fullShare} arg26.view.writes (Elt F) f L25) ∗ (∃ f, arg27.view.loc (c : Thread nD τ) ↦[arg27.view.set]{fullShare} arg27.view.writes (Elt F) f L26) ∗ (∃ f, arg28.view.loc (c : Thread nD τ) ↦[arg28.view.set]{fullShare} arg28.view.writes (Elt F) f L27) ∗ (∃ f, arg29.view.loc (c : Thread nD τ) ↦[arg29.view.set]{fullShare} arg29.view.writes (Elt F) f L28)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K } := by
  refine ⟨?_, ?_, ?_, ?_, ?_, ?_, fun E K => ?run⟩
  case run =>
    simp only [cc0__fused_kernel_eq_skeleton]; unfold cc0__fused_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [H22]
    · iexists _; isplitr; · ipureintro; exact harg23.read_unread _
      iexact H22
    isplitl [H23]; · iexists _; iexact H23
    isplitl [H24]; · iexists _; iexact H24
    isplitl [H25]; · iexists _; iexact H25
    isplitl [H26]; · iexists _; iexact H26
    isplitl [H27]; · iexists _; iexact H27
    iexists _; iexact H28

end Cert.KernelIdeal.Gen

end
-- ==== Proof.Launch.KernelIdealOutA.lean ====
/- What one grid point of the kernel leaves in its results, case A (the first point): the pieces its run stores cover each result's block, and the block
   read back from them.  The text follows the generated module. -/
module

public import proofs.«01_k».proof.Proof.Launch.KernelIdealRunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Case A's pieces for output 23 tile its block (1 store of `S1024x768`, checked by the kernel's evaluation: Lib/Ring.lean `Piece.tiledL`, linear in the pieces, through a loop's `@[irreducible]` trip theorem too), so they cover it. -/
theorem cover0_A_23 (c : Dev nD) (i : grid0.Coords) (arg1 : Memref sig .tc .vmem S1024x768 .f32) (harg1 : arg1.IsWhole) (arg2 : Memref sig .tc .vmem S128x768 .f32) (harg2 : arg2.IsWhole) (arg3 : Memref sig .tc .vmem S128 .f32) (harg3 : arg3.IsWhole) (arg4 : Memref sig .tc .vmem S128x768 .f32) (harg4 : arg4.IsWhole) (arg5 : Memref sig .tc .vmem S128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S128x256 .f32) (harg8 : arg8.IsWhole) (arg9 : Memref sig .tc .vmem S128 .f32) (harg9 : arg9.IsWhole) (arg10 : Memref sig .tc .vmem S256x128 .f32) (harg10 : arg10.IsWhole) (arg11 : Memref sig .tc .vmem S256 .f32) (harg11 : arg11.IsWhole) (arg12 : Memref sig .tc .vmem S1024x256 .f32) (harg12 : arg12.IsWhole) (arg13 : Memref sig .tc .vmem S256x512 .f32) (harg13 : arg13.IsWhole) (arg14 : Memref sig .tc .vmem S256 .f32) (harg14 : arg14.IsWhole) (arg15 : Memref sig .tc .vmem S256x256 .f32) (harg15 : arg15.IsWhole) (arg16 : Memref sig .tc .vmem S256 .f32) (harg16 : arg16.IsWhole) (arg17 : Memref sig .tc .vmem S1024x256 .f32) (harg17 : arg17.IsWhole) (arg18 : Memref sig .tc .vmem S768x768 .f32) (harg18 : arg18.IsWhole) (arg19 : Memref sig .tc .vmem S768 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S1x1024 .f32) (harg22 : arg22.IsWhole) (arg23 : Memref sig .tc .vmem S1x1024 .f32) (harg23 : arg23.IsWhole) (arg24 : Memref sig .tc .vmem S1024x768 .f32) (harg24 : arg24.IsWhole) (arg25 : Memref sig .tc .vmem S1024 .i32) (harg25 : arg25.IsWhole) (arg26 : Memref sig .tc .vmem S1024 .i32) (harg26 : arg26.IsWhole) (arg27 : Memref sig .tc .vmem S1024 .i32) (harg27 : arg27.IsWhole) (arg28 : Memref sig .tc .vmem S1024 .i32) (harg28 : arg28.IsWhole) (arg29 : Memref sig .tc .vmem S1x1 .f32) (harg29 : arg29.IsWhole) (hc0 : cond0_0 i) (hc1 : ¬cond0_1 i)
    (x0 : Vec F S1024x768 .f32) (x1 : Vec F S128x768 .f32) (x2 : Vec F S128 .f32) (x3 : Vec F S128x768 .f32) (x4 : Vec F S128 .f32) (x5 : Vec F S1024x128 .f32) (x6 : Vec F S1024x128 .f32) (x7 : Vec F S128x256 .f32) (x8 : Vec F S128 .f32) (x9 : Vec F S256x128 .f32) (x10 : Vec F S256 .f32) (x11 : Vec F S1024x256 .f32) (x12 : Vec F S256x512 .f32) (x13 : Vec F S256 .f32) (x14 : Vec F S256x256 .f32) (x15 : Vec F S256 .f32) (x16 : Vec F S1024x256 .f32) (x17 : Vec F S768x768 .f32) (x18 : Vec F S768 .f32) (x19 : Vec F S1x1024 .f32) (x20 : Vec F S1x1024 .f32) (x21 : Vec F S1x1024 .f32) (x22 : Vec F S1x1024 .f32) (y : S1024x768.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 x22).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 x22).1 S1024x768.size (by sl_kernel_rfl) y

/-- What case A leaves in output 23's staging buffer: its pieces read back over junk. -/
def out0_A_23 (c : Dev nD) (i : grid0.Coords) (arg1 : Memref sig .tc .vmem S1024x768 .f32) (harg1 : arg1.IsWhole) (arg2 : Memref sig .tc .vmem S128x768 .f32) (harg2 : arg2.IsWhole) (arg3 : Memref sig .tc .vmem S128 .f32) (harg3 : arg3.IsWhole) (arg4 : Memref sig .tc .vmem S128x768 .f32) (harg4 : arg4.IsWhole) (arg5 : Memref sig .tc .vmem S128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S128x256 .f32) (harg8 : arg8.IsWhole) (arg9 : Memref sig .tc .vmem S128 .f32) (harg9 : arg9.IsWhole) (arg10 : Memref sig .tc .vmem S256x128 .f32) (harg10 : arg10.IsWhole) (arg11 : Memref sig .tc .vmem S256 .f32) (harg11 : arg11.IsWhole) (arg12 : Memref sig .tc .vmem S1024x256 .f32) (harg12 : arg12.IsWhole) (arg13 : Memref sig .tc .vmem S256x512 .f32) (harg13 : arg13.IsWhole) (arg14 : Memref sig .tc .vmem S256 .f32) (harg14 : arg14.IsWhole) (arg15 : Memref sig .tc .vmem S256x256 .f32) (harg15 : arg15.IsWhole) (arg16 : Memref sig .tc .vmem S256 .f32) (harg16 : arg16.IsWhole) (arg17 : Memref sig .tc .vmem S1024x256 .f32) (harg17 : arg17.IsWhole) (arg18 : Memref sig .tc .vmem S768x768 .f32) (harg18 : arg18.IsWhole) (arg19 : Memref sig .tc .vmem S768 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S1x1024 .f32) (harg22 : arg22.IsWhole) (arg23 : Memref sig .tc .vmem S1x1024 .f32) (harg23 : arg23.IsWhole) (arg24 : Memref sig .tc .vmem S1024x768 .f32) (harg24 : arg24.IsWhole) (arg25 : Memref sig .tc .vmem S1024 .i32) (harg25 : arg25.IsWhole) (arg26 : Memref sig .tc .vmem S1024 .i32) (harg26 : arg26.IsWhole) (arg27 : Memref sig .tc .vmem S1024 .i32) (harg27 : arg27.IsWhole) (arg28 : Memref sig .tc .vmem S1024 .i32) (harg28 : arg28.IsWhole) (arg29 : Memref sig .tc .vmem S1x1 .f32) (harg29 : arg29.IsWhole) (hc0 : cond0_0 i) (hc1 : ¬cond0_1 i)
    (x0 : Vec F S1024x768 .f32) (x1 : Vec F S128x768 .f32) (x2 : Vec F S128 .f32) (x3 : Vec F S128x768 .f32) (x4 : Vec F S128 .f32) (x5 : Vec F S1024x128 .f32) (x6 : Vec F S1024x128 .f32) (x7 : Vec F S128x256 .f32) (x8 : Vec F S128 .f32) (x9 : Vec F S256x128 .f32) (x10 : Vec F S256 .f32) (x11 : Vec F S1024x256 .f32) (x12 : Vec F S256x512 .f32) (x13 : Vec F S256 .f32) (x14 : Vec F S256x256 .f32) (x15 : Vec F S256 .f32) (x16 : Vec F S1024x256 .f32) (x17 : Vec F S768x768 .f32) (x18 : Vec F S768 .f32) (x19 : Vec F S1x1024 .f32) (x20 : Vec F S1x1024 .f32) (x21 : Vec F S1x1024 .f32) (x22 : Vec F S1x1024 .f32) : Vec F S1024x768 .f32 :=
  VO0_23.read (Elt F) (VO0_23.writes (Elt F) VO0_23.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 x22).1)

/-- Case A's pieces for output 24 tile its block (1 store of `S1024`, checked by the kernel's evaluation: Lib/Ring.lean `Piece.tiledL`, linear in the pieces, through a loop's `@[irreducible]` trip theorem too), so they cover it. -/
theorem cover0_A_24 (c : Dev nD) (i : grid0.Coords) (arg1 : Memref sig .tc .vmem S1024x768 .f32) (harg1 : arg1.IsWhole) (arg2 : Memref sig .tc .vmem S128x768 .f32) (harg2 : arg2.IsWhole) (arg3 : Memref sig .tc .vmem S128 .f32) (harg3 : arg3.IsWhole) (arg4 : Memref sig .tc .vmem S128x768 .f32) (harg4 : arg4.IsWhole) (arg5 : Memref sig .tc .vmem S128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S128x256 .f32) (harg8 : arg8.IsWhole) (arg9 : Memref sig .tc .vmem S128 .f32) (harg9 : arg9.IsWhole) (arg10 : Memref sig .tc .vmem S256x128 .f32) (harg10 : arg10.IsWhole) (arg11 : Memref sig .tc .vmem S256 .f32) (harg11 : arg11.IsWhole) (arg12 : Memref sig .tc .vmem S1024x256 .f32) (harg12 : arg12.IsWhole) (arg13 : Memref sig .tc .vmem S256x512 .f32) (harg13 : arg13.IsWhole) (arg14 : Memref sig .tc .vmem S256 .f32) (harg14 : arg14.IsWhole) (arg15 : Memref sig .tc .vmem S256x256 .f32) (harg15 : arg15.IsWhole) (arg16 : Memref sig .tc .vmem S256 .f32) (harg16 : arg16.IsWhole) (arg17 : Memref sig .tc .vmem S1024x256 .f32) (harg17 : arg17.IsWhole) (arg18 : Memref sig .tc .vmem S768x768 .f32) (harg18 : arg18.IsWhole) (arg19 : Memref sig .tc .vmem S768 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S1x1024 .f32) (harg22 : arg22.IsWhole) (arg23 : Memref sig .tc .vmem S1x1024 .f32) (harg23 : arg23.IsWhole) (arg24 : Memref sig .tc .vmem S1024x768 .f32) (harg24 : arg24.IsWhole) (arg25 : Memref sig .tc .vmem S1024 .i32) (harg25 : arg25.IsWhole) (arg26 : Memref sig .tc .vmem S1024 .i32) (harg26 : arg26.IsWhole) (arg27 : Memref sig .tc .vmem S1024 .i32) (harg27 : arg27.IsWhole) (arg28 : Memref sig .tc .vmem S1024 .i32) (harg28 : arg28.IsWhole) (arg29 : Memref sig .tc .vmem S1x1 .f32) (harg29 : arg29.IsWhole) (hc0 : cond0_0 i) (hc1 : ¬cond0_1 i)
    (x0 : Vec F S1024x768 .f32) (x1 : Vec F S128x768 .f32) (x2 : Vec F S128 .f32) (x3 : Vec F S128x768 .f32) (x4 : Vec F S128 .f32) (x5 : Vec F S1024x128 .f32) (x6 : Vec F S1024x128 .f32) (x7 : Vec F S128x256 .f32) (x8 : Vec F S128 .f32) (x9 : Vec F S256x128 .f32) (x10 : Vec F S256 .f32) (x11 : Vec F S1024x256 .f32) (x12 : Vec F S256x512 .f32) (x13 : Vec F S256 .f32) (x14 : Vec F S256x256 .f32) (x15 : Vec F S256 .f32) (x16 : Vec F S1024x256 .f32) (x17 : Vec F S768x768 .f32) (x18 : Vec F S768 .f32) (x19 : Vec F S1x1024 .f32) (x20 : Vec F S1x1024 .f32) (x21 : Vec F S1x1024 .f32) (x22 : Vec F S1x1024 .f32) (y : S1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 x22).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 x22).2.1 S1024.size (by sl_kernel_rfl) y

/-- What case A leaves in output 24's staging buffer: its pieces read back over junk. -/
def out0_A_24 (c : Dev nD) (i : grid0.Coords) (arg1 : Memref sig .tc .vmem S1024x768 .f32) (harg1 : arg1.IsWhole) (arg2 : Memref sig .tc .vmem S128x768 .f32) (harg2 : arg2.IsWhole) (arg3 : Memref sig .tc .vmem S128 .f32) (harg3 : arg3.IsWhole) (arg4 : Memref sig .tc .vmem S128x768 .f32) (harg4 : arg4.IsWhole) (arg5 : Memref sig .tc .vmem S128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S128x256 .f32) (harg8 : arg8.IsWhole) (arg9 : Memref sig .tc .vmem S128 .f32) (harg9 : arg9.IsWhole) (arg10 : Memref sig .tc .vmem S256x128 .f32) (harg10 : arg10.IsWhole) (arg11 : Memref sig .tc .vmem S256 .f32) (harg11 : arg11.IsWhole) (arg12 : Memref sig .tc .vmem S1024x256 .f32) (harg12 : arg12.IsWhole) (arg13 : Memref sig .tc .vmem S256x512 .f32) (harg13 : arg13.IsWhole) (arg14 : Memref sig .tc .vmem S256 .f32) (harg14 : arg14.IsWhole) (arg15 : Memref sig .tc .vmem S256x256 .f32) (harg15 : arg15.IsWhole) (arg16 : Memref sig .tc .vmem S256 .f32) (harg16 : arg16.IsWhole) (arg17 : Memref sig .tc .vmem S1024x256 .f32) (harg17 : arg17.IsWhole) (arg18 : Memref sig .tc .vmem S768x768 .f32) (harg18 : arg18.IsWhole) (arg19 : Memref sig .tc .vmem S768 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S1x1024 .f32) (harg22 : arg22.IsWhole) (arg23 : Memref sig .tc .vmem S1x1024 .f32) (harg23 : arg23.IsWhole) (arg24 : Memref sig .tc .vmem S1024x768 .f32) (harg24 : arg24.IsWhole) (arg25 : Memref sig .tc .vmem S1024 .i32) (harg25 : arg25.IsWhole) (arg26 : Memref sig .tc .vmem S1024 .i32) (harg26 : arg26.IsWhole) (arg27 : Memref sig .tc .vmem S1024 .i32) (harg27 : arg27.IsWhole) (arg28 : Memref sig .tc .vmem S1024 .i32) (harg28 : arg28.IsWhole) (arg29 : Memref sig .tc .vmem S1x1 .f32) (harg29 : arg29.IsWhole) (hc0 : cond0_0 i) (hc1 : ¬cond0_1 i)
    (x0 : Vec F S1024x768 .f32) (x1 : Vec F S128x768 .f32) (x2 : Vec F S128 .f32) (x3 : Vec F S128x768 .f32) (x4 : Vec F S128 .f32) (x5 : Vec F S1024x128 .f32) (x6 : Vec F S1024x128 .f32) (x7 : Vec F S128x256 .f32) (x8 : Vec F S128 .f32) (x9 : Vec F S256x128 .f32) (x10 : Vec F S256 .f32) (x11 : Vec F S1024x256 .f32) (x12 : Vec F S256x512 .f32) (x13 : Vec F S256 .f32) (x14 : Vec F S256x256 .f32) (x15 : Vec F S256 .f32) (x16 : Vec F S1024x256 .f32) (x17 : Vec F S768x768 .f32) (x18 : Vec F S768 .f32) (x19 : Vec F S1x1024 .f32) (x20 : Vec F S1x1024 .f32) (x21 : Vec F S1x1024 .f32) (x22 : Vec F S1x1024 .f32) : Vec F S1024 .i32 :=
  VO0_24.read (Elt F) (VO0_24.writes (Elt F) VO0_24.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 x22).2.1)

/-- Case A's pieces for output 25 tile its block (1 store of `S1024`, checked by the kernel's evaluation: Lib/Ring.lean `Piece.tiledL`, linear in the pieces, through a loop's `@[irreducible]` trip theorem too), so they cover it. -/
theorem cover0_A_25 (c : Dev nD) (i : grid0.Coords) (arg1 : Memref sig .tc .vmem S1024x768 .f32) (harg1 : arg1.IsWhole) (arg2 : Memref sig .tc .vmem S128x768 .f32) (harg2 : arg2.IsWhole) (arg3 : Memref sig .tc .vmem S128 .f32) (harg3 : arg3.IsWhole) (arg4 : Memref sig .tc .vmem S128x768 .f32) (harg4 : arg4.IsWhole) (arg5 : Memref sig .tc .vmem S128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S128x256 .f32) (harg8 : arg8.IsWhole) (arg9 : Memref sig .tc .vmem S128 .f32) (harg9 : arg9.IsWhole) (arg10 : Memref sig .tc .vmem S256x128 .f32) (harg10 : arg10.IsWhole) (arg11 : Memref sig .tc .vmem S256 .f32) (harg11 : arg11.IsWhole) (arg12 : Memref sig .tc .vmem S1024x256 .f32) (harg12 : arg12.IsWhole) (arg13 : Memref sig .tc .vmem S256x512 .f32) (harg13 : arg13.IsWhole) (arg14 : Memref sig .tc .vmem S256 .f32) (harg14 : arg14.IsWhole) (arg15 : Memref sig .tc .vmem S256x256 .f32) (harg15 : arg15.IsWhole) (arg16 : Memref sig .tc .vmem S256 .f32) (harg16 : arg16.IsWhole) (arg17 : Memref sig .tc .vmem S1024x256 .f32) (harg17 : arg17.IsWhole) (arg18 : Memref sig .tc .vmem S768x768 .f32) (harg18 : arg18.IsWhole) (arg19 : Memref sig .tc .vmem S768 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S1x1024 .f32) (harg22 : arg22.IsWhole) (arg23 : Memref sig .tc .vmem S1x1024 .f32) (harg23 : arg23.IsWhole) (arg24 : Memref sig .tc .vmem S1024x768 .f32) (harg24 : arg24.IsWhole) (arg25 : Memref sig .tc .vmem S1024 .i32) (harg25 : arg25.IsWhole) (arg26 : Memref sig .tc .vmem S1024 .i32) (harg26 : arg26.IsWhole) (arg27 : Memref sig .tc .vmem S1024 .i32) (harg27 : arg27.IsWhole) (arg28 : Memref sig .tc .vmem S1024 .i32) (harg28 : arg28.IsWhole) (arg29 : Memref sig .tc .vmem S1x1 .f32) (harg29 : arg29.IsWhole) (hc0 : cond0_0 i) (hc1 : ¬cond0_1 i)
    (x0 : Vec F S1024x768 .f32) (x1 : Vec F S128x768 .f32) (x2 : Vec F S128 .f32) (x3 : Vec F S128x768 .f32) (x4 : Vec F S128 .f32) (x5 : Vec F S1024x128 .f32) (x6 : Vec F S1024x128 .f32) (x7 : Vec F S128x256 .f32) (x8 : Vec F S128 .f32) (x9 : Vec F S256x128 .f32) (x10 : Vec F S256 .f32) (x11 : Vec F S1024x256 .f32) (x12 : Vec F S256x512 .f32) (x13 : Vec F S256 .f32) (x14 : Vec F S256x256 .f32) (x15 : Vec F S256 .f32) (x16 : Vec F S1024x256 .f32) (x17 : Vec F S768x768 .f32) (x18 : Vec F S768 .f32) (x19 : Vec F S1x1024 .f32) (x20 : Vec F S1x1024 .f32) (x21 : Vec F S1x1024 .f32) (x22 : Vec F S1x1024 .f32) (y : S1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 x22).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 x22).2.2.1 S1024.size (by sl_kernel_rfl) y

/-- What case A leaves in output 25's staging buffer: its pieces read back over junk. -/
def out0_A_25 (c : Dev nD) (i : grid0.Coords) (arg1 : Memref sig .tc .vmem S1024x768 .f32) (harg1 : arg1.IsWhole) (arg2 : Memref sig .tc .vmem S128x768 .f32) (harg2 : arg2.IsWhole) (arg3 : Memref sig .tc .vmem S128 .f32) (harg3 : arg3.IsWhole) (arg4 : Memref sig .tc .vmem S128x768 .f32) (harg4 : arg4.IsWhole) (arg5 : Memref sig .tc .vmem S128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S128x256 .f32) (harg8 : arg8.IsWhole) (arg9 : Memref sig .tc .vmem S128 .f32) (harg9 : arg9.IsWhole) (arg10 : Memref sig .tc .vmem S256x128 .f32) (harg10 : arg10.IsWhole) (arg11 : Memref sig .tc .vmem S256 .f32) (harg11 : arg11.IsWhole) (arg12 : Memref sig .tc .vmem S1024x256 .f32) (harg12 : arg12.IsWhole) (arg13 : Memref sig .tc .vmem S256x512 .f32) (harg13 : arg13.IsWhole) (arg14 : Memref sig .tc .vmem S256 .f32) (harg14 : arg14.IsWhole) (arg15 : Memref sig .tc .vmem S256x256 .f32) (harg15 : arg15.IsWhole) (arg16 : Memref sig .tc .vmem S256 .f32) (harg16 : arg16.IsWhole) (arg17 : Memref sig .tc .vmem S1024x256 .f32) (harg17 : arg17.IsWhole) (arg18 : Memref sig .tc .vmem S768x768 .f32) (harg18 : arg18.IsWhole) (arg19 : Memref sig .tc .vmem S768 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S1x1024 .f32) (harg22 : arg22.IsWhole) (arg23 : Memref sig .tc .vmem S1x1024 .f32) (harg23 : arg23.IsWhole) (arg24 : Memref sig .tc .vmem S1024x768 .f32) (harg24 : arg24.IsWhole) (arg25 : Memref sig .tc .vmem S1024 .i32) (harg25 : arg25.IsWhole) (arg26 : Memref sig .tc .vmem S1024 .i32) (harg26 : arg26.IsWhole) (arg27 : Memref sig .tc .vmem S1024 .i32) (harg27 : arg27.IsWhole) (arg28 : Memref sig .tc .vmem S1024 .i32) (harg28 : arg28.IsWhole) (arg29 : Memref sig .tc .vmem S1x1 .f32) (harg29 : arg29.IsWhole) (hc0 : cond0_0 i) (hc1 : ¬cond0_1 i)
    (x0 : Vec F S1024x768 .f32) (x1 : Vec F S128x768 .f32) (x2 : Vec F S128 .f32) (x3 : Vec F S128x768 .f32) (x4 : Vec F S128 .f32) (x5 : Vec F S1024x128 .f32) (x6 : Vec F S1024x128 .f32) (x7 : Vec F S128x256 .f32) (x8 : Vec F S128 .f32) (x9 : Vec F S256x128 .f32) (x10 : Vec F S256 .f32) (x11 : Vec F S1024x256 .f32) (x12 : Vec F S256x512 .f32) (x13 : Vec F S256 .f32) (x14 : Vec F S256x256 .f32) (x15 : Vec F S256 .f32) (x16 : Vec F S1024x256 .f32) (x17 : Vec F S768x768 .f32) (x18 : Vec F S768 .f32) (x19 : Vec F S1x1024 .f32) (x20 : Vec F S1x1024 .f32) (x21 : Vec F S1x1024 .f32) (x22 : Vec F S1x1024 .f32) : Vec F S1024 .i32 :=
  VO0_25.read (Elt F) (VO0_25.writes (Elt F) VO0_25.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 x22).2.2.1)

/-- Case A's pieces for output 26 tile its block (1 store of `S1024`, checked by the kernel's evaluation: Lib/Ring.lean `Piece.tiledL`, linear in the pieces, through a loop's `@[irreducible]` trip theorem too), so they cover it. -/
theorem cover0_A_26 (c : Dev nD) (i : grid0.Coords) (arg1 : Memref sig .tc .vmem S1024x768 .f32) (harg1 : arg1.IsWhole) (arg2 : Memref sig .tc .vmem S128x768 .f32) (harg2 : arg2.IsWhole) (arg3 : Memref sig .tc .vmem S128 .f32) (harg3 : arg3.IsWhole) (arg4 : Memref sig .tc .vmem S128x768 .f32) (harg4 : arg4.IsWhole) (arg5 : Memref sig .tc .vmem S128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S128x256 .f32) (harg8 : arg8.IsWhole) (arg9 : Memref sig .tc .vmem S128 .f32) (harg9 : arg9.IsWhole) (arg10 : Memref sig .tc .vmem S256x128 .f32) (harg10 : arg10.IsWhole) (arg11 : Memref sig .tc .vmem S256 .f32) (harg11 : arg11.IsWhole) (arg12 : Memref sig .tc .vmem S1024x256 .f32) (harg12 : arg12.IsWhole) (arg13 : Memref sig .tc .vmem S256x512 .f32) (harg13 : arg13.IsWhole) (arg14 : Memref sig .tc .vmem S256 .f32) (harg14 : arg14.IsWhole) (arg15 : Memref sig .tc .vmem S256x256 .f32) (harg15 : arg15.IsWhole) (arg16 : Memref sig .tc .vmem S256 .f32) (harg16 : arg16.IsWhole) (arg17 : Memref sig .tc .vmem S1024x256 .f32) (harg17 : arg17.IsWhole) (arg18 : Memref sig .tc .vmem S768x768 .f32) (harg18 : arg18.IsWhole) (arg19 : Memref sig .tc .vmem S768 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S1x1024 .f32) (harg22 : arg22.IsWhole) (arg23 : Memref sig .tc .vmem S1x1024 .f32) (harg23 : arg23.IsWhole) (arg24 : Memref sig .tc .vmem S1024x768 .f32) (harg24 : arg24.IsWhole) (arg25 : Memref sig .tc .vmem S1024 .i32) (harg25 : arg25.IsWhole) (arg26 : Memref sig .tc .vmem S1024 .i32) (harg26 : arg26.IsWhole) (arg27 : Memref sig .tc .vmem S1024 .i32) (harg27 : arg27.IsWhole) (arg28 : Memref sig .tc .vmem S1024 .i32) (harg28 : arg28.IsWhole) (arg29 : Memref sig .tc .vmem S1x1 .f32) (harg29 : arg29.IsWhole) (hc0 : cond0_0 i) (hc1 : ¬cond0_1 i)
    (x0 : Vec F S1024x768 .f32) (x1 : Vec F S128x768 .f32) (x2 : Vec F S128 .f32) (x3 : Vec F S128x768 .f32) (x4 : Vec F S128 .f32) (x5 : Vec F S1024x128 .f32) (x6 : Vec F S1024x128 .f32) (x7 : Vec F S128x256 .f32) (x8 : Vec F S128 .f32) (x9 : Vec F S256x128 .f32) (x10 : Vec F S256 .f32) (x11 : Vec F S1024x256 .f32) (x12 : Vec F S256x512 .f32) (x13 : Vec F S256 .f32) (x14 : Vec F S256x256 .f32) (x15 : Vec F S256 .f32) (x16 : Vec F S1024x256 .f32) (x17 : Vec F S768x768 .f32) (x18 : Vec F S768 .f32) (x19 : Vec F S1x1024 .f32) (x20 : Vec F S1x1024 .f32) (x21 : Vec F S1x1024 .f32) (x22 : Vec F S1x1024 .f32) (y : S1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 x22).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 x22).2.2.2.1 S1024.size (by sl_kernel_rfl) y

/-- What case A leaves in output 26's staging buffer: its pieces read back over junk. -/
def out0_A_26 (c : Dev nD) (i : grid0.Coords) (arg1 : Memref sig .tc .vmem S1024x768 .f32) (harg1 : arg1.IsWhole) (arg2 : Memref sig .tc .vmem S128x768 .f32) (harg2 : arg2.IsWhole) (arg3 : Memref sig .tc .vmem S128 .f32) (harg3 : arg3.IsWhole) (arg4 : Memref sig .tc .vmem S128x768 .f32) (harg4 : arg4.IsWhole) (arg5 : Memref sig .tc .vmem S128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S128x256 .f32) (harg8 : arg8.IsWhole) (arg9 : Memref sig .tc .vmem S128 .f32) (harg9 : arg9.IsWhole) (arg10 : Memref sig .tc .vmem S256x128 .f32) (harg10 : arg10.IsWhole) (arg11 : Memref sig .tc .vmem S256 .f32) (harg11 : arg11.IsWhole) (arg12 : Memref sig .tc .vmem S1024x256 .f32) (harg12 : arg12.IsWhole) (arg13 : Memref sig .tc .vmem S256x512 .f32) (harg13 : arg13.IsWhole) (arg14 : Memref sig .tc .vmem S256 .f32) (harg14 : arg14.IsWhole) (arg15 : Memref sig .tc .vmem S256x256 .f32) (harg15 : arg15.IsWhole) (arg16 : Memref sig .tc .vmem S256 .f32) (harg16 : arg16.IsWhole) (arg17 : Memref sig .tc .vmem S1024x256 .f32) (harg17 : arg17.IsWhole) (arg18 : Memref sig .tc .vmem S768x768 .f32) (harg18 : arg18.IsWhole) (arg19 : Memref sig .tc .vmem S768 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S1x1024 .f32) (harg22 : arg22.IsWhole) (arg23 : Memref sig .tc .vmem S1x1024 .f32) (harg23 : arg23.IsWhole) (arg24 : Memref sig .tc .vmem S1024x768 .f32) (harg24 : arg24.IsWhole) (arg25 : Memref sig .tc .vmem S1024 .i32) (harg25 : arg25.IsWhole) (arg26 : Memref sig .tc .vmem S1024 .i32) (harg26 : arg26.IsWhole) (arg27 : Memref sig .tc .vmem S1024 .i32) (harg27 : arg27.IsWhole) (arg28 : Memref sig .tc .vmem S1024 .i32) (harg28 : arg28.IsWhole) (arg29 : Memref sig .tc .vmem S1x1 .f32) (harg29 : arg29.IsWhole) (hc0 : cond0_0 i) (hc1 : ¬cond0_1 i)
    (x0 : Vec F S1024x768 .f32) (x1 : Vec F S128x768 .f32) (x2 : Vec F S128 .f32) (x3 : Vec F S128x768 .f32) (x4 : Vec F S128 .f32) (x5 : Vec F S1024x128 .f32) (x6 : Vec F S1024x128 .f32) (x7 : Vec F S128x256 .f32) (x8 : Vec F S128 .f32) (x9 : Vec F S256x128 .f32) (x10 : Vec F S256 .f32) (x11 : Vec F S1024x256 .f32) (x12 : Vec F S256x512 .f32) (x13 : Vec F S256 .f32) (x14 : Vec F S256x256 .f32) (x15 : Vec F S256 .f32) (x16 : Vec F S1024x256 .f32) (x17 : Vec F S768x768 .f32) (x18 : Vec F S768 .f32) (x19 : Vec F S1x1024 .f32) (x20 : Vec F S1x1024 .f32) (x21 : Vec F S1x1024 .f32) (x22 : Vec F S1x1024 .f32) : Vec F S1024 .i32 :=
  VO0_26.read (Elt F) (VO0_26.writes (Elt F) VO0_26.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 x22).2.2.2.1)

/-- Case A's pieces for output 27 tile its block (1 store of `S1024`, checked by the kernel's evaluation: Lib/Ring.lean `Piece.tiledL`, linear in the pieces, through a loop's `@[irreducible]` trip theorem too), so they cover it. -/
theorem cover0_A_27 (c : Dev nD) (i : grid0.Coords) (arg1 : Memref sig .tc .vmem S1024x768 .f32) (harg1 : arg1.IsWhole) (arg2 : Memref sig .tc .vmem S128x768 .f32) (harg2 : arg2.IsWhole) (arg3 : Memref sig .tc .vmem S128 .f32) (harg3 : arg3.IsWhole) (arg4 : Memref sig .tc .vmem S128x768 .f32) (harg4 : arg4.IsWhole) (arg5 : Memref sig .tc .vmem S128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S128x256 .f32) (harg8 : arg8.IsWhole) (arg9 : Memref sig .tc .vmem S128 .f32) (harg9 : arg9.IsWhole) (arg10 : Memref sig .tc .vmem S256x128 .f32) (harg10 : arg10.IsWhole) (arg11 : Memref sig .tc .vmem S256 .f32) (harg11 : arg11.IsWhole) (arg12 : Memref sig .tc .vmem S1024x256 .f32) (harg12 : arg12.IsWhole) (arg13 : Memref sig .tc .vmem S256x512 .f32) (harg13 : arg13.IsWhole) (arg14 : Memref sig .tc .vmem S256 .f32) (harg14 : arg14.IsWhole) (arg15 : Memref sig .tc .vmem S256x256 .f32) (harg15 : arg15.IsWhole) (arg16 : Memref sig .tc .vmem S256 .f32) (harg16 : arg16.IsWhole) (arg17 : Memref sig .tc .vmem S1024x256 .f32) (harg17 : arg17.IsWhole) (arg18 : Memref sig .tc .vmem S768x768 .f32) (harg18 : arg18.IsWhole) (arg19 : Memref sig .tc .vmem S768 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S1x1024 .f32) (harg22 : arg22.IsWhole) (arg23 : Memref sig .tc .vmem S1x1024 .f32) (harg23 : arg23.IsWhole) (arg24 : Memref sig .tc .vmem S1024x768 .f32) (harg24 : arg24.IsWhole) (arg25 : Memref sig .tc .vmem S1024 .i32) (harg25 : arg25.IsWhole) (arg26 : Memref sig .tc .vmem S1024 .i32) (harg26 : arg26.IsWhole) (arg27 : Memref sig .tc .vmem S1024 .i32) (harg27 : arg27.IsWhole) (arg28 : Memref sig .tc .vmem S1024 .i32) (harg28 : arg28.IsWhole) (arg29 : Memref sig .tc .vmem S1x1 .f32) (harg29 : arg29.IsWhole) (hc0 : cond0_0 i) (hc1 : ¬cond0_1 i)
    (x0 : Vec F S1024x768 .f32) (x1 : Vec F S128x768 .f32) (x2 : Vec F S128 .f32) (x3 : Vec F S128x768 .f32) (x4 : Vec F S128 .f32) (x5 : Vec F S1024x128 .f32) (x6 : Vec F S1024x128 .f32) (x7 : Vec F S128x256 .f32) (x8 : Vec F S128 .f32) (x9 : Vec F S256x128 .f32) (x10 : Vec F S256 .f32) (x11 : Vec F S1024x256 .f32) (x12 : Vec F S256x512 .f32) (x13 : Vec F S256 .f32) (x14 : Vec F S256x256 .f32) (x15 : Vec F S256 .f32) (x16 : Vec F S1024x256 .f32) (x17 : Vec F S768x768 .f32) (x18 : Vec F S768 .f32) (x19 : Vec F S1x1024 .f32) (x20 : Vec F S1x1024 .f32) (x21 : Vec F S1x1024 .f32) (x22 : Vec F S1x1024 .f32) (y : S1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 x22).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 x22).2.2.2.2.1 S1024.size (by sl_kernel_rfl) y

/-- What case A leaves in output 27's staging buffer: its pieces read back over junk. -/
def out0_A_27 (c : Dev nD) (i : grid0.Coords) (arg1 : Memref sig .tc .vmem S1024x768 .f32) (harg1 : arg1.IsWhole) (arg2 : Memref sig .tc .vmem S128x768 .f32) (harg2 : arg2.IsWhole) (arg3 : Memref sig .tc .vmem S128 .f32) (harg3 : arg3.IsWhole) (arg4 : Memref sig .tc .vmem S128x768 .f32) (harg4 : arg4.IsWhole) (arg5 : Memref sig .tc .vmem S128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S128x256 .f32) (harg8 : arg8.IsWhole) (arg9 : Memref sig .tc .vmem S128 .f32) (harg9 : arg9.IsWhole) (arg10 : Memref sig .tc .vmem S256x128 .f32) (harg10 : arg10.IsWhole) (arg11 : Memref sig .tc .vmem S256 .f32) (harg11 : arg11.IsWhole) (arg12 : Memref sig .tc .vmem S1024x256 .f32) (harg12 : arg12.IsWhole) (arg13 : Memref sig .tc .vmem S256x512 .f32) (harg13 : arg13.IsWhole) (arg14 : Memref sig .tc .vmem S256 .f32) (harg14 : arg14.IsWhole) (arg15 : Memref sig .tc .vmem S256x256 .f32) (harg15 : arg15.IsWhole) (arg16 : Memref sig .tc .vmem S256 .f32) (harg16 : arg16.IsWhole) (arg17 : Memref sig .tc .vmem S1024x256 .f32) (harg17 : arg17.IsWhole) (arg18 : Memref sig .tc .vmem S768x768 .f32) (harg18 : arg18.IsWhole) (arg19 : Memref sig .tc .vmem S768 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S1x1024 .f32) (harg22 : arg22.IsWhole) (arg23 : Memref sig .tc .vmem S1x1024 .f32) (harg23 : arg23.IsWhole) (arg24 : Memref sig .tc .vmem S1024x768 .f32) (harg24 : arg24.IsWhole) (arg25 : Memref sig .tc .vmem S1024 .i32) (harg25 : arg25.IsWhole) (arg26 : Memref sig .tc .vmem S1024 .i32) (harg26 : arg26.IsWhole) (arg27 : Memref sig .tc .vmem S1024 .i32) (harg27 : arg27.IsWhole) (arg28 : Memref sig .tc .vmem S1024 .i32) (harg28 : arg28.IsWhole) (arg29 : Memref sig .tc .vmem S1x1 .f32) (harg29 : arg29.IsWhole) (hc0 : cond0_0 i) (hc1 : ¬cond0_1 i)
    (x0 : Vec F S1024x768 .f32) (x1 : Vec F S128x768 .f32) (x2 : Vec F S128 .f32) (x3 : Vec F S128x768 .f32) (x4 : Vec F S128 .f32) (x5 : Vec F S1024x128 .f32) (x6 : Vec F S1024x128 .f32) (x7 : Vec F S128x256 .f32) (x8 : Vec F S128 .f32) (x9 : Vec F S256x128 .f32) (x10 : Vec F S256 .f32) (x11 : Vec F S1024x256 .f32) (x12 : Vec F S256x512 .f32) (x13 : Vec F S256 .f32) (x14 : Vec F S256x256 .f32) (x15 : Vec F S256 .f32) (x16 : Vec F S1024x256 .f32) (x17 : Vec F S768x768 .f32) (x18 : Vec F S768 .f32) (x19 : Vec F S1x1024 .f32) (x20 : Vec F S1x1024 .f32) (x21 : Vec F S1x1024 .f32) (x22 : Vec F S1x1024 .f32) : Vec F S1024 .i32 :=
  VO0_27.read (Elt F) (VO0_27.writes (Elt F) VO0_27.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 x22).2.2.2.2.1)

/-- Case A's pieces for output 28 tile its block (1 store of `S1x1`, checked by the kernel's evaluation: Lib/Ring.lean `Piece.tiledL`, linear in the pieces, through a loop's `@[irreducible]` trip theorem too), so they cover it. -/
theorem cover0_A_28 (c : Dev nD) (i : grid0.Coords) (arg1 : Memref sig .tc .vmem S1024x768 .f32) (harg1 : arg1.IsWhole) (arg2 : Memref sig .tc .vmem S128x768 .f32) (harg2 : arg2.IsWhole) (arg3 : Memref sig .tc .vmem S128 .f32) (harg3 : arg3.IsWhole) (arg4 : Memref sig .tc .vmem S128x768 .f32) (harg4 : arg4.IsWhole) (arg5 : Memref sig .tc .vmem S128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S128x256 .f32) (harg8 : arg8.IsWhole) (arg9 : Memref sig .tc .vmem S128 .f32) (harg9 : arg9.IsWhole) (arg10 : Memref sig .tc .vmem S256x128 .f32) (harg10 : arg10.IsWhole) (arg11 : Memref sig .tc .vmem S256 .f32) (harg11 : arg11.IsWhole) (arg12 : Memref sig .tc .vmem S1024x256 .f32) (harg12 : arg12.IsWhole) (arg13 : Memref sig .tc .vmem S256x512 .f32) (harg13 : arg13.IsWhole) (arg14 : Memref sig .tc .vmem S256 .f32) (harg14 : arg14.IsWhole) (arg15 : Memref sig .tc .vmem S256x256 .f32) (harg15 : arg15.IsWhole) (arg16 : Memref sig .tc .vmem S256 .f32) (harg16 : arg16.IsWhole) (arg17 : Memref sig .tc .vmem S1024x256 .f32) (harg17 : arg17.IsWhole) (arg18 : Memref sig .tc .vmem S768x768 .f32) (harg18 : arg18.IsWhole) (arg19 : Memref sig .tc .vmem S768 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S1x1024 .f32) (harg22 : arg22.IsWhole) (arg23 : Memref sig .tc .vmem S1x1024 .f32) (harg23 : arg23.IsWhole) (arg24 : Memref sig .tc .vmem S1024x768 .f32) (harg24 : arg24.IsWhole) (arg25 : Memref sig .tc .vmem S1024 .i32) (harg25 : arg25.IsWhole) (arg26 : Memref sig .tc .vmem S1024 .i32) (harg26 : arg26.IsWhole) (arg27 : Memref sig .tc .vmem S1024 .i32) (harg27 : arg27.IsWhole) (arg28 : Memref sig .tc .vmem S1024 .i32) (harg28 : arg28.IsWhole) (arg29 : Memref sig .tc .vmem S1x1 .f32) (harg29 : arg29.IsWhole) (hc0 : cond0_0 i) (hc1 : ¬cond0_1 i)
    (x0 : Vec F S1024x768 .f32) (x1 : Vec F S128x768 .f32) (x2 : Vec F S128 .f32) (x3 : Vec F S128x768 .f32) (x4 : Vec F S128 .f32) (x5 : Vec F S1024x128 .f32) (x6 : Vec F S1024x128 .f32) (x7 : Vec F S128x256 .f32) (x8 : Vec F S128 .f32) (x9 : Vec F S256x128 .f32) (x10 : Vec F S256 .f32) (x11 : Vec F S1024x256 .f32) (x12 : Vec F S256x512 .f32) (x13 : Vec F S256 .f32) (x14 : Vec F S256x256 .f32) (x15 : Vec F S256 .f32) (x16 : Vec F S1024x256 .f32) (x17 : Vec F S768x768 .f32) (x18 : Vec F S768 .f32) (x19 : Vec F S1x1024 .f32) (x20 : Vec F S1x1024 .f32) (x21 : Vec F S1x1024 .f32) (x22 : Vec F S1x1024 .f32) (y : S1x1.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 x22).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 x22).2.2.2.2.2.1 S1x1.size (by sl_kernel_rfl) y

/-- What case A leaves in output 28's staging buffer: its pieces read back over junk. -/
def out0_A_28 (c : Dev nD) (i : grid0.Coords) (arg1 : Memref sig .tc .vmem S1024x768 .f32) (harg1 : arg1.IsWhole) (arg2 : Memref sig .tc .vmem S128x768 .f32) (harg2 : arg2.IsWhole) (arg3 : Memref sig .tc .vmem S128 .f32) (harg3 : arg3.IsWhole) (arg4 : Memref sig .tc .vmem S128x768 .f32) (harg4 : arg4.IsWhole) (arg5 : Memref sig .tc .vmem S128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S128x256 .f32) (harg8 : arg8.IsWhole) (arg9 : Memref sig .tc .vmem S128 .f32) (harg9 : arg9.IsWhole) (arg10 : Memref sig .tc .vmem S256x128 .f32) (harg10 : arg10.IsWhole) (arg11 : Memref sig .tc .vmem S256 .f32) (harg11 : arg11.IsWhole) (arg12 : Memref sig .tc .vmem S1024x256 .f32) (harg12 : arg12.IsWhole) (arg13 : Memref sig .tc .vmem S256x512 .f32) (harg13 : arg13.IsWhole) (arg14 : Memref sig .tc .vmem S256 .f32) (harg14 : arg14.IsWhole) (arg15 : Memref sig .tc .vmem S256x256 .f32) (harg15 : arg15.IsWhole) (arg16 : Memref sig .tc .vmem S256 .f32) (harg16 : arg16.IsWhole) (arg17 : Memref sig .tc .vmem S1024x256 .f32) (harg17 : arg17.IsWhole) (arg18 : Memref sig .tc .vmem S768x768 .f32) (harg18 : arg18.IsWhole) (arg19 : Memref sig .tc .vmem S768 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S1x1024 .f32) (harg22 : arg22.IsWhole) (arg23 : Memref sig .tc .vmem S1x1024 .f32) (harg23 : arg23.IsWhole) (arg24 : Memref sig .tc .vmem S1024x768 .f32) (harg24 : arg24.IsWhole) (arg25 : Memref sig .tc .vmem S1024 .i32) (harg25 : arg25.IsWhole) (arg26 : Memref sig .tc .vmem S1024 .i32) (harg26 : arg26.IsWhole) (arg27 : Memref sig .tc .vmem S1024 .i32) (harg27 : arg27.IsWhole) (arg28 : Memref sig .tc .vmem S1024 .i32) (harg28 : arg28.IsWhole) (arg29 : Memref sig .tc .vmem S1x1 .f32) (harg29 : arg29.IsWhole) (hc0 : cond0_0 i) (hc1 : ¬cond0_1 i)
    (x0 : Vec F S1024x768 .f32) (x1 : Vec F S128x768 .f32) (x2 : Vec F S128 .f32) (x3 : Vec F S128x768 .f32) (x4 : Vec F S128 .f32) (x5 : Vec F S1024x128 .f32) (x6 : Vec F S1024x128 .f32) (x7 : Vec F S128x256 .f32) (x8 : Vec F S128 .f32) (x9 : Vec F S256x128 .f32) (x10 : Vec F S256 .f32) (x11 : Vec F S1024x256 .f32) (x12 : Vec F S256x512 .f32) (x13 : Vec F S256 .f32) (x14 : Vec F S256x256 .f32) (x15 : Vec F S256 .f32) (x16 : Vec F S1024x256 .f32) (x17 : Vec F S768x768 .f32) (x18 : Vec F S768 .f32) (x19 : Vec F S1x1024 .f32) (x20 : Vec F S1x1024 .f32) (x21 : Vec F S1x1024 .f32) (x22 : Vec F S1x1024 .f32) : Vec F S1x1 .f32 :=
  VO0_28.read (Elt F) (VO0_28.writes (Elt F) VO0_28.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 x22).2.2.2.2.2.1)

end Cert.KernelIdeal.Gen

end
-- ==== Proof.Launch.KernelIdealOutB.lean ====
/- What one grid point of the kernel leaves in its results, case B (every later point): the pieces its run stores cover each result's block, and the block
   read back from them.  The text follows the generated module. -/
module

public import proofs.«01_k».proof.Proof.Launch.KernelIdealRunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Case B's pieces for output 23 tile its block (1 store of `S1024x768`, checked by the kernel's evaluation: Lib/Ring.lean `Piece.tiledL`, linear in the pieces, through a loop's `@[irreducible]` trip theorem too), so they cover it. -/
theorem cover0_B_23 (c : Dev nD) (i : grid0.Coords) (arg1 : Memref sig .tc .vmem S1024x768 .f32) (harg1 : arg1.IsWhole) (arg2 : Memref sig .tc .vmem S128x768 .f32) (harg2 : arg2.IsWhole) (arg3 : Memref sig .tc .vmem S128 .f32) (harg3 : arg3.IsWhole) (arg4 : Memref sig .tc .vmem S128x768 .f32) (harg4 : arg4.IsWhole) (arg5 : Memref sig .tc .vmem S128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S128x256 .f32) (harg8 : arg8.IsWhole) (arg9 : Memref sig .tc .vmem S128 .f32) (harg9 : arg9.IsWhole) (arg10 : Memref sig .tc .vmem S256x128 .f32) (harg10 : arg10.IsWhole) (arg11 : Memref sig .tc .vmem S256 .f32) (harg11 : arg11.IsWhole) (arg12 : Memref sig .tc .vmem S1024x256 .f32) (harg12 : arg12.IsWhole) (arg13 : Memref sig .tc .vmem S256x512 .f32) (harg13 : arg13.IsWhole) (arg14 : Memref sig .tc .vmem S256 .f32) (harg14 : arg14.IsWhole) (arg15 : Memref sig .tc .vmem S256x256 .f32) (harg15 : arg15.IsWhole) (arg16 : Memref sig .tc .vmem S256 .f32) (harg16 : arg16.IsWhole) (arg17 : Memref sig .tc .vmem S1024x256 .f32) (harg17 : arg17.IsWhole) (arg18 : Memref sig .tc .vmem S768x768 .f32) (harg18 : arg18.IsWhole) (arg19 : Memref sig .tc .vmem S768 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S1x1024 .f32) (harg22 : arg22.IsWhole) (arg23 : Memref sig .tc .vmem S1x1024 .f32) (harg23 : arg23.IsWhole) (arg24 : Memref sig .tc .vmem S1024x768 .f32) (harg24 : arg24.IsWhole) (arg25 : Memref sig .tc .vmem S1024 .i32) (harg25 : arg25.IsWhole) (arg26 : Memref sig .tc .vmem S1024 .i32) (harg26 : arg26.IsWhole) (arg27 : Memref sig .tc .vmem S1024 .i32) (harg27 : arg27.IsWhole) (arg28 : Memref sig .tc .vmem S1024 .i32) (harg28 : arg28.IsWhole) (arg29 : Memref sig .tc .vmem S1x1 .f32) (harg29 : arg29.IsWhole) (hc0 : ¬cond0_0 i) (hc1 : cond0_1 i)
    (x0 : Vec F S1024x768 .f32) (x1 : Vec F S128x768 .f32) (x2 : Vec F S128 .f32) (x3 : Vec F S128x768 .f32) (x4 : Vec F S128 .f32) (x5 : Vec F S1024x128 .f32) (x6 : Vec F S1024x128 .f32) (x7 : Vec F S128x256 .f32) (x8 : Vec F S128 .f32) (x9 : Vec F S256x128 .f32) (x10 : Vec F S256 .f32) (x11 : Vec F S1024x256 .f32) (x12 : Vec F S256x512 .f32) (x13 : Vec F S256 .f32) (x14 : Vec F S256x256 .f32) (x15 : Vec F S256 .f32) (x16 : Vec F S1024x256 .f32) (x17 : Vec F S768x768 .f32) (x18 : Vec F S768 .f32) (x19 : Vec F S1x1024 .f32) (x20 : Vec F S1x1024 .f32) (x21 : Vec F S1x1024 .f32) (x22 : Vec F S1x1024 .f32) (xo28 : Vec F S1x1 .f32) (y : S1024x768.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 x22 xo28).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 x22 xo28).1 S1024x768.size (by sl_kernel_rfl) y

/-- What case B leaves in output 23's staging buffer: its pieces read back over junk. -/
def out0_B_23 (c : Dev nD) (i : grid0.Coords) (arg1 : Memref sig .tc .vmem S1024x768 .f32) (harg1 : arg1.IsWhole) (arg2 : Memref sig .tc .vmem S128x768 .f32) (harg2 : arg2.IsWhole) (arg3 : Memref sig .tc .vmem S128 .f32) (harg3 : arg3.IsWhole) (arg4 : Memref sig .tc .vmem S128x768 .f32) (harg4 : arg4.IsWhole) (arg5 : Memref sig .tc .vmem S128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S128x256 .f32) (harg8 : arg8.IsWhole) (arg9 : Memref sig .tc .vmem S128 .f32) (harg9 : arg9.IsWhole) (arg10 : Memref sig .tc .vmem S256x128 .f32) (harg10 : arg10.IsWhole) (arg11 : Memref sig .tc .vmem S256 .f32) (harg11 : arg11.IsWhole) (arg12 : Memref sig .tc .vmem S1024x256 .f32) (harg12 : arg12.IsWhole) (arg13 : Memref sig .tc .vmem S256x512 .f32) (harg13 : arg13.IsWhole) (arg14 : Memref sig .tc .vmem S256 .f32) (harg14 : arg14.IsWhole) (arg15 : Memref sig .tc .vmem S256x256 .f32) (harg15 : arg15.IsWhole) (arg16 : Memref sig .tc .vmem S256 .f32) (harg16 : arg16.IsWhole) (arg17 : Memref sig .tc .vmem S1024x256 .f32) (harg17 : arg17.IsWhole) (arg18 : Memref sig .tc .vmem S768x768 .f32) (harg18 : arg18.IsWhole) (arg19 : Memref sig .tc .vmem S768 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S1x1024 .f32) (harg22 : arg22.IsWhole) (arg23 : Memref sig .tc .vmem S1x1024 .f32) (harg23 : arg23.IsWhole) (arg24 : Memref sig .tc .vmem S1024x768 .f32) (harg24 : arg24.IsWhole) (arg25 : Memref sig .tc .vmem S1024 .i32) (harg25 : arg25.IsWhole) (arg26 : Memref sig .tc .vmem S1024 .i32) (harg26 : arg26.IsWhole) (arg27 : Memref sig .tc .vmem S1024 .i32) (harg27 : arg27.IsWhole) (arg28 : Memref sig .tc .vmem S1024 .i32) (harg28 : arg28.IsWhole) (arg29 : Memref sig .tc .vmem S1x1 .f32) (harg29 : arg29.IsWhole) (hc0 : ¬cond0_0 i) (hc1 : cond0_1 i)
    (x0 : Vec F S1024x768 .f32) (x1 : Vec F S128x768 .f32) (x2 : Vec F S128 .f32) (x3 : Vec F S128x768 .f32) (x4 : Vec F S128 .f32) (x5 : Vec F S1024x128 .f32) (x6 : Vec F S1024x128 .f32) (x7 : Vec F S128x256 .f32) (x8 : Vec F S128 .f32) (x9 : Vec F S256x128 .f32) (x10 : Vec F S256 .f32) (x11 : Vec F S1024x256 .f32) (x12 : Vec F S256x512 .f32) (x13 : Vec F S256 .f32) (x14 : Vec F S256x256 .f32) (x15 : Vec F S256 .f32) (x16 : Vec F S1024x256 .f32) (x17 : Vec F S768x768 .f32) (x18 : Vec F S768 .f32) (x19 : Vec F S1x1024 .f32) (x20 : Vec F S1x1024 .f32) (x21 : Vec F S1x1024 .f32) (x22 : Vec F S1x1024 .f32) (xo28 : Vec F S1x1 .f32) : Vec F S1024x768 .f32 :=
  VO0_23.read (Elt F) (VO0_23.writes (Elt F) VO0_23.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 x22 xo28).1)

/-- Case B's pieces for output 24 tile its block (1 store of `S1024`, checked by the kernel's evaluation: Lib/Ring.lean `Piece.tiledL`, linear in the pieces, through a loop's `@[irreducible]` trip theorem too), so they cover it. -/
theorem cover0_B_24 (c : Dev nD) (i : grid0.Coords) (arg1 : Memref sig .tc .vmem S1024x768 .f32) (harg1 : arg1.IsWhole) (arg2 : Memref sig .tc .vmem S128x768 .f32) (harg2 : arg2.IsWhole) (arg3 : Memref sig .tc .vmem S128 .f32) (harg3 : arg3.IsWhole) (arg4 : Memref sig .tc .vmem S128x768 .f32) (harg4 : arg4.IsWhole) (arg5 : Memref sig .tc .vmem S128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S128x256 .f32) (harg8 : arg8.IsWhole) (arg9 : Memref sig .tc .vmem S128 .f32) (harg9 : arg9.IsWhole) (arg10 : Memref sig .tc .vmem S256x128 .f32) (harg10 : arg10.IsWhole) (arg11 : Memref sig .tc .vmem S256 .f32) (harg11 : arg11.IsWhole) (arg12 : Memref sig .tc .vmem S1024x256 .f32) (harg12 : arg12.IsWhole) (arg13 : Memref sig .tc .vmem S256x512 .f32) (harg13 : arg13.IsWhole) (arg14 : Memref sig .tc .vmem S256 .f32) (harg14 : arg14.IsWhole) (arg15 : Memref sig .tc .vmem S256x256 .f32) (harg15 : arg15.IsWhole) (arg16 : Memref sig .tc .vmem S256 .f32) (harg16 : arg16.IsWhole) (arg17 : Memref sig .tc .vmem S1024x256 .f32) (harg17 : arg17.IsWhole) (arg18 : Memref sig .tc .vmem S768x768 .f32) (harg18 : arg18.IsWhole) (arg19 : Memref sig .tc .vmem S768 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S1x1024 .f32) (harg22 : arg22.IsWhole) (arg23 : Memref sig .tc .vmem S1x1024 .f32) (harg23 : arg23.IsWhole) (arg24 : Memref sig .tc .vmem S1024x768 .f32) (harg24 : arg24.IsWhole) (arg25 : Memref sig .tc .vmem S1024 .i32) (harg25 : arg25.IsWhole) (arg26 : Memref sig .tc .vmem S1024 .i32) (harg26 : arg26.IsWhole) (arg27 : Memref sig .tc .vmem S1024 .i32) (harg27 : arg27.IsWhole) (arg28 : Memref sig .tc .vmem S1024 .i32) (harg28 : arg28.IsWhole) (arg29 : Memref sig .tc .vmem S1x1 .f32) (harg29 : arg29.IsWhole) (hc0 : ¬cond0_0 i) (hc1 : cond0_1 i)
    (x0 : Vec F S1024x768 .f32) (x1 : Vec F S128x768 .f32) (x2 : Vec F S128 .f32) (x3 : Vec F S128x768 .f32) (x4 : Vec F S128 .f32) (x5 : Vec F S1024x128 .f32) (x6 : Vec F S1024x128 .f32) (x7 : Vec F S128x256 .f32) (x8 : Vec F S128 .f32) (x9 : Vec F S256x128 .f32) (x10 : Vec F S256 .f32) (x11 : Vec F S1024x256 .f32) (x12 : Vec F S256x512 .f32) (x13 : Vec F S256 .f32) (x14 : Vec F S256x256 .f32) (x15 : Vec F S256 .f32) (x16 : Vec F S1024x256 .f32) (x17 : Vec F S768x768 .f32) (x18 : Vec F S768 .f32) (x19 : Vec F S1x1024 .f32) (x20 : Vec F S1x1024 .f32) (x21 : Vec F S1x1024 .f32) (x22 : Vec F S1x1024 .f32) (xo28 : Vec F S1x1 .f32) (y : S1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 x22 xo28).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 x22 xo28).2.1 S1024.size (by sl_kernel_rfl) y

/-- What case B leaves in output 24's staging buffer: its pieces read back over junk. -/
def out0_B_24 (c : Dev nD) (i : grid0.Coords) (arg1 : Memref sig .tc .vmem S1024x768 .f32) (harg1 : arg1.IsWhole) (arg2 : Memref sig .tc .vmem S128x768 .f32) (harg2 : arg2.IsWhole) (arg3 : Memref sig .tc .vmem S128 .f32) (harg3 : arg3.IsWhole) (arg4 : Memref sig .tc .vmem S128x768 .f32) (harg4 : arg4.IsWhole) (arg5 : Memref sig .tc .vmem S128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S128x256 .f32) (harg8 : arg8.IsWhole) (arg9 : Memref sig .tc .vmem S128 .f32) (harg9 : arg9.IsWhole) (arg10 : Memref sig .tc .vmem S256x128 .f32) (harg10 : arg10.IsWhole) (arg11 : Memref sig .tc .vmem S256 .f32) (harg11 : arg11.IsWhole) (arg12 : Memref sig .tc .vmem S1024x256 .f32) (harg12 : arg12.IsWhole) (arg13 : Memref sig .tc .vmem S256x512 .f32) (harg13 : arg13.IsWhole) (arg14 : Memref sig .tc .vmem S256 .f32) (harg14 : arg14.IsWhole) (arg15 : Memref sig .tc .vmem S256x256 .f32) (harg15 : arg15.IsWhole) (arg16 : Memref sig .tc .vmem S256 .f32) (harg16 : arg16.IsWhole) (arg17 : Memref sig .tc .vmem S1024x256 .f32) (harg17 : arg17.IsWhole) (arg18 : Memref sig .tc .vmem S768x768 .f32) (harg18 : arg18.IsWhole) (arg19 : Memref sig .tc .vmem S768 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S1x1024 .f32) (harg22 : arg22.IsWhole) (arg23 : Memref sig .tc .vmem S1x1024 .f32) (harg23 : arg23.IsWhole) (arg24 : Memref sig .tc .vmem S1024x768 .f32) (harg24 : arg24.IsWhole) (arg25 : Memref sig .tc .vmem S1024 .i32) (harg25 : arg25.IsWhole) (arg26 : Memref sig .tc .vmem S1024 .i32) (harg26 : arg26.IsWhole) (arg27 : Memref sig .tc .vmem S1024 .i32) (harg27 : arg27.IsWhole) (arg28 : Memref sig .tc .vmem S1024 .i32) (harg28 : arg28.IsWhole) (arg29 : Memref sig .tc .vmem S1x1 .f32) (harg29 : arg29.IsWhole) (hc0 : ¬cond0_0 i) (hc1 : cond0_1 i)
    (x0 : Vec F S1024x768 .f32) (x1 : Vec F S128x768 .f32) (x2 : Vec F S128 .f32) (x3 : Vec F S128x768 .f32) (x4 : Vec F S128 .f32) (x5 : Vec F S1024x128 .f32) (x6 : Vec F S1024x128 .f32) (x7 : Vec F S128x256 .f32) (x8 : Vec F S128 .f32) (x9 : Vec F S256x128 .f32) (x10 : Vec F S256 .f32) (x11 : Vec F S1024x256 .f32) (x12 : Vec F S256x512 .f32) (x13 : Vec F S256 .f32) (x14 : Vec F S256x256 .f32) (x15 : Vec F S256 .f32) (x16 : Vec F S1024x256 .f32) (x17 : Vec F S768x768 .f32) (x18 : Vec F S768 .f32) (x19 : Vec F S1x1024 .f32) (x20 : Vec F S1x1024 .f32) (x21 : Vec F S1x1024 .f32) (x22 : Vec F S1x1024 .f32) (xo28 : Vec F S1x1 .f32) : Vec F S1024 .i32 :=
  VO0_24.read (Elt F) (VO0_24.writes (Elt F) VO0_24.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 x22 xo28).2.1)

/-- Case B's pieces for output 25 tile its block (1 store of `S1024`, checked by the kernel's evaluation: Lib/Ring.lean `Piece.tiledL`, linear in the pieces, through a loop's `@[irreducible]` trip theorem too), so they cover it. -/
theorem cover0_B_25 (c : Dev nD) (i : grid0.Coords) (arg1 : Memref sig .tc .vmem S1024x768 .f32) (harg1 : arg1.IsWhole) (arg2 : Memref sig .tc .vmem S128x768 .f32) (harg2 : arg2.IsWhole) (arg3 : Memref sig .tc .vmem S128 .f32) (harg3 : arg3.IsWhole) (arg4 : Memref sig .tc .vmem S128x768 .f32) (harg4 : arg4.IsWhole) (arg5 : Memref sig .tc .vmem S128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S128x256 .f32) (harg8 : arg8.IsWhole) (arg9 : Memref sig .tc .vmem S128 .f32) (harg9 : arg9.IsWhole) (arg10 : Memref sig .tc .vmem S256x128 .f32) (harg10 : arg10.IsWhole) (arg11 : Memref sig .tc .vmem S256 .f32) (harg11 : arg11.IsWhole) (arg12 : Memref sig .tc .vmem S1024x256 .f32) (harg12 : arg12.IsWhole) (arg13 : Memref sig .tc .vmem S256x512 .f32) (harg13 : arg13.IsWhole) (arg14 : Memref sig .tc .vmem S256 .f32) (harg14 : arg14.IsWhole) (arg15 : Memref sig .tc .vmem S256x256 .f32) (harg15 : arg15.IsWhole) (arg16 : Memref sig .tc .vmem S256 .f32) (harg16 : arg16.IsWhole) (arg17 : Memref sig .tc .vmem S1024x256 .f32) (harg17 : arg17.IsWhole) (arg18 : Memref sig .tc .vmem S768x768 .f32) (harg18 : arg18.IsWhole) (arg19 : Memref sig .tc .vmem S768 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S1x1024 .f32) (harg22 : arg22.IsWhole) (arg23 : Memref sig .tc .vmem S1x1024 .f32) (harg23 : arg23.IsWhole) (arg24 : Memref sig .tc .vmem S1024x768 .f32) (harg24 : arg24.IsWhole) (arg25 : Memref sig .tc .vmem S1024 .i32) (harg25 : arg25.IsWhole) (arg26 : Memref sig .tc .vmem S1024 .i32) (harg26 : arg26.IsWhole) (arg27 : Memref sig .tc .vmem S1024 .i32) (harg27 : arg27.IsWhole) (arg28 : Memref sig .tc .vmem S1024 .i32) (harg28 : arg28.IsWhole) (arg29 : Memref sig .tc .vmem S1x1 .f32) (harg29 : arg29.IsWhole) (hc0 : ¬cond0_0 i) (hc1 : cond0_1 i)
    (x0 : Vec F S1024x768 .f32) (x1 : Vec F S128x768 .f32) (x2 : Vec F S128 .f32) (x3 : Vec F S128x768 .f32) (x4 : Vec F S128 .f32) (x5 : Vec F S1024x128 .f32) (x6 : Vec F S1024x128 .f32) (x7 : Vec F S128x256 .f32) (x8 : Vec F S128 .f32) (x9 : Vec F S256x128 .f32) (x10 : Vec F S256 .f32) (x11 : Vec F S1024x256 .f32) (x12 : Vec F S256x512 .f32) (x13 : Vec F S256 .f32) (x14 : Vec F S256x256 .f32) (x15 : Vec F S256 .f32) (x16 : Vec F S1024x256 .f32) (x17 : Vec F S768x768 .f32) (x18 : Vec F S768 .f32) (x19 : Vec F S1x1024 .f32) (x20 : Vec F S1x1024 .f32) (x21 : Vec F S1x1024 .f32) (x22 : Vec F S1x1024 .f32) (xo28 : Vec F S1x1 .f32) (y : S1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 x22 xo28).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 x22 xo28).2.2.1 S1024.size (by sl_kernel_rfl) y

/-- What case B leaves in output 25's staging buffer: its pieces read back over junk. -/
def out0_B_25 (c : Dev nD) (i : grid0.Coords) (arg1 : Memref sig .tc .vmem S1024x768 .f32) (harg1 : arg1.IsWhole) (arg2 : Memref sig .tc .vmem S128x768 .f32) (harg2 : arg2.IsWhole) (arg3 : Memref sig .tc .vmem S128 .f32) (harg3 : arg3.IsWhole) (arg4 : Memref sig .tc .vmem S128x768 .f32) (harg4 : arg4.IsWhole) (arg5 : Memref sig .tc .vmem S128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S128x256 .f32) (harg8 : arg8.IsWhole) (arg9 : Memref sig .tc .vmem S128 .f32) (harg9 : arg9.IsWhole) (arg10 : Memref sig .tc .vmem S256x128 .f32) (harg10 : arg10.IsWhole) (arg11 : Memref sig .tc .vmem S256 .f32) (harg11 : arg11.IsWhole) (arg12 : Memref sig .tc .vmem S1024x256 .f32) (harg12 : arg12.IsWhole) (arg13 : Memref sig .tc .vmem S256x512 .f32) (harg13 : arg13.IsWhole) (arg14 : Memref sig .tc .vmem S256 .f32) (harg14 : arg14.IsWhole) (arg15 : Memref sig .tc .vmem S256x256 .f32) (harg15 : arg15.IsWhole) (arg16 : Memref sig .tc .vmem S256 .f32) (harg16 : arg16.IsWhole) (arg17 : Memref sig .tc .vmem S1024x256 .f32) (harg17 : arg17.IsWhole) (arg18 : Memref sig .tc .vmem S768x768 .f32) (harg18 : arg18.IsWhole) (arg19 : Memref sig .tc .vmem S768 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S1x1024 .f32) (harg22 : arg22.IsWhole) (arg23 : Memref sig .tc .vmem S1x1024 .f32) (harg23 : arg23.IsWhole) (arg24 : Memref sig .tc .vmem S1024x768 .f32) (harg24 : arg24.IsWhole) (arg25 : Memref sig .tc .vmem S1024 .i32) (harg25 : arg25.IsWhole) (arg26 : Memref sig .tc .vmem S1024 .i32) (harg26 : arg26.IsWhole) (arg27 : Memref sig .tc .vmem S1024 .i32) (harg27 : arg27.IsWhole) (arg28 : Memref sig .tc .vmem S1024 .i32) (harg28 : arg28.IsWhole) (arg29 : Memref sig .tc .vmem S1x1 .f32) (harg29 : arg29.IsWhole) (hc0 : ¬cond0_0 i) (hc1 : cond0_1 i)
    (x0 : Vec F S1024x768 .f32) (x1 : Vec F S128x768 .f32) (x2 : Vec F S128 .f32) (x3 : Vec F S128x768 .f32) (x4 : Vec F S128 .f32) (x5 : Vec F S1024x128 .f32) (x6 : Vec F S1024x128 .f32) (x7 : Vec F S128x256 .f32) (x8 : Vec F S128 .f32) (x9 : Vec F S256x128 .f32) (x10 : Vec F S256 .f32) (x11 : Vec F S1024x256 .f32) (x12 : Vec F S256x512 .f32) (x13 : Vec F S256 .f32) (x14 : Vec F S256x256 .f32) (x15 : Vec F S256 .f32) (x16 : Vec F S1024x256 .f32) (x17 : Vec F S768x768 .f32) (x18 : Vec F S768 .f32) (x19 : Vec F S1x1024 .f32) (x20 : Vec F S1x1024 .f32) (x21 : Vec F S1x1024 .f32) (x22 : Vec F S1x1024 .f32) (xo28 : Vec F S1x1 .f32) : Vec F S1024 .i32 :=
  VO0_25.read (Elt F) (VO0_25.writes (Elt F) VO0_25.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 x22 xo28).2.2.1)

/-- Case B's pieces for output 26 tile its block (1 store of `S1024`, checked by the kernel's evaluation: Lib/Ring.lean `Piece.tiledL`, linear in the pieces, through a loop's `@[irreducible]` trip theorem too), so they cover it. -/
theorem cover0_B_26 (c : Dev nD) (i : grid0.Coords) (arg1 : Memref sig .tc .vmem S1024x768 .f32) (harg1 : arg1.IsWhole) (arg2 : Memref sig .tc .vmem S128x768 .f32) (harg2 : arg2.IsWhole) (arg3 : Memref sig .tc .vmem S128 .f32) (harg3 : arg3.IsWhole) (arg4 : Memref sig .tc .vmem S128x768 .f32) (harg4 : arg4.IsWhole) (arg5 : Memref sig .tc .vmem S128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S128x256 .f32) (harg8 : arg8.IsWhole) (arg9 : Memref sig .tc .vmem S128 .f32) (harg9 : arg9.IsWhole) (arg10 : Memref sig .tc .vmem S256x128 .f32) (harg10 : arg10.IsWhole) (arg11 : Memref sig .tc .vmem S256 .f32) (harg11 : arg11.IsWhole) (arg12 : Memref sig .tc .vmem S1024x256 .f32) (harg12 : arg12.IsWhole) (arg13 : Memref sig .tc .vmem S256x512 .f32) (harg13 : arg13.IsWhole) (arg14 : Memref sig .tc .vmem S256 .f32) (harg14 : arg14.IsWhole) (arg15 : Memref sig .tc .vmem S256x256 .f32) (harg15 : arg15.IsWhole) (arg16 : Memref sig .tc .vmem S256 .f32) (harg16 : arg16.IsWhole) (arg17 : Memref sig .tc .vmem S1024x256 .f32) (harg17 : arg17.IsWhole) (arg18 : Memref sig .tc .vmem S768x768 .f32) (harg18 : arg18.IsWhole) (arg19 : Memref sig .tc .vmem S768 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S1x1024 .f32) (harg22 : arg22.IsWhole) (arg23 : Memref sig .tc .vmem S1x1024 .f32) (harg23 : arg23.IsWhole) (arg24 : Memref sig .tc .vmem S1024x768 .f32) (harg24 : arg24.IsWhole) (arg25 : Memref sig .tc .vmem S1024 .i32) (harg25 : arg25.IsWhole) (arg26 : Memref sig .tc .vmem S1024 .i32) (harg26 : arg26.IsWhole) (arg27 : Memref sig .tc .vmem S1024 .i32) (harg27 : arg27.IsWhole) (arg28 : Memref sig .tc .vmem S1024 .i32) (harg28 : arg28.IsWhole) (arg29 : Memref sig .tc .vmem S1x1 .f32) (harg29 : arg29.IsWhole) (hc0 : ¬cond0_0 i) (hc1 : cond0_1 i)
    (x0 : Vec F S1024x768 .f32) (x1 : Vec F S128x768 .f32) (x2 : Vec F S128 .f32) (x3 : Vec F S128x768 .f32) (x4 : Vec F S128 .f32) (x5 : Vec F S1024x128 .f32) (x6 : Vec F S1024x128 .f32) (x7 : Vec F S128x256 .f32) (x8 : Vec F S128 .f32) (x9 : Vec F S256x128 .f32) (x10 : Vec F S256 .f32) (x11 : Vec F S1024x256 .f32) (x12 : Vec F S256x512 .f32) (x13 : Vec F S256 .f32) (x14 : Vec F S256x256 .f32) (x15 : Vec F S256 .f32) (x16 : Vec F S1024x256 .f32) (x17 : Vec F S768x768 .f32) (x18 : Vec F S768 .f32) (x19 : Vec F S1x1024 .f32) (x20 : Vec F S1x1024 .f32) (x21 : Vec F S1x1024 .f32) (x22 : Vec F S1x1024 .f32) (xo28 : Vec F S1x1 .f32) (y : S1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 x22 xo28).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 x22 xo28).2.2.2.1 S1024.size (by sl_kernel_rfl) y

/-- What case B leaves in output 26's staging buffer: its pieces read back over junk. -/
def out0_B_26 (c : Dev nD) (i : grid0.Coords) (arg1 : Memref sig .tc .vmem S1024x768 .f32) (harg1 : arg1.IsWhole) (arg2 : Memref sig .tc .vmem S128x768 .f32) (harg2 : arg2.IsWhole) (arg3 : Memref sig .tc .vmem S128 .f32) (harg3 : arg3.IsWhole) (arg4 : Memref sig .tc .vmem S128x768 .f32) (harg4 : arg4.IsWhole) (arg5 : Memref sig .tc .vmem S128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S128x256 .f32) (harg8 : arg8.IsWhole) (arg9 : Memref sig .tc .vmem S128 .f32) (harg9 : arg9.IsWhole) (arg10 : Memref sig .tc .vmem S256x128 .f32) (harg10 : arg10.IsWhole) (arg11 : Memref sig .tc .vmem S256 .f32) (harg11 : arg11.IsWhole) (arg12 : Memref sig .tc .vmem S1024x256 .f32) (harg12 : arg12.IsWhole) (arg13 : Memref sig .tc .vmem S256x512 .f32) (harg13 : arg13.IsWhole) (arg14 : Memref sig .tc .vmem S256 .f32) (harg14 : arg14.IsWhole) (arg15 : Memref sig .tc .vmem S256x256 .f32) (harg15 : arg15.IsWhole) (arg16 : Memref sig .tc .vmem S256 .f32) (harg16 : arg16.IsWhole) (arg17 : Memref sig .tc .vmem S1024x256 .f32) (harg17 : arg17.IsWhole) (arg18 : Memref sig .tc .vmem S768x768 .f32) (harg18 : arg18.IsWhole) (arg19 : Memref sig .tc .vmem S768 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S1x1024 .f32) (harg22 : arg22.IsWhole) (arg23 : Memref sig .tc .vmem S1x1024 .f32) (harg23 : arg23.IsWhole) (arg24 : Memref sig .tc .vmem S1024x768 .f32) (harg24 : arg24.IsWhole) (arg25 : Memref sig .tc .vmem S1024 .i32) (harg25 : arg25.IsWhole) (arg26 : Memref sig .tc .vmem S1024 .i32) (harg26 : arg26.IsWhole) (arg27 : Memref sig .tc .vmem S1024 .i32) (harg27 : arg27.IsWhole) (arg28 : Memref sig .tc .vmem S1024 .i32) (harg28 : arg28.IsWhole) (arg29 : Memref sig .tc .vmem S1x1 .f32) (harg29 : arg29.IsWhole) (hc0 : ¬cond0_0 i) (hc1 : cond0_1 i)
    (x0 : Vec F S1024x768 .f32) (x1 : Vec F S128x768 .f32) (x2 : Vec F S128 .f32) (x3 : Vec F S128x768 .f32) (x4 : Vec F S128 .f32) (x5 : Vec F S1024x128 .f32) (x6 : Vec F S1024x128 .f32) (x7 : Vec F S128x256 .f32) (x8 : Vec F S128 .f32) (x9 : Vec F S256x128 .f32) (x10 : Vec F S256 .f32) (x11 : Vec F S1024x256 .f32) (x12 : Vec F S256x512 .f32) (x13 : Vec F S256 .f32) (x14 : Vec F S256x256 .f32) (x15 : Vec F S256 .f32) (x16 : Vec F S1024x256 .f32) (x17 : Vec F S768x768 .f32) (x18 : Vec F S768 .f32) (x19 : Vec F S1x1024 .f32) (x20 : Vec F S1x1024 .f32) (x21 : Vec F S1x1024 .f32) (x22 : Vec F S1x1024 .f32) (xo28 : Vec F S1x1 .f32) : Vec F S1024 .i32 :=
  VO0_26.read (Elt F) (VO0_26.writes (Elt F) VO0_26.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 x22 xo28).2.2.2.1)

/-- Case B's pieces for output 27 tile its block (1 store of `S1024`, checked by the kernel's evaluation: Lib/Ring.lean `Piece.tiledL`, linear in the pieces, through a loop's `@[irreducible]` trip theorem too), so they cover it. -/
theorem cover0_B_27 (c : Dev nD) (i : grid0.Coords) (arg1 : Memref sig .tc .vmem S1024x768 .f32) (harg1 : arg1.IsWhole) (arg2 : Memref sig .tc .vmem S128x768 .f32) (harg2 : arg2.IsWhole) (arg3 : Memref sig .tc .vmem S128 .f32) (harg3 : arg3.IsWhole) (arg4 : Memref sig .tc .vmem S128x768 .f32) (harg4 : arg4.IsWhole) (arg5 : Memref sig .tc .vmem S128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S128x256 .f32) (harg8 : arg8.IsWhole) (arg9 : Memref sig .tc .vmem S128 .f32) (harg9 : arg9.IsWhole) (arg10 : Memref sig .tc .vmem S256x128 .f32) (harg10 : arg10.IsWhole) (arg11 : Memref sig .tc .vmem S256 .f32) (harg11 : arg11.IsWhole) (arg12 : Memref sig .tc .vmem S1024x256 .f32) (harg12 : arg12.IsWhole) (arg13 : Memref sig .tc .vmem S256x512 .f32) (harg13 : arg13.IsWhole) (arg14 : Memref sig .tc .vmem S256 .f32) (harg14 : arg14.IsWhole) (arg15 : Memref sig .tc .vmem S256x256 .f32) (harg15 : arg15.IsWhole) (arg16 : Memref sig .tc .vmem S256 .f32) (harg16 : arg16.IsWhole) (arg17 : Memref sig .tc .vmem S1024x256 .f32) (harg17 : arg17.IsWhole) (arg18 : Memref sig .tc .vmem S768x768 .f32) (harg18 : arg18.IsWhole) (arg19 : Memref sig .tc .vmem S768 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S1x1024 .f32) (harg22 : arg22.IsWhole) (arg23 : Memref sig .tc .vmem S1x1024 .f32) (harg23 : arg23.IsWhole) (arg24 : Memref sig .tc .vmem S1024x768 .f32) (harg24 : arg24.IsWhole) (arg25 : Memref sig .tc .vmem S1024 .i32) (harg25 : arg25.IsWhole) (arg26 : Memref sig .tc .vmem S1024 .i32) (harg26 : arg26.IsWhole) (arg27 : Memref sig .tc .vmem S1024 .i32) (harg27 : arg27.IsWhole) (arg28 : Memref sig .tc .vmem S1024 .i32) (harg28 : arg28.IsWhole) (arg29 : Memref sig .tc .vmem S1x1 .f32) (harg29 : arg29.IsWhole) (hc0 : ¬cond0_0 i) (hc1 : cond0_1 i)
    (x0 : Vec F S1024x768 .f32) (x1 : Vec F S128x768 .f32) (x2 : Vec F S128 .f32) (x3 : Vec F S128x768 .f32) (x4 : Vec F S128 .f32) (x5 : Vec F S1024x128 .f32) (x6 : Vec F S1024x128 .f32) (x7 : Vec F S128x256 .f32) (x8 : Vec F S128 .f32) (x9 : Vec F S256x128 .f32) (x10 : Vec F S256 .f32) (x11 : Vec F S1024x256 .f32) (x12 : Vec F S256x512 .f32) (x13 : Vec F S256 .f32) (x14 : Vec F S256x256 .f32) (x15 : Vec F S256 .f32) (x16 : Vec F S1024x256 .f32) (x17 : Vec F S768x768 .f32) (x18 : Vec F S768 .f32) (x19 : Vec F S1x1024 .f32) (x20 : Vec F S1x1024 .f32) (x21 : Vec F S1x1024 .f32) (x22 : Vec F S1x1024 .f32) (xo28 : Vec F S1x1 .f32) (y : S1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 x22 xo28).2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 x22 xo28).2.2.2.2.1 S1024.size (by sl_kernel_rfl) y

/-- What case B leaves in output 27's staging buffer: its pieces read back over junk. -/
def out0_B_27 (c : Dev nD) (i : grid0.Coords) (arg1 : Memref sig .tc .vmem S1024x768 .f32) (harg1 : arg1.IsWhole) (arg2 : Memref sig .tc .vmem S128x768 .f32) (harg2 : arg2.IsWhole) (arg3 : Memref sig .tc .vmem S128 .f32) (harg3 : arg3.IsWhole) (arg4 : Memref sig .tc .vmem S128x768 .f32) (harg4 : arg4.IsWhole) (arg5 : Memref sig .tc .vmem S128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S128x256 .f32) (harg8 : arg8.IsWhole) (arg9 : Memref sig .tc .vmem S128 .f32) (harg9 : arg9.IsWhole) (arg10 : Memref sig .tc .vmem S256x128 .f32) (harg10 : arg10.IsWhole) (arg11 : Memref sig .tc .vmem S256 .f32) (harg11 : arg11.IsWhole) (arg12 : Memref sig .tc .vmem S1024x256 .f32) (harg12 : arg12.IsWhole) (arg13 : Memref sig .tc .vmem S256x512 .f32) (harg13 : arg13.IsWhole) (arg14 : Memref sig .tc .vmem S256 .f32) (harg14 : arg14.IsWhole) (arg15 : Memref sig .tc .vmem S256x256 .f32) (harg15 : arg15.IsWhole) (arg16 : Memref sig .tc .vmem S256 .f32) (harg16 : arg16.IsWhole) (arg17 : Memref sig .tc .vmem S1024x256 .f32) (harg17 : arg17.IsWhole) (arg18 : Memref sig .tc .vmem S768x768 .f32) (harg18 : arg18.IsWhole) (arg19 : Memref sig .tc .vmem S768 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S1x1024 .f32) (harg22 : arg22.IsWhole) (arg23 : Memref sig .tc .vmem S1x1024 .f32) (harg23 : arg23.IsWhole) (arg24 : Memref sig .tc .vmem S1024x768 .f32) (harg24 : arg24.IsWhole) (arg25 : Memref sig .tc .vmem S1024 .i32) (harg25 : arg25.IsWhole) (arg26 : Memref sig .tc .vmem S1024 .i32) (harg26 : arg26.IsWhole) (arg27 : Memref sig .tc .vmem S1024 .i32) (harg27 : arg27.IsWhole) (arg28 : Memref sig .tc .vmem S1024 .i32) (harg28 : arg28.IsWhole) (arg29 : Memref sig .tc .vmem S1x1 .f32) (harg29 : arg29.IsWhole) (hc0 : ¬cond0_0 i) (hc1 : cond0_1 i)
    (x0 : Vec F S1024x768 .f32) (x1 : Vec F S128x768 .f32) (x2 : Vec F S128 .f32) (x3 : Vec F S128x768 .f32) (x4 : Vec F S128 .f32) (x5 : Vec F S1024x128 .f32) (x6 : Vec F S1024x128 .f32) (x7 : Vec F S128x256 .f32) (x8 : Vec F S128 .f32) (x9 : Vec F S256x128 .f32) (x10 : Vec F S256 .f32) (x11 : Vec F S1024x256 .f32) (x12 : Vec F S256x512 .f32) (x13 : Vec F S256 .f32) (x14 : Vec F S256x256 .f32) (x15 : Vec F S256 .f32) (x16 : Vec F S1024x256 .f32) (x17 : Vec F S768x768 .f32) (x18 : Vec F S768 .f32) (x19 : Vec F S1x1024 .f32) (x20 : Vec F S1x1024 .f32) (x21 : Vec F S1x1024 .f32) (x22 : Vec F S1x1024 .f32) (xo28 : Vec F S1x1 .f32) : Vec F S1024 .i32 :=
  VO0_27.read (Elt F) (VO0_27.writes (Elt F) VO0_27.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 x22 xo28).2.2.2.2.1)

/-- Case B's pieces for output 28 tile its block (1 store of `S1x1`, checked by the kernel's evaluation: Lib/Ring.lean `Piece.tiledL`, linear in the pieces, through a loop's `@[irreducible]` trip theorem too), so they cover it. -/
theorem cover0_B_28 (c : Dev nD) (i : grid0.Coords) (arg1 : Memref sig .tc .vmem S1024x768 .f32) (harg1 : arg1.IsWhole) (arg2 : Memref sig .tc .vmem S128x768 .f32) (harg2 : arg2.IsWhole) (arg3 : Memref sig .tc .vmem S128 .f32) (harg3 : arg3.IsWhole) (arg4 : Memref sig .tc .vmem S128x768 .f32) (harg4 : arg4.IsWhole) (arg5 : Memref sig .tc .vmem S128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S128x256 .f32) (harg8 : arg8.IsWhole) (arg9 : Memref sig .tc .vmem S128 .f32) (harg9 : arg9.IsWhole) (arg10 : Memref sig .tc .vmem S256x128 .f32) (harg10 : arg10.IsWhole) (arg11 : Memref sig .tc .vmem S256 .f32) (harg11 : arg11.IsWhole) (arg12 : Memref sig .tc .vmem S1024x256 .f32) (harg12 : arg12.IsWhole) (arg13 : Memref sig .tc .vmem S256x512 .f32) (harg13 : arg13.IsWhole) (arg14 : Memref sig .tc .vmem S256 .f32) (harg14 : arg14.IsWhole) (arg15 : Memref sig .tc .vmem S256x256 .f32) (harg15 : arg15.IsWhole) (arg16 : Memref sig .tc .vmem S256 .f32) (harg16 : arg16.IsWhole) (arg17 : Memref sig .tc .vmem S1024x256 .f32) (harg17 : arg17.IsWhole) (arg18 : Memref sig .tc .vmem S768x768 .f32) (harg18 : arg18.IsWhole) (arg19 : Memref sig .tc .vmem S768 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S1x1024 .f32) (harg22 : arg22.IsWhole) (arg23 : Memref sig .tc .vmem S1x1024 .f32) (harg23 : arg23.IsWhole) (arg24 : Memref sig .tc .vmem S1024x768 .f32) (harg24 : arg24.IsWhole) (arg25 : Memref sig .tc .vmem S1024 .i32) (harg25 : arg25.IsWhole) (arg26 : Memref sig .tc .vmem S1024 .i32) (harg26 : arg26.IsWhole) (arg27 : Memref sig .tc .vmem S1024 .i32) (harg27 : arg27.IsWhole) (arg28 : Memref sig .tc .vmem S1024 .i32) (harg28 : arg28.IsWhole) (arg29 : Memref sig .tc .vmem S1x1 .f32) (harg29 : arg29.IsWhole) (hc0 : ¬cond0_0 i) (hc1 : cond0_1 i)
    (x0 : Vec F S1024x768 .f32) (x1 : Vec F S128x768 .f32) (x2 : Vec F S128 .f32) (x3 : Vec F S128x768 .f32) (x4 : Vec F S128 .f32) (x5 : Vec F S1024x128 .f32) (x6 : Vec F S1024x128 .f32) (x7 : Vec F S128x256 .f32) (x8 : Vec F S128 .f32) (x9 : Vec F S256x128 .f32) (x10 : Vec F S256 .f32) (x11 : Vec F S1024x256 .f32) (x12 : Vec F S256x512 .f32) (x13 : Vec F S256 .f32) (x14 : Vec F S256x256 .f32) (x15 : Vec F S256 .f32) (x16 : Vec F S1024x256 .f32) (x17 : Vec F S768x768 .f32) (x18 : Vec F S768 .f32) (x19 : Vec F S1x1024 .f32) (x20 : Vec F S1x1024 .f32) (x21 : Vec F S1x1024 .f32) (x22 : Vec F S1x1024 .f32) (xo28 : Vec F S1x1 .f32) (y : S1x1.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 x22 xo28).2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 x22 xo28).2.2.2.2.2.1 S1x1.size (by sl_kernel_rfl) y

/-- What case B leaves in output 28's staging buffer: its pieces read back over junk. -/
def out0_B_28 (c : Dev nD) (i : grid0.Coords) (arg1 : Memref sig .tc .vmem S1024x768 .f32) (harg1 : arg1.IsWhole) (arg2 : Memref sig .tc .vmem S128x768 .f32) (harg2 : arg2.IsWhole) (arg3 : Memref sig .tc .vmem S128 .f32) (harg3 : arg3.IsWhole) (arg4 : Memref sig .tc .vmem S128x768 .f32) (harg4 : arg4.IsWhole) (arg5 : Memref sig .tc .vmem S128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S128x256 .f32) (harg8 : arg8.IsWhole) (arg9 : Memref sig .tc .vmem S128 .f32) (harg9 : arg9.IsWhole) (arg10 : Memref sig .tc .vmem S256x128 .f32) (harg10 : arg10.IsWhole) (arg11 : Memref sig .tc .vmem S256 .f32) (harg11 : arg11.IsWhole) (arg12 : Memref sig .tc .vmem S1024x256 .f32) (harg12 : arg12.IsWhole) (arg13 : Memref sig .tc .vmem S256x512 .f32) (harg13 : arg13.IsWhole) (arg14 : Memref sig .tc .vmem S256 .f32) (harg14 : arg14.IsWhole) (arg15 : Memref sig .tc .vmem S256x256 .f32) (harg15 : arg15.IsWhole) (arg16 : Memref sig .tc .vmem S256 .f32) (harg16 : arg16.IsWhole) (arg17 : Memref sig .tc .vmem S1024x256 .f32) (harg17 : arg17.IsWhole) (arg18 : Memref sig .tc .vmem S768x768 .f32) (harg18 : arg18.IsWhole) (arg19 : Memref sig .tc .vmem S768 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S1x1024 .f32) (harg22 : arg22.IsWhole) (arg23 : Memref sig .tc .vmem S1x1024 .f32) (harg23 : arg23.IsWhole) (arg24 : Memref sig .tc .vmem S1024x768 .f32) (harg24 : arg24.IsWhole) (arg25 : Memref sig .tc .vmem S1024 .i32) (harg25 : arg25.IsWhole) (arg26 : Memref sig .tc .vmem S1024 .i32) (harg26 : arg26.IsWhole) (arg27 : Memref sig .tc .vmem S1024 .i32) (harg27 : arg27.IsWhole) (arg28 : Memref sig .tc .vmem S1024 .i32) (harg28 : arg28.IsWhole) (arg29 : Memref sig .tc .vmem S1x1 .f32) (harg29 : arg29.IsWhole) (hc0 : ¬cond0_0 i) (hc1 : cond0_1 i)
    (x0 : Vec F S1024x768 .f32) (x1 : Vec F S128x768 .f32) (x2 : Vec F S128 .f32) (x3 : Vec F S128x768 .f32) (x4 : Vec F S128 .f32) (x5 : Vec F S1024x128 .f32) (x6 : Vec F S1024x128 .f32) (x7 : Vec F S128x256 .f32) (x8 : Vec F S128 .f32) (x9 : Vec F S256x128 .f32) (x10 : Vec F S256 .f32) (x11 : Vec F S1024x256 .f32) (x12 : Vec F S256x512 .f32) (x13 : Vec F S256 .f32) (x14 : Vec F S256x256 .f32) (x15 : Vec F S256 .f32) (x16 : Vec F S1024x256 .f32) (x17 : Vec F S768x768 .f32) (x18 : Vec F S768 .f32) (x19 : Vec F S1x1024 .f32) (x20 : Vec F S1x1024 .f32) (x21 : Vec F S1x1024 .f32) (x22 : Vec F S1x1024 .f32) (xo28 : Vec F S1x1 .f32) : Vec F S1x1 .f32 :=
  VO0_28.read (Elt F) (VO0_28.writes (Elt F) VO0_28.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 x22 xo28).2.2.2.2.2.1)

end Cert.KernelIdeal.Gen

end
-- ==== Proof.Launch.KernelIdealFrame.lean ====
/- The launch of the kernel as it is proved over the extended reals: what the results' staging buffers hold after each grid point, the
   run, and the frame claim.  The text follows the generated module; the body's obligation is proved point case by point case. -/
module

public import proofs.«01_k».proof.Proof.Launch.KernelIdealOutA
public import proofs.«01_k».proof.Proof.Launch.KernelIdealOutB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S1024x768 .f32 × Vec F S1024 .i32 × Vec F S1024 .i32 × Vec F S1024 .i32 × Vec F S1024 .i32 × Vec F S1x1 .f32
  | 0, hn => (out0_A_23 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) (ms0_25 ⟨0, hn⟩) (hs0_25 ⟨0, hn⟩) (ms0_26 ⟨0, hn⟩) (hs0_26 ⟨0, hn⟩) (ms0_27 ⟨0, hn⟩) (hs0_27 ⟨0, hn⟩) (ms0_28 ⟨0, hn⟩) (hs0_28 ⟨0, hn⟩) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩) (iblk m c 20 ⟨0, hn⟩) (iblk m c 21 ⟨0, hn⟩) (iblk m c 22 ⟨0, hn⟩), out0_A_24 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) (ms0_25 ⟨0, hn⟩) (hs0_25 ⟨0, hn⟩) (ms0_26 ⟨0, hn⟩) (hs0_26 ⟨0, hn⟩) (ms0_27 ⟨0, hn⟩) (hs0_27 ⟨0, hn⟩) (ms0_28 ⟨0, hn⟩) (hs0_28 ⟨0, hn⟩) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩) (iblk m c 20 ⟨0, hn⟩) (iblk m c 21 ⟨0, hn⟩) (iblk m c 22 ⟨0, hn⟩), out0_A_25 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) (ms0_25 ⟨0, hn⟩) (hs0_25 ⟨0, hn⟩) (ms0_26 ⟨0, hn⟩) (hs0_26 ⟨0, hn⟩) (ms0_27 ⟨0, hn⟩) (hs0_27 ⟨0, hn⟩) (ms0_28 ⟨0, hn⟩) (hs0_28 ⟨0, hn⟩) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩) (iblk m c 20 ⟨0, hn⟩) (iblk m c 21 ⟨0, hn⟩) (iblk m c 22 ⟨0, hn⟩), out0_A_26 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) (ms0_25 ⟨0, hn⟩) (hs0_25 ⟨0, hn⟩) (ms0_26 ⟨0, hn⟩) (hs0_26 ⟨0, hn⟩) (ms0_27 ⟨0, hn⟩) (hs0_27 ⟨0, hn⟩) (ms0_28 ⟨0, hn⟩) (hs0_28 ⟨0, hn⟩) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩) (iblk m c 20 ⟨0, hn⟩) (iblk m c 21 ⟨0, hn⟩) (iblk m c 22 ⟨0, hn⟩), out0_A_27 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) (ms0_25 ⟨0, hn⟩) (hs0_25 ⟨0, hn⟩) (ms0_26 ⟨0, hn⟩) (hs0_26 ⟨0, hn⟩) (ms0_27 ⟨0, hn⟩) (hs0_27 ⟨0, hn⟩) (ms0_28 ⟨0, hn⟩) (hs0_28 ⟨0, hn⟩) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩) (iblk m c 20 ⟨0, hn⟩) (iblk m c 21 ⟨0, hn⟩) (iblk m c 22 ⟨0, hn⟩), out0_A_28 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) (ms0_25 ⟨0, hn⟩) (hs0_25 ⟨0, hn⟩) (ms0_26 ⟨0, hn⟩) (hs0_26 ⟨0, hn⟩) (ms0_27 ⟨0, hn⟩) (hs0_27 ⟨0, hn⟩) (ms0_28 ⟨0, hn⟩) (hs0_28 ⟨0, hn⟩) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩) (iblk m c 20 ⟨0, hn⟩) (iblk m c 21 ⟨0, hn⟩) (iblk m c 22 ⟨0, hn⟩))
  | n + 1, hn =>
    if h0 : (n + 1) % 8 = 0 then
      if h1 : 1 ≤ (n + 1) then
        False.elim (by have hN : n + 1 < 8 := lt_of_lt_of_eq hn (show cfg0.N = 8 from N_0); omega)
      else
        (out0_A_23 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) (ms0_27 ⟨n + 1, hn⟩) (hs0_27 ⟨n + 1, hn⟩) (ms0_28 ⟨n + 1, hn⟩) (hs0_28 ⟨n + 1, hn⟩) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (iblk m c 22 ⟨n + 1, hn⟩), out0_A_24 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) (ms0_27 ⟨n + 1, hn⟩) (hs0_27 ⟨n + 1, hn⟩) (ms0_28 ⟨n + 1, hn⟩) (hs0_28 ⟨n + 1, hn⟩) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (iblk m c 22 ⟨n + 1, hn⟩), out0_A_25 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) (ms0_27 ⟨n + 1, hn⟩) (hs0_27 ⟨n + 1, hn⟩) (ms0_28 ⟨n + 1, hn⟩) (hs0_28 ⟨n + 1, hn⟩) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (iblk m c 22 ⟨n + 1, hn⟩), out0_A_26 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) (ms0_27 ⟨n + 1, hn⟩) (hs0_27 ⟨n + 1, hn⟩) (ms0_28 ⟨n + 1, hn⟩) (hs0_28 ⟨n + 1, hn⟩) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (iblk m c 22 ⟨n + 1, hn⟩), out0_A_27 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) (ms0_27 ⟨n + 1, hn⟩) (hs0_27 ⟨n + 1, hn⟩) (ms0_28 ⟨n + 1, hn⟩) (hs0_28 ⟨n + 1, hn⟩) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (iblk m c 22 ⟨n + 1, hn⟩), out0_A_28 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) (ms0_27 ⟨n + 1, hn⟩) (hs0_27 ⟨n + 1, hn⟩) (ms0_28 ⟨n + 1, hn⟩) (hs0_28 ⟨n + 1, hn⟩) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (iblk m c 22 ⟨n + 1, hn⟩))
    else
      if h1 : 1 ≤ (n + 1) then
        (out0_B_23 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) (ms0_27 ⟨n + 1, hn⟩) (hs0_27 ⟨n + 1, hn⟩) (ms0_28 ⟨n + 1, hn⟩) (hs0_28 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (iblk m c 22 ⟨n + 1, hn⟩) (outsAt0 c n (Nat.lt_of_succ_lt hn)).2.2.2.2.2, out0_B_24 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) (ms0_27 ⟨n + 1, hn⟩) (hs0_27 ⟨n + 1, hn⟩) (ms0_28 ⟨n + 1, hn⟩) (hs0_28 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (iblk m c 22 ⟨n + 1, hn⟩) (outsAt0 c n (Nat.lt_of_succ_lt hn)).2.2.2.2.2, out0_B_25 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) (ms0_27 ⟨n + 1, hn⟩) (hs0_27 ⟨n + 1, hn⟩) (ms0_28 ⟨n + 1, hn⟩) (hs0_28 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (iblk m c 22 ⟨n + 1, hn⟩) (outsAt0 c n (Nat.lt_of_succ_lt hn)).2.2.2.2.2, out0_B_26 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) (ms0_27 ⟨n + 1, hn⟩) (hs0_27 ⟨n + 1, hn⟩) (ms0_28 ⟨n + 1, hn⟩) (hs0_28 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (iblk m c 22 ⟨n + 1, hn⟩) (outsAt0 c n (Nat.lt_of_succ_lt hn)).2.2.2.2.2, out0_B_27 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) (ms0_27 ⟨n + 1, hn⟩) (hs0_27 ⟨n + 1, hn⟩) (ms0_28 ⟨n + 1, hn⟩) (hs0_28 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (iblk m c 22 ⟨n + 1, hn⟩) (outsAt0 c n (Nat.lt_of_succ_lt hn)).2.2.2.2.2, out0_B_28 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) (ms0_27 ⟨n + 1, hn⟩) (hs0_27 ⟨n + 1, hn⟩) (ms0_28 ⟨n + 1, hn⟩) (hs0_28 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (iblk m c 22 ⟨n + 1, hn⟩) (outsAt0 c n (Nat.lt_of_succ_lt hn)).2.2.2.2.2)
      else
        False.elim (by have hN : n + 1 < 8 := lt_of_lt_of_eq hn (show cfg0.N = 8 from N_0); omega)

/-- `outsAt0` at a point of case A: that case's contents. -/
theorem outsAt0_A (c : Dev nD) (t : Fin cfg0.N) (h0 : t.val % 8 = 0) (h1 : ¬1 ≤ t.val) :
    outsAt0 m c t.val t.isLt = (out0_A_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t), out0_A_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t), out0_A_25 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t), out0_A_26 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t), out0_A_27 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t), out0_A_28 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 8 = 0) (h1 : 1 ≤ t.val) :
    outsAt0 m c t.val t.isLt = (out0_B_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (outsAt0 m c (t.val - 1) (Nat.lt_of_le_of_lt (Nat.sub_le _ _) t.isLt)).2.2.2.2.2, out0_B_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (outsAt0 m c (t.val - 1) (Nat.lt_of_le_of_lt (Nat.sub_le _ _) t.isLt)).2.2.2.2.2, out0_B_25 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (outsAt0 m c (t.val - 1) (Nat.lt_of_le_of_lt (Nat.sub_le _ _) t.isLt)).2.2.2.2.2, out0_B_26 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (outsAt0 m c (t.val - 1) (Nat.lt_of_le_of_lt (Nat.sub_le _ _) t.isLt)).2.2.2.2.2, out0_B_27 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (outsAt0 m c (t.val - 1) (Nat.lt_of_le_of_lt (Nat.sub_le _ _) t.isLt)).2.2.2.2.2, out0_B_28 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (outsAt0 m c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => (outsAt0 m c t.val t.isLt).1
    | ⟨24, _⟩ => (outsAt0 m c t.val t.isLt).2.1
    | ⟨25, _⟩ => (outsAt0 m c t.val t.isLt).2.2.1
    | ⟨26, _⟩ => (outsAt0 m c t.val t.isLt).2.2.2.1
    | ⟨27, _⟩ => (outsAt0 m c t.val t.isLt).2.2.2.2.1
    | ⟨28, _⟩ => (outsAt0 m c t.val t.isLt).2.2.2.2.2
    | ⟨_ + 29, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
/-- The body leaves in window 1's buffer what this window's block says. -/
theorem after0_1 (c : Dev nD) (t : Fin cfg0.N) : (dats m 0 c).after 1 t = iblk m c 1 t := by dsimp only [dats]
/-- The body leaves in window 2's buffer what this window's block says. -/
theorem after0_2 (c : Dev nD) (t : Fin cfg0.N) : (dats m 0 c).after 2 t = iblk m c 2 t := by dsimp only [dats]
/-- The body leaves in window 3's buffer what this window's block says. -/
theorem after0_3 (c : Dev nD) (t : Fin cfg0.N) : (dats m 0 c).after 3 t = iblk m c 3 t := by dsimp only [dats]
/-- The body leaves in window 4's buffer what this window's block says. -/
theorem after0_4 (c : Dev nD) (t : Fin cfg0.N) : (dats m 0 c).after 4 t = iblk m c 4 t := by dsimp only [dats]
/-- The body leaves in window 5's buffer what this window's block says. -/
theorem after0_5 (c : Dev nD) (t : Fin cfg0.N) : (dats m 0 c).after 5 t = iblk m c 5 t := by dsimp only [dats]
/-- The body leaves in window 6's buffer what this window's block says. -/
theorem after0_6 (c : Dev nD) (t : Fin cfg0.N) : (dats m 0 c).after 6 t = iblk m c 6 t := by dsimp only [dats]
/-- The body leaves in window 7's buffer what this window's block says. -/
theorem after0_7 (c : Dev nD) (t : Fin cfg0.N) : (dats m 0 c).after 7 t = iblk m c 7 t := by dsimp only [dats]
/-- The body leaves in window 8's buffer what this window's block says. -/
theorem after0_8 (c : Dev nD) (t : Fin cfg0.N) : (dats m 0 c).after 8 t = iblk m c 8 t := by dsimp only [dats]
/-- The body leaves in window 9's buffer what this window's block says. -/
theorem after0_9 (c : Dev nD) (t : Fin cfg0.N) : (dats m 0 c).after 9 t = iblk m c 9 t := by dsimp only [dats]
/-- The body leaves in window 10's buffer what this window's block says. -/
theorem after0_10 (c : Dev nD) (t : Fin cfg0.N) : (dats m 0 c).after 10 t = iblk m c 10 t := by dsimp only [dats]
/-- The body leaves in window 11's buffer what this window's block says. -/
theorem after0_11 (c : Dev nD) (t : Fin cfg0.N) : (dats m 0 c).after 11 t = iblk m c 11 t := by dsimp only [dats]
/-- The body leaves in window 12's buffer what this window's block says. -/
theorem after0_12 (c : Dev nD) (t : Fin cfg0.N) : (dats m 0 c).after 12 t = iblk m c 12 t := by dsimp only [dats]
/-- The body leaves in window 13's buffer what this window's block says. -/
theorem after0_13 (c : Dev nD) (t : Fin cfg0.N) : (dats m 0 c).after 13 t = iblk m c 13 t := by dsimp only [dats]
/-- The body leaves in window 14's buffer what this window's block says. -/
theorem after0_14 (c : Dev nD) (t : Fin cfg0.N) : (dats m 0 c).after 14 t = iblk m c 14 t := by dsimp only [dats]
/-- The body leaves in window 15's buffer what this window's block says. -/
theorem after0_15 (c : Dev nD) (t : Fin cfg0.N) : (dats m 0 c).after 15 t = iblk m c 15 t := by dsimp only [dats]
/-- The body leaves in window 16's buffer what this window's block says. -/
theorem after0_16 (c : Dev nD) (t : Fin cfg0.N) : (dats m 0 c).after 16 t = iblk m c 16 t := by dsimp only [dats]
/-- The body leaves in window 17's buffer what this window's block says. -/
theorem after0_17 (c : Dev nD) (t : Fin cfg0.N) : (dats m 0 c).after 17 t = iblk m c 17 t := by dsimp only [dats]
/-- The body leaves in window 18's buffer what this window's block says. -/
theorem after0_18 (c : Dev nD) (t : Fin cfg0.N) : (dats m 0 c).after 18 t = iblk m c 18 t := by dsimp only [dats]
/-- The body leaves in window 19's buffer what this window's block says. -/
theorem after0_19 (c : Dev nD) (t : Fin cfg0.N) : (dats m 0 c).after 19 t = iblk m c 19 t := by dsimp only [dats]
/-- The body leaves in window 20's buffer what this window's block says. -/
theorem after0_20 (c : Dev nD) (t : Fin cfg0.N) : (dats m 0 c).after 20 t = iblk m c 20 t := by dsimp only [dats]
/-- The body leaves in window 21's buffer what this window's block says. -/
theorem after0_21 (c : Dev nD) (t : Fin cfg0.N) : (dats m 0 c).after 21 t = iblk m c 21 t := by dsimp only [dats]
/-- The body leaves in window 22's buffer what this window's block says. -/
theorem after0_22 (c : Dev nD) (t : Fin cfg0.N) : (dats m 0 c).after 22 t = iblk m c 22 t := by dsimp only [dats]
/-- The body leaves in window 23's buffer what this window's block says. -/
theorem after0_23 (c : Dev nD) (t : Fin cfg0.N) : (dats m 0 c).after 23 t = (outsAt0 m c t.val t.isLt).1 := by dsimp only [dats]
/-- The body leaves in window 24's buffer what this window's block says. -/
theorem after0_24 (c : Dev nD) (t : Fin cfg0.N) : (dats m 0 c).after 24 t = (outsAt0 m c t.val t.isLt).2.1 := by dsimp only [dats]
/-- The body leaves in window 25's buffer what this window's block says. -/
theorem after0_25 (c : Dev nD) (t : Fin cfg0.N) : (dats m 0 c).after 25 t = (outsAt0 m c t.val t.isLt).2.2.1 := by dsimp only [dats]
/-- The body leaves in window 26's buffer what this window's block says. -/
theorem after0_26 (c : Dev nD) (t : Fin cfg0.N) : (dats m 0 c).after 26 t = (outsAt0 m c t.val t.isLt).2.2.2.1 := by dsimp only [dats]
/-- The body leaves in window 27's buffer what this window's block says. -/
theorem after0_27 (c : Dev nD) (t : Fin cfg0.N) : (dats m 0 c).after 27 t = (outsAt0 m c t.val t.isLt).2.2.2.2.1 := by dsimp only [dats]
/-- The body leaves in window 28's buffer what this window's block says. -/
theorem after0_28 (c : Dev nD) (t : Fin cfg0.N) : (dats m 0 c).after 28 t = (outsAt0 m c t.val t.isLt).2.2.2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- Window 1's buffer holds its block before the body. -/
theorem before0_1 (c : Dev nD) (t : Fin cfg0.N) (d) : (dats m 0 c).before 1 t d = iblk m c 1 t :=
  before0_1_of m (dats m 0 c) (A_eq m c 1) (after0_1 m c) t d
/-- Window 2's buffer holds its block before the body. -/
theorem before0_2 (c : Dev nD) (t : Fin cfg0.N) (d) : (dats m 0 c).before 2 t d = iblk m c 2 t :=
  before0_2_of m (dats m 0 c) (A_eq m c 2) (after0_2 m c) t d
/-- Window 3's buffer holds its block before the body. -/
theorem before0_3 (c : Dev nD) (t : Fin cfg0.N) (d) : (dats m 0 c).before 3 t d = iblk m c 3 t :=
  before0_3_of m (dats m 0 c) (A_eq m c 3) (after0_3 m c) t d
/-- Window 4's buffer holds its block before the body. -/
theorem before0_4 (c : Dev nD) (t : Fin cfg0.N) (d) : (dats m 0 c).before 4 t d = iblk m c 4 t :=
  before0_4_of m (dats m 0 c) (A_eq m c 4) (after0_4 m c) t d
/-- Window 5's buffer holds its block before the body. -/
theorem before0_5 (c : Dev nD) (t : Fin cfg0.N) (d) : (dats m 0 c).before 5 t d = iblk m c 5 t :=
  before0_5_of m (dats m 0 c) (A_eq m c 5) (after0_5 m c) t d
/-- Window 6's buffer holds its block before the body. -/
theorem before0_6 (c : Dev nD) (t : Fin cfg0.N) (d) : (dats m 0 c).before 6 t d = iblk m c 6 t :=
  before0_6_of m (dats m 0 c) (A_eq m c 6) (after0_6 m c) t d
/-- Window 7's buffer holds its block before the body. -/
theorem before0_7 (c : Dev nD) (t : Fin cfg0.N) (d) : (dats m 0 c).before 7 t d = iblk m c 7 t :=
  before0_7_of m (dats m 0 c) (A_eq m c 7) (after0_7 m c) t d
/-- Window 8's buffer holds its block before the body. -/
theorem before0_8 (c : Dev nD) (t : Fin cfg0.N) (d) : (dats m 0 c).before 8 t d = iblk m c 8 t :=
  before0_8_of m (dats m 0 c) (A_eq m c 8) (after0_8 m c) t d
/-- Window 9's buffer holds its block before the body. -/
theorem before0_9 (c : Dev nD) (t : Fin cfg0.N) (d) : (dats m 0 c).before 9 t d = iblk m c 9 t :=
  before0_9_of m (dats m 0 c) (A_eq m c 9) (after0_9 m c) t d
/-- Window 10's buffer holds its block before the body. -/
theorem before0_10 (c : Dev nD) (t : Fin cfg0.N) (d) : (dats m 0 c).before 10 t d = iblk m c 10 t :=
  before0_10_of m (dats m 0 c) (A_eq m c 10) (after0_10 m c) t d
/-- Window 11's buffer holds its block before the body. -/
theorem before0_11 (c : Dev nD) (t : Fin cfg0.N) (d) : (dats m 0 c).before 11 t d = iblk m c 11 t :=
  before0_11_of m (dats m 0 c) (A_eq m c 11) (after0_11 m c) t d
/-- Window 12's buffer holds its block before the body. -/
theorem before0_12 (c : Dev nD) (t : Fin cfg0.N) (d) : (dats m 0 c).before 12 t d = iblk m c 12 t :=
  before0_12_of m (dats m 0 c) (A_eq m c 12) (after0_12 m c) t d
/-- Window 13's buffer holds its block before the body. -/
theorem before0_13 (c : Dev nD) (t : Fin cfg0.N) (d) : (dats m 0 c).before 13 t d = iblk m c 13 t :=
  before0_13_of m (dats m 0 c) (A_eq m c 13) (after0_13 m c) t d
/-- Window 14's buffer holds its block before the body. -/
theorem before0_14 (c : Dev nD) (t : Fin cfg0.N) (d) : (dats m 0 c).before 14 t d = iblk m c 14 t :=
  before0_14_of m (dats m 0 c) (A_eq m c 14) (after0_14 m c) t d
/-- Window 15's buffer holds its block before the body. -/
theorem before0_15 (c : Dev nD) (t : Fin cfg0.N) (d) : (dats m 0 c).before 15 t d = iblk m c 15 t :=
  before0_15_of m (dats m 0 c) (A_eq m c 15) (after0_15 m c) t d
/-- Window 16's buffer holds its block before the body. -/
theorem before0_16 (c : Dev nD) (t : Fin cfg0.N) (d) : (dats m 0 c).before 16 t d = iblk m c 16 t :=
  before0_16_of m (dats m 0 c) (A_eq m c 16) (after0_16 m c) t d
/-- Window 17's buffer holds its block before the body. -/
theorem before0_17 (c : Dev nD) (t : Fin cfg0.N) (d) : (dats m 0 c).before 17 t d = iblk m c 17 t :=
  before0_17_of m (dats m 0 c) (A_eq m c 17) (after0_17 m c) t d
/-- Window 18's buffer holds its block before the body. -/
theorem before0_18 (c : Dev nD) (t : Fin cfg0.N) (d) : (dats m 0 c).before 18 t d = iblk m c 18 t :=
  before0_18_of m (dats m 0 c) (A_eq m c 18) (after0_18 m c) t d
/-- Window 19's buffer holds its block before the body. -/
theorem before0_19 (c : Dev nD) (t : Fin cfg0.N) (d) : (dats m 0 c).before 19 t d = iblk m c 19 t :=
  before0_19_of m (dats m 0 c) (A_eq m c 19) (after0_19 m c) t d
/-- Window 20's buffer holds its block before the body. -/
theorem before0_20 (c : Dev nD) (t : Fin cfg0.N) (d) : (dats m 0 c).before 20 t d = iblk m c 20 t :=
  before0_20_of m (dats m 0 c) (A_eq m c 20) (after0_20 m c) t d
/-- Window 21's buffer holds its block before the body. -/
theorem before0_21 (c : Dev nD) (t : Fin cfg0.N) (d) : (dats m 0 c).before 21 t d = iblk m c 21 t :=
  before0_21_of m (dats m 0 c) (A_eq m c 21) (after0_21 m c) t d
/-- Window 22's buffer holds its block before the body. -/
theorem before0_22 (c : Dev nD) (t : Fin cfg0.N) (d) : (dats m 0 c).before 22 t d = iblk m c 22 t :=
  before0_22_of m (dats m 0 c) (A_eq m c 22) (after0_22 m c) t d

/-- Output 28's contents CARRY through the points that leave it idle: at such a point, its buffer not fresh, the proof data's
    `after` is the point before's (the case there stores nothing into the window and its term says so; a case that stores
    into it is not idle there by `liveAt0_28_κ`) — the hypothesis of Lib/Pipeline/TableIdle.lean `Dat.before_out_traj`. -/
theorem hcarry0_28 (c : Dev nD) : ∀ (t : Fin cfg0.N) (_ : t.val ≠ 0), cfg0.idle 28 (grid0.coords t) = true → cfg0.fresh 28 t.val = false →
    (dats m 0 c).after 28 t = (dats m 0 c).after 28 ⟨t.val - 1, by omega⟩ := by
  intro t _ hi _
  have hN : t.val < 8 := lt_of_lt_of_eq t.isLt (show cfg0.N = 8 from N_0)
  rw [after0_28, after0_28]
  by_cases h0 : t.val % 8 = 0
  · by_cases h1 : 1 ≤ t.val
    · exfalso; omega
    · rw [liveAt0_28_A t ((hcond0_0 t).mpr h0) (fun h => h1 ((hcond0_1 t).mp h))] at hi
      exact absurd hi Bool.false_ne_true
  · by_cases h1 : 1 ≤ t.val
    · rw [liveAt0_28_B t (fun h => h0 ((hcond0_0 t).mp h)) ((hcond0_1 t).mpr h1)] at hi
      exact absurd hi Bool.false_ne_true
    · exfalso; omega
/-- At a point of case B output 28's current staging buffer holds what the point before left: the buffer is not fresh
    there (`notFresh0_28_B`: stored into since the region's entry or the last write-back, carried through the points that
    leave it idle by `hcarry0_28`; Lib/Pipeline/TableIdle.lean `Dat.before_out_traj`). -/
theorem before0_28_B (c : Dev nD) (t : Fin cfg0.N) (h0 : ¬t.val % 8 = 0) (h1 : 1 ≤ t.val) (d) :
    (dats m 0 c).before 28 t d = (outsAt0 m c (t.val - 1) (Nat.lt_of_le_of_lt (Nat.sub_le _ _) t.isLt)).2.2.2.2.2 := by
  rw [Dat.before_out_traj _ 28 rfl (fun _ _ => rfl) (hcarry0_28 m c) t.val t rfl d,
    if_neg (by rw [notFresh0_28_B t (fun h => h0 ((hcond0_0 t).mp h)) ((hcond0_1 t).mpr h1)]; exact Bool.false_ne_true)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t
    ∗ (dats m 0 c).leavesExact 22 t
    ∗ (dats m 0 c).leavesExact 23 t
    ∗ (dats m 0 c).leavesExact 24 t
    ∗ (dats m 0 c).leavesExact 25 t
    ∗ (dats m 0 c).leavesExact 26 t
    ∗ (dats m 0 c).leavesExact 27 t
    ∗ (dats m 0 c).leavesExact 28 t)

set_option maxHeartbeats 2000000 in
/-- The body at the first point: the inputs' memrefs hold their blocks, so the run of case A applies; the invariant passes through
    unread and the core owes nothing throughout. -/
theorem sound_body_A (c : Dev nD) (t : Fin cfg0.N) (h0 : t.val % 8 = 0) (h1 : ¬1 ≤ t.val) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10 t], after0_10]
  rw [show (dats m 0 c).leavesExact 11 t = owns (c : Thread nD τ) (ms0_11 t) fullShare ((dats m 0 c).after 11 t) from by
    unfold Dat.leavesExact; rw [liveAt0_11 t], after0_11]
  rw [show (dats m 0 c).leavesExact 12 t = owns (c : Thread nD τ) (ms0_12 t) fullShare ((dats m 0 c).after 12 t) from by
    unfold Dat.leavesExact; rw [liveAt0_12 t], after0_12]
  rw [show (dats m 0 c).leavesExact 13 t = owns (c : Thread nD τ) (ms0_13 t) fullShare ((dats m 0 c).after 13 t) from by
    unfold Dat.leavesExact; rw [liveAt0_13 t], after0_13]
  rw [show (dats m 0 c).leavesExact 14 t = owns (c : Thread nD τ) (ms0_14 t) fullShare ((dats m 0 c).after 14 t) from by
    unfold Dat.leavesExact; rw [liveAt0_14 t], after0_14]
  rw [show (dats m 0 c).leavesExact 15 t = owns (c : Thread nD τ) (ms0_15 t) fullShare ((dats m 0 c).after 15 t) from by
    unfold Dat.leavesExact; rw [liveAt0_15 t], after0_15]
  rw [show (dats m 0 c).leavesExact 16 t = owns (c : Thread nD τ) (ms0_16 t) fullShare ((dats m 0 c).after 16 t) from by
    unfold Dat.leavesExact; rw [liveAt0_16 t], after0_16]
  rw [show (dats m 0 c).leavesExact 17 t = owns (c : Thread nD τ) (ms0_17 t) fullShare ((dats m 0 c).after 17 t) from by
    unfold Dat.leavesExact; rw [liveAt0_17 t], after0_17]
  rw [show (dats m 0 c).leavesExact 18 t = owns (c : Thread nD τ) (ms0_18 t) fullShare ((dats m 0 c).after 18 t) from by
    unfold Dat.leavesExact; rw [liveAt0_18 t], after0_18]
  rw [show (dats m 0 c).leavesExact 19 t = owns (c : Thread nD τ) (ms0_19 t) fullShare ((dats m 0 c).after 19 t) from by
    unfold Dat.leavesExact; rw [liveAt0_19 t], after0_19]
  rw [show (dats m 0 c).leavesExact 20 t = owns (c : Thread nD τ) (ms0_20 t) fullShare ((dats m 0 c).after 20 t) from by
    unfold Dat.leavesExact; rw [liveAt0_20 t], after0_20]
  rw [show (dats m 0 c).leavesExact 21 t = owns (c : Thread nD τ) (ms0_21 t) fullShare ((dats m 0 c).after 21 t) from by
    unfold Dat.leavesExact; rw [liveAt0_21 t], after0_21]
  rw [show (dats m 0 c).leavesExact 22 t = owns (c : Thread nD τ) (ms0_22 t) fullShare ((dats m 0 c).after 22 t) from by
    unfold Dat.leavesExact; rw [liveAt0_22 t], after0_22]
  rw [show (dats m 0 c).leavesExact 23 t = owns (c : Thread nD τ) (ms0_23 t) fullShare ((dats m 0 c).after 23 t) from by
    unfold Dat.leavesExact; rw [liveAt0_23 t], after0_23]
  rw [show (dats m 0 c).leavesExact 24 t = owns (c : Thread nD τ) (ms0_24 t) fullShare ((dats m 0 c).after 24 t) from by
    unfold Dat.leavesExact; rw [liveAt0_24 t], after0_24]
  rw [show (dats m 0 c).leavesExact 25 t = owns (c : Thread nD τ) (ms0_25 t) fullShare ((dats m 0 c).after 25 t) from by
    unfold Dat.leavesExact; rw [liveAt0_25 t], after0_25]
  rw [show (dats m 0 c).leavesExact 26 t = owns (c : Thread nD τ) (ms0_26 t) fullShare ((dats m 0 c).after 26 t) from by
    unfold Dat.leavesExact; rw [liveAt0_26 t], after0_26]
  rw [show (dats m 0 c).leavesExact 27 t = owns (c : Thread nD τ) (ms0_27 t) fullShare ((dats m 0 c).after 27 t) from by
    unfold Dat.leavesExact; rw [liveAt0_27 t], after0_27]
  rw [show (dats m 0 c).leavesExact 28 t = owns (c : Thread nD τ) (ms0_28 t) fullShare ((dats m 0 c).after 28 t) from by
    unfold Dat.leavesExact; rw [liveAt0_28_A t ((hcond0_0 t).mpr h0) (fun h => h1 ((hcond0_1 t).mp h))], after0_28]
  rw [outsAt0_A m c t h0 h1]
  unfold out0_A_23 out0_A_24 out0_A_25 out0_A_26 out0_A_27 out0_A_28; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)).2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  iintro ⟨H0, H1, H2, H3, H4, H5, H6, H7, H8, H9, H10, H11, H12, H13, H14, H15, H16, H17, H18, H19, H20, H21, H22, ⟨%e23, H23⟩, ⟨%e24, H24⟩, ⟨%e25, H25⟩, ⟨%e26, H26⟩, ⟨%e27, H27⟩, ⟨%e28, H28⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]
  · unfold owns; iexists _; isplitr
    swap; · iexact H23
    ipureintro; exact View.read_writes_of_cover _ _ _ _ _ (cover0_A_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H24]
  · unfold owns; iexists _; isplitr
    swap; · iexact H24
    ipureintro; exact View.read_writes_of_cover _ _ _ _ _ (cover0_A_24 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H25]
  · unfold owns; iexists _; isplitr
    swap; · iexact H25
    ipureintro; exact View.read_writes_of_cover _ _ _ _ _ (cover0_A_25 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H26]
  · unfold owns; iexists _; isplitr
    swap; · iexact H26
    ipureintro; exact View.read_writes_of_cover _ _ _ _ _ (cover0_A_26 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H27]
  · unfold owns; iexists _; isplitr
    swap; · iexact H27
    ipureintro; exact View.read_writes_of_cover _ _ _ _ _ (cover0_A_27 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H28
  ipureintro; exact View.read_writes_of_cover _ _ _ _ _ (cover0_A_28 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

set_option maxHeartbeats 2000000 in
/-- The body at every later point: the inputs' memrefs hold their blocks and the loss what the point before left, so the run of
    case B applies. -/
theorem sound_body_B (c : Dev nD) (t : Fin cfg0.N) (h0 : ¬t.val % 8 = 0) (h1 : 1 ≤ t.val) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10 t], after0_10]
  rw [show (dats m 0 c).leavesExact 11 t = owns (c : Thread nD τ) (ms0_11 t) fullShare ((dats m 0 c).after 11 t) from by
    unfold Dat.leavesExact; rw [liveAt0_11 t], after0_11]
  rw [show (dats m 0 c).leavesExact 12 t = owns (c : Thread nD τ) (ms0_12 t) fullShare ((dats m 0 c).after 12 t) from by
    unfold Dat.leavesExact; rw [liveAt0_12 t], after0_12]
  rw [show (dats m 0 c).leavesExact 13 t = owns (c : Thread nD τ) (ms0_13 t) fullShare ((dats m 0 c).after 13 t) from by
    unfold Dat.leavesExact; rw [liveAt0_13 t], after0_13]
  rw [show (dats m 0 c).leavesExact 14 t = owns (c : Thread nD τ) (ms0_14 t) fullShare ((dats m 0 c).after 14 t) from by
    unfold Dat.leavesExact; rw [liveAt0_14 t], after0_14]
  rw [show (dats m 0 c).leavesExact 15 t = owns (c : Thread nD τ) (ms0_15 t) fullShare ((dats m 0 c).after 15 t) from by
    unfold Dat.leavesExact; rw [liveAt0_15 t], after0_15]
  rw [show (dats m 0 c).leavesExact 16 t = owns (c : Thread nD τ) (ms0_16 t) fullShare ((dats m 0 c).after 16 t) from by
    unfold Dat.leavesExact; rw [liveAt0_16 t], after0_16]
  rw [show (dats m 0 c).leavesExact 17 t = owns (c : Thread nD τ) (ms0_17 t) fullShare ((dats m 0 c).after 17 t) from by
    unfold Dat.leavesExact; rw [liveAt0_17 t], after0_17]
  rw [show (dats m 0 c).leavesExact 18 t = owns (c : Thread nD τ) (ms0_18 t) fullShare ((dats m 0 c).after 18 t) from by
    unfold Dat.leavesExact; rw [liveAt0_18 t], after0_18]
  rw [show (dats m 0 c).leavesExact 19 t = owns (c : Thread nD τ) (ms0_19 t) fullShare ((dats m 0 c).after 19 t) from by
    unfold Dat.leavesExact; rw [liveAt0_19 t], after0_19]
  rw [show (dats m 0 c).leavesExact 20 t = owns (c : Thread nD τ) (ms0_20 t) fullShare ((dats m 0 c).after 20 t) from by
    unfold Dat.leavesExact; rw [liveAt0_20 t], after0_20]
  rw [show (dats m 0 c).leavesExact 21 t = owns (c : Thread nD τ) (ms0_21 t) fullShare ((dats m 0 c).after 21 t) from by
    unfold Dat.leavesExact; rw [liveAt0_21 t], after0_21]
  rw [show (dats m 0 c).leavesExact 22 t = owns (c : Thread nD τ) (ms0_22 t) fullShare ((dats m 0 c).after 22 t) from by
    unfold Dat.leavesExact; rw [liveAt0_22 t], after0_22]
  rw [show (dats m 0 c).leavesExact 23 t = owns (c : Thread nD τ) (ms0_23 t) fullShare ((dats m 0 c).after 23 t) from by
    unfold Dat.leavesExact; rw [liveAt0_23 t], after0_23]
  rw [show (dats m 0 c).leavesExact 24 t = owns (c : Thread nD τ) (ms0_24 t) fullShare ((dats m 0 c).after 24 t) from by
    unfold Dat.leavesExact; rw [liveAt0_24 t], after0_24]
  rw [show (dats m 0 c).leavesExact 25 t = owns (c : Thread nD τ) (ms0_25 t) fullShare ((dats m 0 c).after 25 t) from by
    unfold Dat.leavesExact; rw [liveAt0_25 t], after0_25]
  rw [show (dats m 0 c).leavesExact 26 t = owns (c : Thread nD τ) (ms0_26 t) fullShare ((dats m 0 c).after 26 t) from by
    unfold Dat.leavesExact; rw [liveAt0_26 t], after0_26]
  rw [show (dats m 0 c).leavesExact 27 t = owns (c : Thread nD τ) (ms0_27 t) fullShare ((dats m 0 c).after 27 t) from by
    unfold Dat.leavesExact; rw [liveAt0_27 t], after0_27]
  rw [show (dats m 0 c).leavesExact 28 t = owns (c : Thread nD τ) (ms0_28 t) fullShare ((dats m 0 c).after 28 t) from by
    unfold Dat.leavesExact; rw [liveAt0_28_B t (fun h => h0 ((hcond0_0 t).mp h)) ((hcond0_1 t).mpr h1)], after0_28]
  rw [outsAt0_B m c t h0 h1]
  simp only [before0_28_B m c t h0 h1]
  unfold out0_B_23 out0_B_24 out0_B_25 out0_B_26 out0_B_27 out0_B_28; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩⟩
  iapply ((kernelRun0_B c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) _).2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexact H28
  iintro ⟨H0, H1, H2, H3, H4, H5, H6, H7, H8, H9, H10, H11, H12, H13, H14, H15, H16, H17, H18, H19, H20, H21, H22, ⟨%e23, H23⟩, ⟨%e24, H24⟩, ⟨%e25, H25⟩, ⟨%e26, H26⟩, ⟨%e27, H27⟩, ⟨%e28, H28⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]
  · unfold owns; iexists _; isplitr
    swap; · iexact H23
    ipureintro; exact View.read_writes_of_cover _ _ _ _ _ (cover0_B_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H24]
  · unfold owns; iexists _; isplitr
    swap; · iexact H24
    ipureintro; exact View.read_writes_of_cover _ _ _ _ _ (cover0_B_24 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H25]
  · unfold owns; iexists _; isplitr
    swap; · iexact H25
    ipureintro; exact View.read_writes_of_cover _ _ _ _ _ (cover0_B_25 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H26]
  · unfold owns; iexists _; isplitr
    swap; · iexact H26
    ipureintro; exact View.read_writes_of_cover _ _ _ _ _ (cover0_B_26 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H27]
  · unfold owns; iexists _; isplitr
    swap; · iexact H27
    ipureintro; exact View.read_writes_of_cover _ _ _ _ _ (cover0_B_27 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H28
  ipureintro; exact View.read_writes_of_cover _ _ _ _ _ (cover0_B_28 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body at any point: the first or a later one. -/
theorem sound_body (c : Dev nD) (t : Fin cfg0.N) :
    bodyPre m c t ⊢ wp frame (wpE (defs₀ (F := F)) Variants.none c none) Set.univ (bodyAt0 t) (fun _ => bodyPost m c t) := by
  have hN : t.val < 8 := lt_of_lt_of_eq t.isLt (show cfg0.N = 8 from N_0)
  by_cases h1 : 1 ≤ t.val
  · exact sound_body_B m c t (by omega) h1
  · exact sound_body_A m c t (by omega) h1

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 2000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- THE LAUNCH: `run_main`'s statement, and every semaphore counter at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18))
      ∧ r.2.sem = fun _ => 0) :=
  θ_run_and (unchanged m ρ) ((θ_run defs _ _).mono (fun _ h => h.2) (run_main_quiescent m ρ))

end Cert.KernelIdeal.Gen

end
-- ==== Proof.Spec.lean ====
/- What one row of the input is quantised to, in plain mathematics over the extended reals: the two parallel codebooks, the two serial ones
   behind their small networks, the output row and the four squared errors.  Both programs are compared with these functions. -/
module

public import Idealize.ShloMosaic.Lib.Pointwise

@[expose] public section

noncomputable section

namespace Cert.Vq

open Idealize.ShloMosaic

/-- An affine layer with weights `w` (one row for each output) and bias `b`, applied to the row `x`. -/
def lin {a n : ℕ} (w : Fin n → Fin a → EReal) (b : Fin n → EReal) (x : Fin a → EReal) (j : Fin n) : EReal :=
  (∑ i, x i * w j i) + b j

/-- The squared distance of the row `z` from code `k`, as both programs write it: `|z|² − 2·z·c + |c|²`. -/
def dist {a n : ℕ} (cb : Fin n → Fin a → EReal) (z : Fin a → EReal) (k : Fin n) : EReal :=
  ((∑ i, z i * z i) - Ideal.ofBits .f32 0x40000000#32 * ∑ i, z i * cb k i) + ∑ i, cb k i * cb k i

/-- `k` is the first position at which `d` is least. -/
def Least {n : ℕ} (d : Fin n → EReal) (k : Fin n) : Prop := (∀ l, d k ≤ d l) ∧ ∀ l, l < k → d k < d l

/-- A nonempty finite family has a first least position. -/
theorem exists_least {n : ℕ} [NeZero n] (d : Fin n → EReal) : ∃ k, Least d k := by
  obtain ⟨m, -, hm⟩ := Finset.exists_min_image Finset.univ d ⟨0, Finset.mem_univ _⟩
  obtain ⟨k, hk, hmin⟩ := Finset.exists_min_image (Finset.univ.filter fun k => d k = d m) id
    ⟨m, by simp⟩
  have hk' : d k = d m := (Finset.mem_filter.mp hk).2
  refine ⟨k, fun l => hk' ▸ hm l (Finset.mem_univ _), fun l hl => ?_⟩
  refine lt_of_le_of_ne (hk' ▸ hm l (Finset.mem_univ _)) fun he => ?_
  exact absurd (hmin l (Finset.mem_filter.mpr ⟨Finset.mem_univ _, he ▸ hk'⟩)) (not_le.mpr hl)

/-- There is only one first least position. -/
theorem Least.unique {n : ℕ} {d : Fin n → EReal} {k l : Fin n} (hk : Least d k) (hl : Least d l) : k = l := by
  rcases lt_trichotomy k l with h | h | h
  · exact absurd (hk.1 l) (not_le.mpr (hl.2 k h))
  · exact h
  · exact absurd (hl.1 k) (not_le.mpr (hk.2 l h))

/-- The first position at which `d` is least. -/
def pick {n : ℕ} [NeZero n] (d : Fin n → EReal) : Fin n := Classical.choose (exists_least d)

/-- `pick` is what its name says. -/
theorem pick_least {n : ℕ} [NeZero n] (d : Fin n → EReal) : Least d (pick d) := Classical.choose_spec (exists_least d)

/-- Any first least position is `pick`. -/
theorem Least.eq_pick {n : ℕ} [NeZero n] {d : Fin n → EReal} {k : Fin n} (h : Least d k) : k = pick d :=
  h.unique (pick_least d)

/-- The index of the code nearest to `z`. -/
def code {a n : ℕ} [NeZero n] (cb : Fin n → Fin a → EReal) (z : Fin a → EReal) : Fin n := pick (dist cb z)

/-- The code nearest to `z`. -/
def near {a n : ℕ} [NeZero n] (cb : Fin n → Fin a → EReal) (z : Fin a → EReal) : Fin a → EReal := cb (code cb z)

/-- The quantised row passed on: `z + (e − z)` with `e` the nearest code. -/
def pass {a n : ℕ} [NeZero n] (cb : Fin n → Fin a → EReal) (z : Fin a → EReal) (j : Fin a) : EReal :=
  z j + (near cb z j - z j)

/-- The squared error of the nearest code. -/
def err {a n : ℕ} [NeZero n] (cb : Fin n → Fin a → EReal) (z : Fin a → EReal) : EReal :=
  ∑ j, (near cb z j - z j) * (near cb z j - z j)

/-- The exact Gaussian-error activation, `½·t·(1 + erf(t·(1/√2)))`. -/
def gelu (t : EReal) : EReal :=
  Ideal.ofBits .f32 0x3F000000#32 * t * (1 + Ideal.erf (t * (((Real.sqrt 2)⁻¹ : ℝ) : EReal)))

/-- Two rows side by side. -/
def cat {a b n : ℕ} (h : n = a + b) (x : Fin a → EReal) (y : Fin b → EReal) (j : Fin n) : EReal :=
  if hj : j.val < a then x ⟨j.val, hj⟩ else y ⟨j.val - a, by have := j.isLt; omega⟩

/-- The parameters of the quantiser, as plain matrices and rows. -/
structure Params where
  /-- The first projection's weights. -/
  pw0 : Fin 128 → Fin 768 → EReal
  /-- The first projection's bias. -/
  pb0 : Fin 128 → EReal
  /-- The second projection's weights. -/
  pw1 : Fin 128 → Fin 768 → EReal
  /-- The second projection's bias. -/
  pb1 : Fin 128 → EReal
  /-- The first parallel codebook. -/
  cb0 : Fin 1024 → Fin 128 → EReal
  /-- The second parallel codebook. -/
  cb1 : Fin 1024 → Fin 128 → EReal
  /-- The first serial stage's inner layer. -/
  sw1 : Fin 128 → Fin 256 → EReal
  /-- Its bias. -/
  sb1 : Fin 128 → EReal
  /-- The first serial stage's outer layer. -/
  sw2 : Fin 256 → Fin 128 → EReal
  /-- Its bias. -/
  sb2 : Fin 256 → EReal
  /-- The first serial codebook. -/
  sc : Fin 1024 → Fin 256 → EReal
  /-- The second serial stage's inner layer. -/
  tw1 : Fin 256 → Fin 512 → EReal
  /-- Its bias. -/
  tb1 : Fin 256 → EReal
  /-- The second serial stage's outer layer. -/
  tw2 : Fin 256 → Fin 256 → EReal
  /-- Its bias. -/
  tb2 : Fin 256 → EReal
  /-- The second serial codebook. -/
  tc : Fin 1024 → Fin 256 → EReal
  /-- The output layer's weights. -/
  ow : Fin 768 → Fin 768 → EReal
  /-- The output layer's bias. -/
  ob : Fin 768 → EReal

namespace Params

variable (P : Params) (x : Fin 768 → EReal)

/-- The first projection of the row. -/
def z0 : Fin 128 → EReal := lin P.pw0 P.pb0 x
/-- The second projection of the row. -/
def z1 : Fin 128 → EReal := lin P.pw1 P.pb1 x
/-- The two quantised projections side by side. -/
def c : Fin 256 → EReal := cat rfl (pass P.cb0 (P.z0 x)) (pass P.cb1 (P.z1 x))
/-- The first serial stage's row: the network behind the quantised projections. -/
def u0 : Fin 256 → EReal := lin P.sw2 P.sb2 fun j => gelu (lin P.sw1 P.sb1 (P.c x) j)
/-- The first serial stage's quantised row. -/
def s0 : Fin 256 → EReal := pass P.sc (P.u0 x)
/-- The second serial stage's row. -/
def u1 : Fin 256 → EReal := lin P.tw2 P.tb2 fun j => gelu (lin P.tw1 P.tb1 (cat rfl (P.c x) (P.s0 x)) j)
/-- The second serial stage's quantised row. -/
def s1 : Fin 256 → EReal := pass P.tc (P.u1 x)
/-- The output row: the last layer over everything quantised. -/
def zq (j : Fin 768) : EReal :=
  lin P.ow P.ob (cat (a := 512) (b := 256) rfl (cat (a := 256) (b := 256) rfl (P.c x) (P.s0 x)) (P.s1 x)) j

end Params

end Cert.Vq

end

end
-- ==== Proof.KerDist.lean ====
/- The kernel's distance matrices, read at one row and one code: the row's square sum is taken in lanes of eight and folded, and that is the
   plain sum. -/
module

public import proofs.«01_k».proof.Proof.Gen.KernelIdeal.Skeleton
public import proofs.«01_k».proof.Proof.Spec

@[expose] public section

set_option maxRecDepth 16384

noncomputable section

open Idealize.ShloMosaic Idealize.ShloMosaic.TcCoe Idealize.SL.Sem

namespace Cert.KernelIdeal.Row

open Cert.KernelIdeal Cert.KernelIdeal.Gen Cert.Vq

/-- Eight lanes folded four, two, one are their sum. -/
theorem fold8 (g : Fin 8 → EReal) :
    ((g 0 + g 4) + (g 2 + g 6)) + ((g 1 + g 5) + (g 3 + g 7)) = ∑ j, g j := by
  rw [Fin.sum_univ_eight]
  ac_rfl

/-- A sum over `J * 8` positions, taken lane by lane. -/
theorem lanes (J n : ℕ) (h : n = J * 8) (f : Fin n → EReal) :
    ∑ i, f i = ∑ l : Fin 8, ∑ m : Fin J, f ⟨m.val * 8 + l.val, by have := m.isLt; have := l.isLt; omega⟩ := by
  subst h
  rw [Fin.sum_univ_tiles J 8 rfl f, Finset.sum_comm]

/-- A sum of 16 terms, written out. -/
theorem sum16 (f : Fin 16 → EReal) :
    ∑ m, f m = f 0 + f 1 + f 2 + f 3 + f 4 + f 5 + f 6 + f 7 + f 8 + f 9 + f 10 + f 11 + f 12 + f 13 + f 14 + f 15 := by
  simp only [Fin.sum_univ_castSucc, Fin.sum_univ_zero, zero_add]
  rfl

/-- A sum of 32 terms, written out. -/
theorem sum32 (f : Fin 32 → EReal) :
    ∑ m, f m = f 0 + f 1 + f 2 + f 3 + f 4 + f 5 + f 6 + f 7 + f 8 + f 9 + f 10 + f 11 + f 12 + f 13 + f 14 + f 15 + f 16 + f 17 + f 18 + f 19 + f 20 + f 21 + f 22 + f 23 + f 24 + f 25 + f 26 + f 27 + f 28 + f 29 + f 30 + f 31 := by
  simp only [Fin.sum_univ_castSucc, Fin.sum_univ_zero, zero_add]
  rfl

set_option maxHeartbeats 2000000 in
/-- The second parallel stage's distance of row `r` from code `k`, before its parts are named. -/
theorem dist128_at (v94 : FVec Ideal S1024x128 .f32) (v95 : FVec Ideal S128 .f32) (cb : FVec Ideal S1024x128 .f32) (cc : FVec Ideal S1x1024 .f32)
    (r k : Fin 1024) :
    k0_pay16 v94 v95 cb cc (ix2 r k)
      = ((∑ i, k0_pay15 v94 v95 (ix2 r i) * k0_pay15 v94 v95 (ix2 r i))
          - Ideal.ofBits .f32 0x40000000#32 * ∑ i, k0_pay15 v94 v95 (ix2 r i) * cb (ix2 k i)) + cc (ix2 0 k) := by
  rw [lanes 16 128 rfl fun i => k0_pay15 v94 v95 (ix2 r i) * k0_pay15 v94 v95 (ix2 r i), ← fold8]
  generalize hz : k0_pay15 v94 v95 = z
  pointwise [k0_pay16]
  rw [hz]
  simp only [sum16]
  rfl

/-- The sum of the first 13 groups of eight columns, as the second serial stage starts its square sum. -/
def head (s : FVec Ideal S1024x256 .f32) : FVec Ideal S1024x8 .f32 :=
  (addf (addf (addf (addf (addf (addf (addf (addf (addf (addf (addf (addf (extractStridedSlice S1024x8 ![0, 0] s slices_S1024x256_o0_0_S1024x8)
    (extractStridedSlice S1024x8 ![0, 8] s slices_S1024x256_o0_8_S1024x8))
    (extractStridedSlice S1024x8 ![0, 16] s slices_S1024x256_o0_16_S1024x8))
    (extractStridedSlice S1024x8 ![0, 24] s slices_S1024x256_o0_24_S1024x8))
    (extractStridedSlice S1024x8 ![0, 32] s slices_S1024x256_o0_32_S1024x8))
    (extractStridedSlice S1024x8 ![0, 40] s slices_S1024x256_o0_40_S1024x8))
    (extractStridedSlice S1024x8 ![0, 48] s slices_S1024x256_o0_48_S1024x8))
    (extractStridedSlice S1024x8 ![0, 56] s slices_S1024x256_o0_56_S1024x8))
    (extractStridedSlice S1024x8 ![0, 64] s slices_S1024x256_o0_64_S1024x8))
    (extractStridedSlice S1024x8 ![0, 72] s slices_S1024x256_o0_72_S1024x8))
    (extractStridedSlice S1024x8 ![0, 80] s slices_S1024x256_o0_80_S1024x8))
    (extractStridedSlice S1024x8 ![0, 88] s slices_S1024x256_o0_88_S1024x8))
    (extractStridedSlice S1024x8 ![0, 96] s slices_S1024x256_o0_96_S1024x8))

/-- The distance matrix of a serial stage, as a function of the stage's rows, its codebook and the codebook's square norms. -/
def dist256 (u : FVec Ideal S1024x256 .f32) (cb : FVec Ideal S1024x256 .f32) (cc : FVec Ideal S1x1024 .f32) : FVec Ideal S1024x1024 .f32 :=
  k0_pay34 u cb cc (mulf u u) (head (mulf u u))

set_option maxHeartbeats 2000000 in
/-- A serial stage's distance of row `r` from code `k`. -/
theorem dist256_at (z : FVec Ideal S1024x256 .f32) (cb : FVec Ideal S1024x256 .f32) (cc : FVec Ideal S1x1024 .f32) (r k : Fin 1024) :
    dist256 z cb cc (ix2 r k)
      = ((∑ i, z (ix2 r i) * z (ix2 r i)) - Ideal.ofBits .f32 0x40000000#32 * ∑ i, z (ix2 r i) * cb (ix2 k i)) + cc (ix2 0 k) := by
  rw [lanes 32 256 rfl fun i => z (ix2 r i) * z (ix2 r i), ← fold8]
  pointwise [dist256, head, k0_pay34]
  simp only [sum32]
  rfl

/-- The second serial stage's running square sum, by the shared name. -/
theorem head_eq (v298 : FVec Ideal S1024x512 .f32) (v299 : FVec Ideal S256x512 .f32) (c0 : FVec Ideal S1024x256 .f32) (v301 : FVec Ideal S256 .f32)
    (v313 : FVec Ideal S256x256 .f32) (v315 : FVec Ideal S256 .f32) :
    k0_pay33 v298 v299 c0 v301 v313 v315
      = head (mulf (k0_pay30 v298 v299 c0 v301 v313 v315) (k0_pay30 v298 v299 c0 v301 v313 v315)) := rfl

/-- The first serial stage's chosen codes, by the shared names. -/
theorem codes256_eq (u cb : FVec Ideal S1024x256 .f32) (cc : FVec Ideal S1x1024 .f32) :
    k0_pay25 u cb cc (k0_pay23 u) (k0_pay24 u) = k0_pay17 (dist256 u cb cc) := rfl

/-- The second serial stage's chosen codes, by the shared names. -/
theorem codes_eq (d : FVec Ideal S1024x1024 .f32) :
    k0_pay36 d (shapeCast S1024x1 (multiReduction .minimumf [1] S1024 d 0x7F800000#32 reduces_S1024x1024_S1024 (.inl rfl) rfl) shapeCasts_S1024_S1024x1)
      (iota .tc S1024x1024 32 [1] iota_S1024x1024_d1_w32) = k0_pay17 d := rfl

/-- The first parallel stage's chosen codes, by the names of the second's. -/
theorem codes128_eq (x : FVec Ideal S1024x768 .f32) (w : FVec Ideal S128x768 .f32) (b : FVec Ideal S128 .f32) (cb : FVec Ideal S1024x128 .f32)
    (cc : FVec Ideal S1x1024 .f32) :
    k0_pay10 (k0_pay5 (F := Ideal) x w b) cb (k0_pay6 (F := Ideal) cc) (k0_pay8 (F := Ideal) x w b) (k0_pay9 (F := Ideal) x w b)
      = k0_pay17 (F := Ideal) (k0_pay16 (F := Ideal) (k0_pay14 (F := Ideal) (k0_pay4 (F := Ideal) x) w) b cb cc) := rfl

end Cert.KernelIdeal.Row

end

end
-- ==== Proof.KerPick.lean ====
/- What the kernel reads off a distance matrix: the index of each row's first least entry, the code at that index and the squared error. -/
module

public import proofs.«01_k».proof.Proof.KerDist

@[expose] public section

set_option maxRecDepth 16384

noncomputable section

open Idealize.ShloMosaic Idealize.ShloMosaic.TcCoe Idealize.SL.Sem

namespace Cert.KernelIdeal.Row

open Cert.KernelIdeal Cert.KernelIdeal.Gen Cert.Vq

/-- The word `+∞` of the minimum's starting value. -/
theorem inf_bits : Ideal.ofBits .f32 0x7F800000#32 = ⊤ := by
  simp [Ideal.ofBits, Ideal.ieee]

/-- Folding the minimum over a row from `+∞` gives the row's least entry. -/
theorem fold_min_eq (d : Fin 1024 → EReal) : Finset.univ.fold min ⊤ d = d (pick d) := by
  refine le_antisymm ?_ ?_
  · exact (Finset.fold_min_le _).mpr (Or.inr ⟨pick d, Finset.mem_univ _, le_rfl⟩)
  · exact (Finset.le_fold_min _).mpr ⟨le_top, fun l _ => (pick_least d).1 l⟩

/-- The signed minimum of two words has the smaller integer value. -/
theorem toInt_minsi (x y : BitVec 32) : (IntOp.minsi x y).toInt = min x.toInt y.toInt := by
  unfold IntOp.minsi
  simp only [BitVec.slt_iff_toInt_lt, BitVec.sle_iff_toInt_le]
  split <;> omega

/-- A small index as a word has itself as integer value. -/
theorem toInt_small (k : ℕ) (h : k ≤ 1024) : (BitVec.ofNat 32 k).toInt = k := by
  rw [BitVec.toInt_eq_toNat_cond, BitVec.toNat_ofNat]
  omega

/-- Folding the signed minimum over the positions at which `d` is least, every other position counting as 1024, gives the first of them. -/
theorem fold_minsi_eq (d : Fin 1024 → EReal) :
    Finset.univ.fold IntOp.minsi (2147483647#32) (fun x => if d x = d (pick d) then BitVec.ofNat 32 x.val else 1024#32)
      = BitVec.ofNat 32 (pick d).val := by
  apply BitVec.eq_of_toInt_eq
  rw [← Finset.fold_hom (op' := min) (m := BitVec.toInt) toInt_minsi, toInt_small _ (pick d).isLt.le]
  refine le_antisymm ?_ ?_
  · refine (Finset.fold_min_le _).mpr (Or.inr ⟨pick d, Finset.mem_univ _, ?_⟩)
    rw [if_pos rfl, toInt_small _ (pick d).isLt.le]
  · refine (Finset.le_fold_min _).mpr ⟨?_, fun l _ => ?_⟩
    · have := (pick d).isLt
      have h : (2147483647#32).toInt = 2147483647 := by decide
      omega
    · by_cases h : d l = d (pick d)
      · rw [if_pos h, toInt_small _ l.isLt.le]
        by_contra hlt
        have hl : l < pick d := by rw [Fin.lt_def]; omega
        exact absurd h.symm ((pick_least d).2 l hl).ne
      · rw [if_neg h]
        have := (pick d).isLt
        have h : (1024#32).toInt = 1024 := by decide
        omega

/-- The kernel's index for row `r` is that of the row's first least distance. -/
theorem codes_at (d : FVec Ideal S1024x1024 .f32) (r : Fin 1024) :
    k0_pay17 d (ix1 r) = BitVec.ofNat 32 (pick fun k => d (ix2 r k)).val := by
  pointwise [k0_pay17]
  rw [inf_bits, fold_min_eq fun k => d (ix2 r k)]
  exact fold_minsi_eq fun k => d (ix2 r k)

/-- A row of the indicator matrix of an index picks out one term of a sum. -/
theorem onehot_sum (p : Fin 1024) (w : BitVec 32) (hw : w = BitVec.ofNat 32 p.val) (f : Fin 1024 → EReal) :
    (∑ x : Fin 1024, FloatOps.sitofp (F := Ideal) FTy.f32 (BitVec.setWidth 32 (IntOp.cmpi CmpIPredicate.eq (BitVec.ofNat 32 x.val) w)) * f x : EReal)
      = f p := by
  subst hw
  rw [Finset.sum_eq_single p]
  · have h : FloatOps.sitofp (F := Ideal) FTy.f32 (1#32) = (1 : EReal) := by
      show (((1#32 : BitVec 32).toInt : ℝ) : EReal) = 1
      simp
    simp [IntOp.cmpi, h]
  · intro x _ hx
    have hne : (BitVec.ofNat 32 x.val : BitVec 32) ≠ BitVec.ofNat 32 p.val := by
      intro h
      have := congrArg BitVec.toNat h
      have h1 := x.isLt
      have h2 := p.isLt
      simp only [BitVec.toNat_ofNat] at this
      exact hx (Fin.ext (by omega))
    have hb : (BitVec.ofNat 32 x.val == BitVec.ofNat 32 p.val) = false := by simpa using hne
    have h : FloatOps.sitofp (F := Ideal) FTy.f32 (0#32) = (0 : EReal) := by
      show (((0#32 : BitVec 32).toInt : ℝ) : EReal) = 0
      simp
    simp only [IntOp.cmpi, hb, BitVec.ofBool_false]
    exact (congrArg (· * f x) h).trans (zero_mul _)
  · exact fun h => absurd (Finset.mem_univ _) h

/-- The chosen code of a parallel stage's row. -/
theorem chosen128 (cb : FVec Ideal S1024x128 .f32) (d : FVec Ideal S1024x1024 .f32) (r : Fin 1024) (j : Fin 128) :
    k0_pay18 cb d (ix2 r j) = cb (ix2 (pick fun k => d (ix2 r k)) j) := by
  pointwise [k0_pay18]
  exact onehot_sum _ _ (codes_at d r) fun x => cb (ix2 x j)

/-- The squared error of a parallel stage over the block. -/
theorem err128 (z cb : FVec Ideal S1024x128 .f32) (d : FVec Ideal S1024x1024 .f32) :
    k0_pay19 z cb d = ∑ r : Fin 1024, ∑ j : Fin 128,
      (cb (ix2 (pick fun k => d (ix2 r k)) j) - z (ix2 r j)) * (cb (ix2 (pick fun k => d (ix2 r k)) j) - z (ix2 r j)) := by
  simp only [← chosen128]
  pointwise [k0_pay19]

/-- The chosen codes of a serial stage, from its distance matrix. -/
def chosen (cb : FVec Ideal S1024x256 .f32) (d : FVec Ideal S1024x1024 .f32) : FVec Ideal S1024x256 .f32 :=
  k0_pay37 cb d (shapeCast S1024x1 (multiReduction .minimumf [1] S1024 d 0x7F800000#32 reduces_S1024x1024_S1024 (.inl rfl) rfl) shapeCasts_S1024_S1024x1)
    (iota .tc S1024x1024 32 [1] iota_S1024x1024_d1_w32)

/-- The chosen code of a serial stage's row. -/
theorem chosen_at (cb : FVec Ideal S1024x256 .f32) (d : FVec Ideal S1024x1024 .f32) (r : Fin 1024) (j : Fin 256) :
    chosen cb d (ix2 r j) = cb (ix2 (pick fun k => d (ix2 r k)) j) := by
  have h := codes_at d r
  rw [← codes_eq] at h
  pointwise [chosen, k0_pay37]
  exact onehot_sum _ _ h fun x => cb (ix2 x j)

/-- The squared error of a serial stage over the block. -/
theorem err256 (z cb : FVec Ideal S1024x256 .f32) (d : FVec Ideal S1024x1024 .f32) :
    k0_pay38 z cb d (shapeCast S1024x1 (multiReduction .minimumf [1] S1024 d 0x7F800000#32 reduces_S1024x1024_S1024 (.inl rfl) rfl) shapeCasts_S1024_S1024x1)
      (iota .tc S1024x1024 32 [1] iota_S1024x1024_d1_w32) = ∑ r : Fin 1024, ∑ j : Fin 256,
      (cb (ix2 (pick fun k => d (ix2 r k)) j) - z (ix2 r j)) * (cb (ix2 (pick fun k => d (ix2 r k)) j) - z (ix2 r j)) := by
  simp only [← chosen_at]
  pointwise [k0_pay38, chosen]

end Cert.KernelIdeal.Row

end

end
-- ==== Proof.KerRow.lean ====
/- The kernel's layers, read at one row: the projections, the two small networks and the output layer are the plain affine layers of the
   row. -/
module

public import proofs.«01_k».proof.Proof.KerPick

@[expose] public section

set_option maxRecDepth 16384

noncomputable section

open Idealize.ShloMosaic Idealize.ShloMosaic.TcCoe Idealize.SL.Sem

namespace Cert.KernelIdeal.Row

open Cert.KernelIdeal Cert.KernelIdeal.Gen Cert.Vq

/-- The constant both networks use is `1/√2`. -/
theorem scale_eq : Named.named (F := Ideal) Cert.KernelIdeal.κ "inv_sqrt2" (φ := .f32) 0x3F3504F3#32 = (((Real.sqrt 2)⁻¹ : ℝ) : EReal) :=
  IdealRules.named_const.ideal_named_scalar _ _ _ _ rfl

/-- A sum over 768 positions is that over the first 512 and that over the other 256. -/
theorem sum768 (f : Fin 768 → EReal) :
    ∑ i, f i = ∑ i : Fin 512, f ⟨i.val, by have := i.isLt; omega⟩ + ∑ i : Fin 256, f ⟨512 + i.val, by have := i.isLt; omega⟩ :=
  Fin.sum_univ_add (a := 512) (b := 256) f

/-- A parallel stage's projection of row `r`. -/
theorem proj (x : FVec Ideal S1024x768 .f32) (w : FVec Ideal S128x768 .f32) (b : FVec Ideal S128 .f32) (r : Fin 1024) (j : Fin 128) :
    k0_pay15 (k0_pay14 (k0_pay4 (F := Ideal) x) w) b (ix2 r j)
      = lin (fun j i => w (ix2 j i)) (fun j => b (ix1 j)) (fun i => x (ix2 r i)) j := by
  unfold lin
  rw [sum768]
  pointwise [k0_pay15, k0_pay14, k0_pay4]

/-- The two quantised projections side by side. -/
theorem quant (z0 z1 cb : FVec Ideal S1024x128 .f32) (d : FVec Ideal S1024x1024 .f32) (r : Fin 1024) (j : Fin 256) :
    k0_pay20 z0 z1 cb d (ix2 r j)
      = cat (a := 128) (b := 128) rfl (fun j => z0 (ix2 r j)) (fun j => z1 (ix2 r j) + (cb (ix2 (pick fun k => d (ix2 r k)) j) - z1 (ix2 r j))) j := by
  simp only [← chosen128]
  pointwise [k0_pay20]
  rfl

/-- The first serial stage's network on row `r`. -/
theorem mlp0 (z0 z1 cb : FVec Ideal S1024x128 .f32) (d : FVec Ideal S1024x1024 .f32) (w1 : FVec Ideal S128x256 .f32) (b1 : FVec Ideal S128 .f32)
    (w2 : FVec Ideal S256x128 .f32) (b2 : FVec Ideal S256 .f32) (r : Fin 1024) (j : Fin 256) :
    k0_pay21 z0 z1 cb d w1 b1 w2 b2 (ix2 r j)
      = lin (fun j i => w2 (ix2 j i)) (fun j => b2 (ix1 j))
          (fun k => gelu (lin (fun j i => w1 (ix2 j i)) (fun j => b1 (ix1 j)) (fun i => k0_pay20 z0 z1 cb d (ix2 r i)) k)) j := by
  unfold lin gelu
  rw [← scale_eq]
  pointwise [k0_pay21]
  rfl

/-- The second serial stage's network on row `r`. -/
theorem mlp1 (c : FVec Ideal S1024x512 .f32) (w1 : FVec Ideal S256x512 .f32) (b1 : FVec Ideal S256 .f32)
    (w2 : FVec Ideal S256x256 .f32) (b2 : FVec Ideal S256 .f32) (r : Fin 1024) (j : Fin 256) :
    k0_pay30 c w1 (constant S1024x256 .f32 0x00000000#32) b1 w2 b2 (ix2 r j)
      = lin (fun j i => w2 (ix2 j i)) (fun j => b2 (ix1 j))
          (fun k => gelu (lin (fun j i => w1 (ix2 j i)) (fun j => b1 (ix1 j)) (fun i => c (ix2 r i)) k)) j := by
  unfold lin gelu
  rw [← scale_eq]
  pointwise [k0_pay30]
  rfl

/-- The output layer on row `r`. -/
theorem out (c s0 u cb : FVec Ideal S1024x256 .f32) (d : FVec Ideal S1024x1024 .f32) (dm : FVec Ideal S1024x1 .f32) (io : IVec S1024x1024 32)
    (w : FVec Ideal S768x768 .f32) (b : FVec Ideal S768 .f32) (r : Fin 1024) (j : Fin 768) :
    k0_pay39 c s0 u cb d dm io w b (ix2 r j)
      = lin (fun j i => w (ix2 j i)) (fun j => b (ix1 j))
          (cat (a := 512) (b := 256) rfl
            (cat (a := 256) (b := 256) rfl (fun j => c (ix2 r j)) (fun j => s0 (ix2 r j)))
            (fun j => u (ix2 r j) + (k0_pay37 cb d dm io (ix2 r j) - u (ix2 r j)))) j := by
  unfold lin
  rw [sum768]
  pointwise [k0_pay39]
  refine congrArg (· + _) (congrArg₂ (· + ·) (Finset.sum_congr rfl fun i _ => congrArg (· * _) ?_) (Finset.sum_congr rfl fun i _ => congrArg (· * _) ?_))
  · have hi := i.isLt
    unfold cat
    rw [dif_pos (show (⟨i.val, by omega⟩ : Fin 768).val < 512 from hi)]
    by_cases h : i.val < 256
    · rw [dif_pos h, dif_pos h]
    · rw [dif_neg h, dif_neg h, dif_pos (by omega)]
  · have hi := i.isLt
    unfold cat
    rw [dif_neg (show ¬ (512 + i.val < 256) by omega), dif_neg (show ¬ (512 + i.val - 256 < 256) by omega), dif_neg (show ¬ (512 + i.val < 512) by omega)]
    simp only [show 512 + i.val - 256 - 256 = 512 + i.val - 512 by omega]

end Cert.KernelIdeal.Row

end

end
-- ==== Proof.KerBlock.lean ====
/- What one grid point computes from its blocks, in the names of the row specification: the output rows, the four chosen indices of each row
   and the block's share of the loss. -/
module

public import proofs.«01_k».proof.Proof.KerRow

@[expose] public section

set_option maxRecDepth 16384

noncomputable section

open Idealize.ShloMosaic Idealize.ShloMosaic.TcCoe Idealize.SL.Sem

namespace Cert.KernelIdeal.Row

open Cert.KernelIdeal Cert.KernelIdeal.Gen Cert.Vq

/-- The blocks a grid point reads: the input rows, the parameters and the four rows of square norms. -/
structure Blocks where
  /-- The block of input rows. -/
  x : FVec Ideal S1024x768 .f32
  /-- The first projection's weights. -/
  pw0 : FVec Ideal S128x768 .f32
  /-- The first projection's bias. -/
  pb0 : FVec Ideal S128 .f32
  /-- The second projection's weights. -/
  pw1 : FVec Ideal S128x768 .f32
  /-- The second projection's bias. -/
  pb1 : FVec Ideal S128 .f32
  /-- The first parallel codebook. -/
  cb0 : FVec Ideal S1024x128 .f32
  /-- The second parallel codebook. -/
  cb1 : FVec Ideal S1024x128 .f32
  /-- The first serial stage's inner layer. -/
  sw1 : FVec Ideal S128x256 .f32
  /-- Its bias. -/
  sb1 : FVec Ideal S128 .f32
  /-- The first serial stage's outer layer. -/
  sw2 : FVec Ideal S256x128 .f32
  /-- Its bias. -/
  sb2 : FVec Ideal S256 .f32
  /-- The first serial codebook. -/
  sc : FVec Ideal S1024x256 .f32
  /-- The second serial stage's inner layer. -/
  tw1 : FVec Ideal S256x512 .f32
  /-- Its bias. -/
  tb1 : FVec Ideal S256 .f32
  /-- The second serial stage's outer layer. -/
  tw2 : FVec Ideal S256x256 .f32
  /-- Its bias. -/
  tb2 : FVec Ideal S256 .f32
  /-- The second serial codebook. -/
  tc : FVec Ideal S1024x256 .f32
  /-- The output layer's weights. -/
  ow : FVec Ideal S768x768 .f32
  /-- The output layer's bias. -/
  ob : FVec Ideal S768 .f32
  /-- The first parallel codebook's square norms. -/
  n0 : FVec Ideal S1x1024 .f32
  /-- The second parallel codebook's square norms. -/
  n1 : FVec Ideal S1x1024 .f32
  /-- The first serial codebook's square norms. -/
  n2 : FVec Ideal S1x1024 .f32
  /-- The second serial codebook's square norms. -/
  n3 : FVec Ideal S1x1024 .f32

namespace Blocks

variable (I : Blocks)

/-- The parameters as plain matrices. -/
def params : Params where
  pw0 j i := I.pw0 (ix2 j i)
  pb0 j := I.pb0 (ix1 j)
  pw1 j i := I.pw1 (ix2 j i)
  pb1 j := I.pb1 (ix1 j)
  cb0 k i := I.cb0 (ix2 k i)
  cb1 k i := I.cb1 (ix2 k i)
  sw1 j i := I.sw1 (ix2 j i)
  sb1 j := I.sb1 (ix1 j)
  sw2 j i := I.sw2 (ix2 j i)
  sb2 j := I.sb2 (ix1 j)
  sc k i := I.sc (ix2 k i)
  tw1 j i := I.tw1 (ix2 j i)
  tb1 j := I.tb1 (ix1 j)
  tw2 j i := I.tw2 (ix2 j i)
  tb2 j := I.tb2 (ix1 j)
  tc k i := I.tc (ix2 k i)
  ow j i := I.ow (ix2 j i)
  ob j := I.ob (ix1 j)

/-- Row `r` of the input block. -/
def row (r : Fin 1024) : Fin 768 → EReal := fun i => I.x (ix2 r i)

/-- The rows of square norms hold the codes' square norms. -/
structure Norms : Prop where
  /-- for the first parallel codebook -/
  h0 : ∀ k : Fin 1024, I.n0 (ix2 0 k) = ∑ i : Fin 128, I.cb0 (ix2 k i) * I.cb0 (ix2 k i)
  /-- for the second parallel codebook -/
  h1 : ∀ k : Fin 1024, I.n1 (ix2 0 k) = ∑ i : Fin 128, I.cb1 (ix2 k i) * I.cb1 (ix2 k i)
  /-- for the first serial codebook -/
  h2 : ∀ k : Fin 1024, I.n2 (ix2 0 k) = ∑ i : Fin 256, I.sc (ix2 k i) * I.sc (ix2 k i)
  /-- for the second serial codebook -/
  h3 : ∀ k : Fin 1024, I.n3 (ix2 0 k) = ∑ i : Fin 256, I.tc (ix2 k i) * I.tc (ix2 k i)

/-- The first projection of the block. -/
def z0 : FVec Ideal S1024x128 .f32 := k0_pay15 (k0_pay14 (k0_pay4 (F := Ideal) I.x) I.pw0) I.pb0
/-- The second projection of the block. -/
def z1 : FVec Ideal S1024x128 .f32 := k0_pay15 (k0_pay14 (k0_pay4 (F := Ideal) I.x) I.pw1) I.pb1
/-- The first parallel stage's distances. -/
def d0 : FVec Ideal S1024x1024 .f32 := k0_pay16 (F := Ideal) (k0_pay14 (k0_pay4 (F := Ideal) I.x) I.pw0) I.pb0 I.cb0 I.n0
/-- The second parallel stage's distances. -/
def d1 : FVec Ideal S1024x1024 .f32 := k0_pay16 (F := Ideal) (k0_pay14 (k0_pay4 (F := Ideal) I.x) I.pw1) I.pb1 I.cb1 I.n1
/-- The first parallel stage's quantised block. -/
def q0 : FVec Ideal S1024x128 .f32 := addf I.z0 (subf (k0_pay18 (F := Ideal) I.cb0 I.d0) I.z0)
/-- The two quantised blocks side by side. -/
def c : FVec Ideal S1024x256 .f32 := k0_pay20 (F := Ideal) I.q0 I.z1 I.cb1 I.d1
/-- The first serial stage's block. -/
def u0 : FVec Ideal S1024x256 .f32 := k0_pay21 (F := Ideal) I.q0 I.z1 I.cb1 I.d1 I.sw1 I.sb1 I.sw2 I.sb2
/-- The first serial stage's distances. -/
def d2 : FVec Ideal S1024x1024 .f32 := dist256 I.u0 I.sc (k0_pay22 (F := Ideal) I.n2)
/-- The first serial stage's quantised block. -/
def s0 : FVec Ideal S1024x256 .f32 := addf I.u0 (subf (chosen I.sc I.d2) I.u0)
/-- Everything quantised so far, side by side. -/
def c1 : FVec Ideal S1024x512 .f32 :=
  concatenate S1024x512 1 [⟨S1024x256, I.c⟩, ⟨S1024x256, I.s0⟩] concatenates_S1024x256_S1024x256_S1024x512_d1
/-- The second serial stage's block. -/
def u1 : FVec Ideal S1024x256 .f32 := k0_pay30 (F := Ideal) I.c1 I.tw1 (constant S1024x256 .f32 0x00000000#32) I.tb1 I.tw2 I.tb2
/-- The second serial stage's distances. -/
def d3 : FVec Ideal S1024x1024 .f32 := dist256 I.u1 I.tc (k0_pay31 (F := Ideal) I.n3)
/-- Each row's least distance in the second serial stage. -/
def m3 : FVec Ideal S1024x1 .f32 :=
  shapeCast S1024x1 (multiReduction .minimumf [1] S1024 I.d3 0x7F800000#32 reduces_S1024x1024_S1024 (.inl rfl) rfl) shapeCasts_S1024_S1024x1
/-- The code positions. -/
def pos : IVec S1024x1024 32 := iota .tc S1024x1024 32 [1] iota_S1024x1024_d1_w32
/-- The output block. -/
def zq : FVec Ideal S1024x768 .f32 := k0_pay39 (F := Ideal) I.c I.s0 I.u1 I.tc I.d3 I.m3 pos I.ow I.ob
/-- The four squared errors of the block. -/
def l0 : EReal := k0_pay19 (F := Ideal) I.z0 I.cb0 I.d0
/-- The second parallel stage's. -/
def l1 : EReal := k0_pay19 (F := Ideal) I.z1 I.cb1 I.d1
/-- The first serial stage's. -/
def l2 : EReal := k0_pay38 (F := Ideal) I.u0 I.sc I.d2
  (shapeCast S1024x1 (multiReduction .minimumf [1] S1024 I.d2 0x7F800000#32 reduces_S1024x1024_S1024 (.inl rfl) rfl) shapeCasts_S1024_S1024x1) pos
/-- The second serial stage's. -/
def l3 : EReal := k0_pay38 (F := Ideal) I.u1 I.tc I.d3 I.m3 pos

/-- The first projection's row. -/
theorem z0_at (r : Fin 1024) (j : Fin 128) : I.z0 (ix2 r j) = I.params.z0 (I.row r) j := proj I.x I.pw0 I.pb0 r j

/-- The second projection's row. -/
theorem z1_at (r : Fin 1024) (j : Fin 128) : I.z1 (ix2 r j) = I.params.z1 (I.row r) j := proj I.x I.pw1 I.pb1 r j

variable {I}

/-- The first parallel stage's distances from row `r`. -/
theorem d0_at (h : I.Norms) (r : Fin 1024) : (fun k : Fin 1024 => I.d0 (ix2 r k)) = dist I.params.cb0 (I.params.z0 (I.row r)) := by
  funext k
  refine (dist128_at _ _ _ _ r k).trans ?_
  have hz : I.params.z0 (I.row r) = fun i => I.z0 (ix2 r i) := funext fun i => (I.z0_at r i).symm
  rw [h.h0 k, hz]
  rfl

/-- The second parallel stage's distances from row `r`. -/
theorem d1_at (h : I.Norms) (r : Fin 1024) : (fun k : Fin 1024 => I.d1 (ix2 r k)) = dist I.params.cb1 (I.params.z1 (I.row r)) := by
  funext k
  refine (dist128_at _ _ _ _ r k).trans ?_
  have hz : I.params.z1 (I.row r) = fun i => I.z1 (ix2 r i) := funext fun i => (I.z1_at r i).symm
  rw [h.h1 k, hz]
  rfl

/-- The first parallel stage's quantised row. -/
theorem q0_at (h : I.Norms) (r : Fin 1024) (j : Fin 128) : I.q0 (ix2 r j) = pass I.params.cb0 (I.params.z0 (I.row r)) j := by
  show I.z0 (ix2 r j) + (k0_pay18 (F := Ideal) I.cb0 I.d0 (ix2 r j) - I.z0 (ix2 r j)) = _
  rw [chosen128, d0_at h, z0_at]
  rfl

/-- The quantised row before the serial stages. -/
theorem c_at (h : I.Norms) (r : Fin 1024) (j : Fin 256) : I.c (ix2 r j) = I.params.c (I.row r) j := by
  refine (quant _ _ _ _ r j).trans ?_
  simp only [d1_at h, q0_at h, z1_at]
  rfl

/-- The first serial stage's row. -/
theorem u0_at (h : I.Norms) (r : Fin 1024) (j : Fin 256) : I.u0 (ix2 r j) = I.params.u0 (I.row r) j := by
  refine (mlp0 _ _ _ _ _ _ _ _ r j).trans ?_
  have hc : (fun i : Fin 256 => k0_pay20 (F := Ideal) I.q0 I.z1 I.cb1 I.d1 (ix2 r i)) = I.params.c (I.row r) := funext (c_at h r)
  rw [hc]
  rfl

/-- The first serial stage's distances from row `r`. -/
theorem d2_at (h : I.Norms) (r : Fin 1024) : (fun k : Fin 1024 => I.d2 (ix2 r k)) = dist I.params.sc (I.params.u0 (I.row r)) := by
  funext k
  refine (dist256_at _ _ _ r k).trans ?_
  have hn : k0_pay22 (F := Ideal) I.n2 (ix2 0 k) = I.n2 (ix2 0 k) := by pointwise [k0_pay22]
  rw [hn, h.h2 k]
  simp only [u0_at h]
  rfl

/-- The first serial stage's quantised row. -/
theorem s0_at (h : I.Norms) (r : Fin 1024) (j : Fin 256) : I.s0 (ix2 r j) = I.params.s0 (I.row r) j := by
  show I.u0 (ix2 r j) + (chosen I.sc I.d2 (ix2 r j) - I.u0 (ix2 r j)) = _
  rw [chosen_at, d2_at h, u0_at h]
  rfl

/-- Everything quantised before the second serial stage. -/
theorem c1_at (h : I.Norms) (r : Fin 1024) (j : Fin 512) :
    I.c1 (ix2 r j) = cat (a := 256) (b := 256) rfl (I.params.c (I.row r)) (I.params.s0 (I.row r)) j := by
  have hc : I.params.c (I.row r) = fun j => I.c (ix2 r j) := funext fun j => (c_at h r j).symm
  have hs : I.params.s0 (I.row r) = fun j => I.s0 (ix2 r j) := funext fun j => (s0_at h r j).symm
  rw [hc, hs]
  pointwise [c1]
  rfl

/-- The second serial stage's row. -/
theorem u1_at (h : I.Norms) (r : Fin 1024) (j : Fin 256) : I.u1 (ix2 r j) = I.params.u1 (I.row r) j := by
  refine (mlp1 _ _ _ _ _ r j).trans ?_
  simp only [c1_at h]
  rfl

/-- The second serial stage's distances from row `r`. -/
theorem d3_at (h : I.Norms) (r : Fin 1024) : (fun k : Fin 1024 => I.d3 (ix2 r k)) = dist I.params.tc (I.params.u1 (I.row r)) := by
  funext k
  refine (dist256_at _ _ _ r k).trans ?_
  have hn : k0_pay31 (F := Ideal) I.n3 (ix2 0 k) = I.n3 (ix2 0 k) := by pointwise [k0_pay31]
  rw [hn, h.h3 k]
  simp only [u1_at h]
  rfl

/-- The output row. -/
theorem zq_at (h : I.Norms) (r : Fin 1024) (j : Fin 768) : I.zq (ix2 r j) = I.params.zq (I.row r) j := by
  refine (out _ _ _ _ _ _ _ _ _ r j).trans ?_
  have hs : (fun j : Fin 256 => I.u1 (ix2 r j) + (k0_pay37 (F := Ideal) I.tc I.d3 I.m3 pos (ix2 r j) - I.u1 (ix2 r j))) = I.params.s1 (I.row r) := by
    funext j
    rw [show k0_pay37 (F := Ideal) I.tc I.d3 I.m3 pos (ix2 r j) = _ from chosen_at I.tc I.d3 r j, d3_at h, u1_at h]
    rfl
  rw [hs]
  simp only [c_at h, s0_at h]
  rfl

/-- The index of a row's nearest code in the first parallel codebook. -/
theorem i0_at (h : I.Norms) (r : Fin 1024) :
    k0_pay17 I.d0 (ix1 r) = BitVec.ofNat 32 (code I.params.cb0 (I.params.z0 (I.row r))).val := by
  rw [codes_at, d0_at h]; rfl

/-- The index in the second parallel codebook. -/
theorem i1_at (h : I.Norms) (r : Fin 1024) :
    k0_pay17 I.d1 (ix1 r) = BitVec.ofNat 32 (code I.params.cb1 (I.params.z1 (I.row r))).val := by
  rw [codes_at, d1_at h]; rfl

/-- The index in the first serial codebook. -/
theorem i2_at (h : I.Norms) (r : Fin 1024) :
    k0_pay17 I.d2 (ix1 r) = BitVec.ofNat 32 (code I.params.sc (I.params.u0 (I.row r))).val := by
  rw [codes_at, d2_at h]; rfl

/-- The index in the second serial codebook. -/
theorem i3_at (h : I.Norms) (r : Fin 1024) :
    k0_pay17 I.d3 (ix1 r) = BitVec.ofNat 32 (code I.params.tc (I.params.u1 (I.row r))).val := by
  rw [codes_at, d3_at h]; rfl

/-- The first parallel stage's squared error over the block. -/
theorem l0_eq (h : I.Norms) : I.l0 = ∑ r : Fin 1024, err I.params.cb0 (I.params.z0 (I.row r)) := by
  refine (err128 _ _ _).trans ?_
  simp only [d0_at h, z0_at I]
  rfl

/-- The second parallel stage's squared error over the block. -/
theorem l1_eq (h : I.Norms) : I.l1 = ∑ r : Fin 1024, err I.params.cb1 (I.params.z1 (I.row r)) := by
  refine (err128 _ _ _).trans ?_
  simp only [d1_at h, z1_at]
  rfl

/-- The first serial stage's squared error over the block. -/
theorem l2_eq (h : I.Norms) : I.l2 = ∑ r : Fin 1024, err I.params.sc (I.params.u0 (I.row r)) := by
  refine (err256 I.u0 I.sc I.d2).trans ?_
  simp only [d2_at h, u0_at h]
  rfl

/-- The second serial stage's squared error over the block. -/
theorem l3_eq (h : I.Norms) : I.l3 = ∑ r : Fin 1024, err I.params.tc (I.params.u1 (I.row r)) := by
  refine (err256 I.u1 I.tc I.d3).trans ?_
  simp only [d3_at h, u1_at h]
  rfl

end Blocks

end Cert.KernelIdeal.Row

end

end
-- ==== Proof.KerFold.lean ====
/- The kernel's own chain of values at one grid point, folded stage by stage into the names of the block's specification. -/
module

public import proofs.«01_k».proof.Proof.KerBlock

@[expose] public section

set_option maxRecDepth 16384

noncomputable section

open Idealize.ShloMosaic Idealize.ShloMosaic.TcCoe Idealize.SL.Sem

namespace Cert.KernelIdeal.Row

open Cert.KernelIdeal Cert.KernelIdeal.Gen Cert.Vq

/-- The quantised rows of a serial stage, by the shared names. -/
theorem pass_eq (u cb : FVec Ideal S1024x256 .f32) (cc : FVec Ideal S1x1024 .f32) :
    k0_pay28 u cb cc (k0_pay23 u) (k0_pay24 u) = addf u (subf (chosen cb (dist256 u cb cc)) u) := rfl

/-- The squared error of the first serial stage, by the names of the second's. -/
theorem err_eq (u cb : FVec Ideal S1024x256 .f32) (cc : FVec Ideal S1x1024 .f32) :
    k0_pay27 u cb cc (k0_pay23 u) (k0_pay24 u)
      = k0_pay38 u cb (dist256 u cb cc)
        (shapeCast S1024x1 (multiReduction .minimumf [1] S1024 (dist256 u cb cc) 0x7F800000#32 reduces_S1024x1024_S1024 (.inl rfl) rfl) shapeCasts_S1024_S1024x1)
        (iota .tc S1024x1024 32 [1] iota_S1024x1024_d1_w32) := rfl

/-- The second serial stage's distances, by the shared names. -/
theorem far_eq (v : FVec Ideal S1024x512 .f32) (tw1 : FVec Ideal S256x512 .f32) (c0 : FVec Ideal S1024x256 .f32) (tb1 : FVec Ideal S256 .f32)
    (tw2 : FVec Ideal S256x256 .f32) (tb2 : FVec Ideal S256 .f32) (tc : FVec Ideal S1024x256 .f32) (n : FVec Ideal S1x1024 .f32) :
    k0_pay34 (k0_pay30 v tw1 c0 tb1 tw2 tb2) tc n (k0_pay32 v tw1 c0 tb1 tw2 tb2) (k0_pay33 v tw1 c0 tb1 tw2 tb2) = dist256 (k0_pay30 v tw1 c0 tb1 tw2 tb2) tc n := by
  rw [head_eq]
  rfl

/-- Their least values, by the shared names. -/
theorem least_eq (v : FVec Ideal S1024x512 .f32) (tw1 : FVec Ideal S256x512 .f32) (c0 : FVec Ideal S1024x256 .f32) (tb1 : FVec Ideal S256 .f32)
    (tw2 : FVec Ideal S256x256 .f32) (tb2 : FVec Ideal S256 .f32) (tc : FVec Ideal S1024x256 .f32) (n : FVec Ideal S1x1024 .f32) :
    k0_pay35 (k0_pay30 v tw1 c0 tb1 tw2 tb2) tc n (k0_pay32 v tw1 c0 tb1 tw2 tb2) (k0_pay33 v tw1 c0 tb1 tw2 tb2)
      = shapeCast S1024x1 (multiReduction .minimumf [1] S1024 (dist256 (k0_pay30 v tw1 c0 tb1 tw2 tb2) tc n) 0x7F800000#32 reduces_S1024x1024_S1024 (.inl rfl) rfl) shapeCasts_S1024_S1024x1 := by
  unfold k0_pay35
  rw [far_eq]

namespace Blocks

variable (I : Blocks)

/-- The first parallel stage's quantised block. -/
theorem fold_q0 : k0_pay13 (F := Ideal) (k0_pay5 (F := Ideal) I.x I.pw0 I.pb0) I.cb0 (k0_pay6 (F := Ideal) I.n0) (k0_pay8 (F := Ideal) I.x I.pw0 I.pb0) (k0_pay9 (F := Ideal) I.x I.pw0 I.pb0)
    = I.q0 := rfl

/-- The first parallel stage's squared error. -/
theorem fold_l0 : k0_pay12 (F := Ideal) (k0_pay5 (F := Ideal) I.x I.pw0 I.pb0) I.cb0 (k0_pay6 (F := Ideal) I.n0) (k0_pay8 (F := Ideal) I.x I.pw0 I.pb0) (k0_pay9 (F := Ideal) I.x I.pw0 I.pb0)
    = I.l0 := rfl

/-- The first codebook's indices. -/
theorem fold_i0 : k0_pay10 (F := Ideal) (k0_pay5 (F := Ideal) I.x I.pw0 I.pb0) I.cb0 (k0_pay6 (F := Ideal) I.n0) (k0_pay8 (F := Ideal) I.x I.pw0 I.pb0) (k0_pay9 (F := Ideal) I.x I.pw0 I.pb0)
    = k0_pay17 (F := Ideal) I.d0 := codes128_eq _ _ _ _ _

/-- The second parallel stage's distances. -/
theorem fold_d1 : k0_pay16 (F := Ideal) (k0_pay14 (F := Ideal) (k0_pay4 (F := Ideal) I.x) I.pw1) I.pb1 I.cb1 I.n1
    = I.d1 := rfl

/-- The second projection. -/
theorem fold_z1 : k0_pay15 (F := Ideal) (k0_pay14 (F := Ideal) (k0_pay4 (F := Ideal) I.x) I.pw1) I.pb1
    = I.z1 := rfl

/-- The second parallel stage's squared error. -/
theorem fold_l1 : k0_pay19 (F := Ideal) I.z1 I.cb1 I.d1
    = I.l1 := rfl

/-- The two quantised blocks side by side. -/
theorem fold_c : k0_pay20 (F := Ideal) I.q0 I.z1 I.cb1 I.d1
    = I.c := rfl

/-- The first serial stage's block. -/
theorem fold_u0 : k0_pay21 (F := Ideal) I.q0 I.z1 I.cb1 I.d1 I.sw1 I.sb1 I.sw2 I.sb2
    = I.u0 := rfl

/-- The first serial codebook's indices. -/
theorem fold_i2 : k0_pay25 (F := Ideal) I.u0 I.sc (k0_pay22 (F := Ideal) I.n2) (k0_pay23 (F := Ideal) I.u0) (k0_pay24 (F := Ideal) I.u0)
    = k0_pay17 (F := Ideal) I.d2 := codes256_eq _ _ _

/-- The first serial stage's squared error. -/
theorem fold_l2 : k0_pay27 (F := Ideal) I.u0 I.sc (k0_pay22 (F := Ideal) I.n2) (k0_pay23 (F := Ideal) I.u0) (k0_pay24 (F := Ideal) I.u0)
    = I.l2 := err_eq _ _ _

/-- The first serial stage's quantised block. -/
theorem fold_s0 : k0_pay28 (F := Ideal) I.u0 I.sc (k0_pay22 (F := Ideal) I.n2) (k0_pay23 (F := Ideal) I.u0) (k0_pay24 (F := Ideal) I.u0)
    = I.s0 := pass_eq _ _ _

/-- Everything quantised so far, side by side. -/
theorem fold_c1 : k0_pay29 (F := Ideal) I.c I.u0 I.sc (k0_pay22 (F := Ideal) I.n2) (k0_pay23 (F := Ideal) I.u0) (k0_pay24 (F := Ideal) I.u0)
    = I.c1 := by
  unfold k0_pay29
  rw [pass_eq]
  rfl

/-- The second serial stage's distances. -/
theorem fold_d3 : dist256 I.u1 I.tc (k0_pay31 (F := Ideal) I.n3)
    = I.d3 := rfl

/-- Each row's least distance in the second serial stage. -/
theorem fold_m3 : shapeCast S1024x1 (multiReduction (F := Ideal) .minimumf [1] S1024 I.d3 0x7F800000#32 reduces_S1024x1024_S1024 (.inl rfl) rfl) shapeCasts_S1024_S1024x1
    = I.m3 := rfl

/-- The second serial stage's block. -/
theorem fold_u1 : k0_pay30 (F := Ideal) I.c1 I.tw1 (constant (F := Ideal) S1024x256 .f32 0x00000000#32) I.tb1 I.tw2 I.tb2
    = I.u1 := rfl

/-- The second serial codebook's indices. -/
theorem fold_i3 : k0_pay36 (F := Ideal) I.d3 I.m3 (iota .tc S1024x1024 32 [1] iota_S1024x1024_d1_w32)
    = k0_pay17 (F := Ideal) I.d3 := codes_eq _

/-- The second serial stage's squared error. -/
theorem fold_l3 : k0_pay38 (F := Ideal) I.u1 I.tc I.d3 I.m3 (iota .tc S1024x1024 32 [1] iota_S1024x1024_d1_w32)
    = I.l3 := rfl

/-- The output block. -/
theorem fold_zq : k0_pay39 (F := Ideal) I.c I.s0 I.u1 I.tc I.d3 I.m3 (iota .tc S1024x1024 32 [1] iota_S1024x1024_d1_w32) I.ow I.ob
    = I.zq := rfl

/-- The block's share of the loss: a quarter of the sum of the stages' mean squared errors. -/
def share : EReal := k0_pay1 (F := Ideal) I.l2 I.l3 (k0_pay40 (F := Ideal) I.l0 I.l1)

/-- The share written out. -/
theorem share_eq : I.share = Ideal.ofBits .f32 0x3E800000#32
    * (Ideal.div (I.l0 + I.l1) (Ideal.ofBits .f32 0x49800000#32) + Ideal.div (I.l2 + I.l3) (Ideal.ofBits .f32 0x4A000000#32)) := rfl

end Blocks

end Cert.KernelIdeal.Row

end

end
-- ==== Proof.KerEntry.lean ====
/- What the windows that are not arguments find: the input's rows one below the other, and the codebooks' square norms. -/
module

public import proofs.«01_k».proof.Proof.Gen.KernelIdeal.Frame.Runs
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable (m : (ℓ : Loc nD τ sig) → Buf (Elt Ideal) ℓ)

/-- The first window's array is the reshaped input. -/
theorem V_v0 (c : Dev nD) : (V m c main_v0 : FVec Ideal S8192x768 .f32)
    = shapeCast S8192x768 (m ((c : Thread nD τ).loc main_arg0) : FVec Ideal S8x1024x768 .f32) shapeCasts_S8x1024x768_S8192x768 := by
  show StableHlo.after hostOps0 (fun b => m (c, b)) (Proc.devRef .tc main_v0) = _
  unfold hostOps0
  after_results
  rfl

/-- The array of square norms computed from argument 5. -/
theorem V_v3 (c : Dev nD) : (V m c main_v3 : FVec Ideal S1x1024 .f32)
    = shapeCast S1x1024 (Host.reduceAdd (F := Ideal) (mulf (F := Ideal) (m ((c : Thread nD τ).loc main_arg5) : FVec Ideal S1024x128 .f32) (m ((c : Thread nD τ).loc main_arg5) : FVec Ideal S1024x128 .f32))
        (constant S_ .f32 0x00000000#32) reducesTo_S1024x128_S1024_d1 h_S_) shapeCasts_S1024_S1x1024 := by
  show StableHlo.after hostOps0 (fun b => m (c, b)) (Proc.devRef .tc main_v3) = _
  unfold hostOps0
  after_results
  rfl

/-- The array of square norms computed from argument 6. -/
theorem V_v6 (c : Dev nD) : (V m c main_v6 : FVec Ideal S1x1024 .f32)
    = shapeCast S1x1024 (Host.reduceAdd (F := Ideal) (mulf (F := Ideal) (m ((c : Thread nD τ).loc main_arg6) : FVec Ideal S1024x128 .f32) (m ((c : Thread nD τ).loc main_arg6) : FVec Ideal S1024x128 .f32))
        (constant S_ .f32 0x00000000#32) reducesTo_S1024x128_S1024_d1 h_S_) shapeCasts_S1024_S1x1024 := by
  show StableHlo.after hostOps0 (fun b => m (c, b)) (Proc.devRef .tc main_v6) = _
  unfold hostOps0
  after_results
  rfl

/-- The array of square norms computed from argument 11. -/
theorem V_v9 (c : Dev nD) : (V m c main_v9 : FVec Ideal S1x1024 .f32)
    = shapeCast S1x1024 (Host.reduceAdd (F := Ideal) (mulf (F := Ideal) (m ((c : Thread nD τ).loc main_arg11) : FVec Ideal S1024x256 .f32) (m ((c : Thread nD τ).loc main_arg11) : FVec Ideal S1024x256 .f32))
        (constant S_ .f32 0x00000000#32) reducesTo_S1024x256_S1024_d1 h_S_) shapeCasts_S1024_S1x1024 := by
  show StableHlo.after hostOps0 (fun b => m (c, b)) (Proc.devRef .tc main_v9) = _
  unfold hostOps0
  after_results
  rfl

/-- The array of square norms computed from argument 16. -/
theorem V_v12 (c : Dev nD) : (V m c main_v12 : FVec Ideal S1x1024 .f32)
    = shapeCast S1x1024 (Host.reduceAdd (F := Ideal) (mulf (F := Ideal) (m ((c : Thread nD τ).loc main_arg16) : FVec Ideal S1024x256 .f32) (m ((c : Thread nD τ).loc main_arg16) : FVec Ideal S1024x256 .f32))
        (constant S_ .f32 0x00000000#32) reducesTo_S1024x256_S1024_d1 h_S_) shapeCasts_S1024_S1x1024 := by
  show StableHlo.after hostOps0 (fun b => m (c, b)) (Proc.devRef .tc main_v12) = _
  unfold hostOps0
  after_results
  rfl

end Cert.KernelIdeal.Value

end

end
-- ==== Proof.KerBlk.lean ====
/- Each grid point's blocks: the parameters whole, 1024 rows of the input, and the codebooks' square norms. -/
module

public import proofs.«01_k».proof.Proof.KerBlock
public import proofs.«01_k».proof.Proof.KerEntry

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Vq Cert.KernelIdeal.Row

variable (m : (ℓ : Loc nD τ sig) → Buf (Elt Ideal) ℓ)

/-- Where the moving windows' blocks lie: a block of rows further down per point. -/
theorem idx : ∀ t : Fin cfg0.N, win0_0.index t = ![t.val, 0] ∧ win0_23.index t = ![t.val, 0] ∧ win0_24.index t = ![t.val]
    ∧ win0_25.index t = ![t.val] ∧ win0_26.index t = ![t.val] ∧ win0_27.index t = ![t.val] ∧ t.val < 8 :=
  (by decide +kernel : ∀ t : Fin grid0.N, _)

/-- The first nine parameter windows are whole arrays. -/
theorem idxA : ∀ t : Fin cfg0.N, win0_1.index t = ![0, 0]
    ∧ win0_2.index t = ![0]
    ∧ win0_3.index t = ![0, 0]
    ∧ win0_4.index t = ![0]
    ∧ win0_5.index t = ![0, 0]
    ∧ win0_6.index t = ![0, 0]
    ∧ win0_7.index t = ![0, 0]
    ∧ win0_8.index t = ![0]
    ∧ win0_9.index t = ![0, 0] :=
  (by decide +kernel : ∀ t : Fin grid0.N, _)

/-- The other nine parameter windows are whole arrays. -/
theorem idxB : ∀ t : Fin cfg0.N, win0_10.index t = ![0]
    ∧ win0_11.index t = ![0, 0]
    ∧ win0_12.index t = ![0, 0]
    ∧ win0_13.index t = ![0]
    ∧ win0_14.index t = ![0, 0]
    ∧ win0_15.index t = ![0]
    ∧ win0_16.index t = ![0, 0]
    ∧ win0_17.index t = ![0, 0]
    ∧ win0_18.index t = ![0] :=
  (by decide +kernel : ∀ t : Fin grid0.N, _)

/-- The windows of square norms are whole arrays. -/
theorem idxC : ∀ t : Fin cfg0.N, win0_19.index t = ![0, 0]
    ∧ win0_20.index t = ![0, 0]
    ∧ win0_21.index t = ![0, 0]
    ∧ win0_22.index t = ![0, 0] :=
  (by decide +kernel : ∀ t : Fin grid0.N, _)

/-- There are eight points. -/
theorem lt8 (t : Fin cfg0.N) : t.val < 8 := (idx t).2.2.2.2.2.2

/-- The parameters as plain matrices, from the arguments. -/
def params (c : Dev nD) : Params where
  pw0 k i := (m ((c : Thread nD τ).loc main_arg1) : FVec Ideal S128x768 .f32) (ix2 k i)
  pb0 j := (m ((c : Thread nD τ).loc main_arg2) : FVec Ideal S128 .f32) (ix1 j)
  pw1 k i := (m ((c : Thread nD τ).loc main_arg3) : FVec Ideal S128x768 .f32) (ix2 k i)
  pb1 j := (m ((c : Thread nD τ).loc main_arg4) : FVec Ideal S128 .f32) (ix1 j)
  cb0 k i := (m ((c : Thread nD τ).loc main_arg5) : FVec Ideal S1024x128 .f32) (ix2 k i)
  cb1 k i := (m ((c : Thread nD τ).loc main_arg6) : FVec Ideal S1024x128 .f32) (ix2 k i)
  sw1 k i := (m ((c : Thread nD τ).loc main_arg7) : FVec Ideal S128x256 .f32) (ix2 k i)
  sb1 j := (m ((c : Thread nD τ).loc main_arg8) : FVec Ideal S128 .f32) (ix1 j)
  sw2 k i := (m ((c : Thread nD τ).loc main_arg9) : FVec Ideal S256x128 .f32) (ix2 k i)
  sb2 j := (m ((c : Thread nD τ).loc main_arg10) : FVec Ideal S256 .f32) (ix1 j)
  sc k i := (m ((c : Thread nD τ).loc main_arg11) : FVec Ideal S1024x256 .f32) (ix2 k i)
  tw1 k i := (m ((c : Thread nD τ).loc main_arg12) : FVec Ideal S256x512 .f32) (ix2 k i)
  tb1 j := (m ((c : Thread nD τ).loc main_arg13) : FVec Ideal S256 .f32) (ix1 j)
  tw2 k i := (m ((c : Thread nD τ).loc main_arg14) : FVec Ideal S256x256 .f32) (ix2 k i)
  tb2 j := (m ((c : Thread nD τ).loc main_arg15) : FVec Ideal S256 .f32) (ix1 j)
  tc k i := (m ((c : Thread nD τ).loc main_arg16) : FVec Ideal S1024x256 .f32) (ix2 k i)
  ow k i := (m ((c : Thread nD τ).loc main_arg17) : FVec Ideal S768x768 .f32) (ix2 k i)
  ob j := (m ((c : Thread nD τ).loc main_arg18) : FVec Ideal S768 .f32) (ix1 j)

/-- Row `r` of batch `b` of the input. -/
def row (c : Dev nD) (b : Fin 8) (r : Fin 1024) : Fin 768 → EReal :=
  fun i => (m ((c : Thread nD τ).loc main_arg0) : FVec Ideal S8x1024x768 .f32) (ix3 b r i)

/-- The blocks of point `t`. -/
def blocks (c : Dev nD) (t : Fin cfg0.N) : Blocks where
  x := iblk m c 0 t
  pw0 := iblk m c 1 t
  pb0 := iblk m c 2 t
  pw1 := iblk m c 3 t
  pb1 := iblk m c 4 t
  cb0 := iblk m c 5 t
  cb1 := iblk m c 6 t
  sw1 := iblk m c 7 t
  sb1 := iblk m c 8 t
  sw2 := iblk m c 9 t
  sb2 := iblk m c 10 t
  sc := iblk m c 11 t
  tw1 := iblk m c 12 t
  tb1 := iblk m c 13 t
  tw2 := iblk m c 14 t
  tb2 := iblk m c 15 t
  tc := iblk m c 16 t
  ow := iblk m c 17 t
  ob := iblk m c 18 t
  n0 := iblk m c 19 t
  n1 := iblk m c 20 t
  n2 := iblk m c 21 t
  n3 := iblk m c 22 t

/-- Window 1's block is its whole array. -/
theorem iblk1 (c : Dev nD) (t : Fin cfg0.N) : (iblk m c 1 t : FVec Ideal S128x768 .f32) = m ((c : Thread nD τ).loc main_arg1) := by
  blk_ext! [iblk, V, idxA t]

/-- Window 2's block is its whole array. -/
theorem iblk2 (c : Dev nD) (t : Fin cfg0.N) : (iblk m c 2 t : FVec Ideal S128 .f32) = m ((c : Thread nD τ).loc main_arg2) := by
  blk_ext! [iblk, V, idxA t]

/-- Window 3's block is its whole array. -/
theorem iblk3 (c : Dev nD) (t : Fin cfg0.N) : (iblk m c 3 t : FVec Ideal S128x768 .f32) = m ((c : Thread nD τ).loc main_arg3) := by
  blk_ext! [iblk, V, idxA t]

/-- Window 4's block is its whole array. -/
theorem iblk4 (c : Dev nD) (t : Fin cfg0.N) : (iblk m c 4 t : FVec Ideal S128 .f32) = m ((c : Thread nD τ).loc main_arg4) := by
  blk_ext! [iblk, V, idxA t]

/-- Window 5's block is its whole array. -/
theorem iblk5 (c : Dev nD) (t : Fin cfg0.N) : (iblk m c 5 t : FVec Ideal S1024x128 .f32) = m ((c : Thread nD τ).loc main_arg5) := by
  blk_ext! [iblk, V, idxA t]

/-- Window 6's block is its whole array. -/
theorem iblk6 (c : Dev nD) (t : Fin cfg0.N) : (iblk m c 6 t : FVec Ideal S1024x128 .f32) = m ((c : Thread nD τ).loc main_arg6) := by
  blk_ext! [iblk, V, idxA t]

/-- Window 7's block is its whole array. -/
theorem iblk7 (c : Dev nD) (t : Fin cfg0.N) : (iblk m c 7 t : FVec Ideal S128x256 .f32) = m ((c : Thread nD τ).loc main_arg7) := by
  blk_ext! [iblk, V, idxA t]

/-- Window 8's block is its whole array. -/
theorem iblk8 (c : Dev nD) (t : Fin cfg0.N) : (iblk m c 8 t : FVec Ideal S128 .f32) = m ((c : Thread nD τ).loc main_arg8) := by
  blk_ext! [iblk, V, idxA t]

/-- Window 9's block is its whole array. -/
theorem iblk9 (c : Dev nD) (t : Fin cfg0.N) : (iblk m c 9 t : FVec Ideal S256x128 .f32) = m ((c : Thread nD τ).loc main_arg9) := by
  blk_ext! [iblk, V, idxA t]

/-- Window 10's block is its whole array. -/
theorem iblk10 (c : Dev nD) (t : Fin cfg0.N) : (iblk m c 10 t : FVec Ideal S256 .f32) = m ((c : Thread nD τ).loc main_arg10) := by
  blk_ext! [iblk, V, idxB t]

/-- Window 11's block is its whole array. -/
theorem iblk11 (c : Dev nD) (t : Fin cfg0.N) : (iblk m c 11 t : FVec Ideal S1024x256 .f32) = m ((c : Thread nD τ).loc main_arg11) := by
  blk_ext! [iblk, V, idxB t]

/-- Window 12's block is its whole array. -/
theorem iblk12 (c : Dev nD) (t : Fin cfg0.N) : (iblk m c 12 t : FVec Ideal S256x512 .f32) = m ((c : Thread nD τ).loc main_arg12) := by
  blk_ext! [iblk, V, idxB t]

/-- Window 13's block is its whole array. -/
theorem iblk13 (c : Dev nD) (t : Fin cfg0.N) : (iblk m c 13 t : FVec Ideal S256 .f32) = m ((c : Thread nD τ).loc main_arg13) := by
  blk_ext! [iblk, V, idxB t]

/-- Window 14's block is its whole array. -/
theorem iblk14 (c : Dev nD) (t : Fin cfg0.N) : (iblk m c 14 t : FVec Ideal S256x256 .f32) = m ((c : Thread nD τ).loc main_arg14) := by
  blk_ext! [iblk, V, idxB t]

/-- Window 15's block is its whole array. -/
theorem iblk15 (c : Dev nD) (t : Fin cfg0.N) : (iblk m c 15 t : FVec Ideal S256 .f32) = m ((c : Thread nD τ).loc main_arg15) := by
  blk_ext! [iblk, V, idxB t]

/-- Window 16's block is its whole array. -/
theorem iblk16 (c : Dev nD) (t : Fin cfg0.N) : (iblk m c 16 t : FVec Ideal S1024x256 .f32) = m ((c : Thread nD τ).loc main_arg16) := by
  blk_ext! [iblk, V, idxB t]

/-- Window 17's block is its whole array. -/
theorem iblk17 (c : Dev nD) (t : Fin cfg0.N) : (iblk m c 17 t : FVec Ideal S768x768 .f32) = m ((c : Thread nD τ).loc main_arg17) := by
  blk_ext! [iblk, V, idxB t]

/-- Window 18's block is its whole array. -/
theorem iblk18 (c : Dev nD) (t : Fin cfg0.N) : (iblk m c 18 t : FVec Ideal S768 .f32) = m ((c : Thread nD τ).loc main_arg18) := by
  blk_ext! [iblk, V, idxB t]

/-- A batch's row, read in the array of all rows. -/
theorem cast_row (X : FVec Ideal S8x1024x768 .f32) (i : Fin 8192) (k : Fin 768) (b : Fin 8) (r : Fin 1024) (h : i.val = b.val * 1024 + r.val) :
    shapeCast S8192x768 X shapeCasts_S8x1024x768_S8192x768 (ix2 i k) = X (ix3 b r k) := by
  pointwise []
  blk_ext []

/-- The first window's array: the input with its batches one below the other. -/
theorem rows (c : Dev nD) (i : Fin 8192) (k : Fin 768) (b : Fin 8) (r : Fin 1024) (h : i.val = b.val * 1024 + r.val) :
    (V m c main_v0 : FVec Ideal S8192x768 .f32) (ix2 i k) = row m c b r k := by
  rw [V_v0]
  exact cast_row _ i k b r h

/-- Row `r` of point `t`'s input block is row `r` of batch `t`. -/
theorem row_eq (c : Dev nD) (t : Fin cfg0.N) (r : Fin 1024) : (blocks m c t).row r = row m c ⟨t.val, lt8 t⟩ r := by
  funext i
  have ht := lt8 t
  refine Eq.trans ?_ (rows m c ⟨t.val * 1024 + r.val, by have := r.isLt; omega⟩ i ⟨t.val, ht⟩ r rfl)
  unfold Blocks.row blocks
  dsimp only
  blk_ext [iblk, idx t]

/-- The parameters of every point's blocks are the arguments. -/
theorem params_eq (c : Dev nD) (t : Fin cfg0.N) : (blocks m c t).params = params m c := by
  unfold Blocks.params blocks params
  rw [iblk1, iblk2, iblk3, iblk4, iblk5, iblk6, iblk7, iblk8, iblk9, iblk10, iblk11, iblk12, iblk13, iblk14, iblk15, iblk16, iblk17, iblk18]

/-- Window 19's block is its whole array. -/
theorem iblk19 (c : Dev nD) (t : Fin cfg0.N) : (iblk m c 19 t : FVec Ideal S1x1024 .f32) = V m c main_v3 := by
  blk_ext! [iblk, idxC t]

/-- It holds the square norms of argument 5's rows. -/
theorem norm0 (c : Dev nD) (k : Fin 1024) : @Eq EReal ((V m c main_v3 : FVec Ideal S1x1024 .f32) (ix2 0 k))
    (∑ i : Fin 128, (params m c).cb0 k i * (params m c).cb0 k i) := by
  rw [V_v3]
  unfold params
  pointwise []

/-- Window 20's block is its whole array. -/
theorem iblk20 (c : Dev nD) (t : Fin cfg0.N) : (iblk m c 20 t : FVec Ideal S1x1024 .f32) = V m c main_v6 := by
  blk_ext! [iblk, idxC t]

/-- It holds the square norms of argument 6's rows. -/
theorem norm1 (c : Dev nD) (k : Fin 1024) : @Eq EReal ((V m c main_v6 : FVec Ideal S1x1024 .f32) (ix2 0 k))
    (∑ i : Fin 128, (params m c).cb1 k i * (params m c).cb1 k i) := by
  rw [V_v6]
  unfold params
  pointwise []

/-- Window 21's block is its whole array. -/
theorem iblk21 (c : Dev nD) (t : Fin cfg0.N) : (iblk m c 21 t : FVec Ideal S1x1024 .f32) = V m c main_v9 := by
  blk_ext! [iblk, idxC t]

/-- It holds the square norms of argument 11's rows. -/
theorem norm2 (c : Dev nD) (k : Fin 1024) : @Eq EReal ((V m c main_v9 : FVec Ideal S1x1024 .f32) (ix2 0 k))
    (∑ i : Fin 256, (params m c).sc k i * (params m c).sc k i) := by
  rw [V_v9]
  unfold params
  pointwise []

/-- Window 22's block is its whole array. -/
theorem iblk22 (c : Dev nD) (t : Fin cfg0.N) : (iblk m c 22 t : FVec Ideal S1x1024 .f32) = V m c main_v12 := by
  blk_ext! [iblk, idxC t]

/-- It holds the square norms of argument 16's rows. -/
theorem norm3 (c : Dev nD) (k : Fin 1024) : @Eq EReal ((V m c main_v12 : FVec Ideal S1x1024 .f32) (ix2 0 k))
    (∑ i : Fin 256, (params m c).tc k i * (params m c).tc k i) := by
  rw [V_v12]
  unfold params
  pointwise []

/-- The norms windows hold the square norms of the codebooks' windows. -/
theorem norms (c : Dev nD) (t : Fin cfg0.N) : (blocks m c t).Norms where
  h0 := fun k => by
    unfold blocks
    dsimp only
    rw [iblk5, iblk19]
    exact norm0 m c k
  h1 := fun k => by
    unfold blocks
    dsimp only
    rw [iblk6, iblk20]
    exact norm1 m c k
  h2 := fun k => by
    unfold blocks
    dsimp only
    rw [iblk11, iblk21]
    exact norm2 m c k
  h3 := fun k => by
    unfold blocks
    dsimp only
    rw [iblk16, iblk22]
    exact norm3 m c k

end Cert.KernelIdeal.Value

end

end
-- ==== Proof.KerOut.lean ====
/- What one grid point leaves in the results' blocks: the stored values are folded, stage by stage, into the names of the block's specification. -/
module

public import proofs.«01_k».proof.Proof.KerFold
public import proofs.«01_k».proof.Proof.Launch.KernelIdealFrame
public import Idealize.ShloMosaic.Lib.Pipeline.ValueKit
public import proofs.«01_k».proof.Proof.KerBlk

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Vq Cert.KernelIdeal.Row

variable (m : (ℓ : Loc nD τ sig) → Buf (Elt Ideal) ℓ)

/-- The first parallel stage's quantised block. -/
theorem at_q0 (c : Dev nD) (t : Fin cfg0.N) : k0_pay13 (F := Ideal) (k0_pay5 (F := Ideal) (iblk m c 0 t) (iblk m c 1 t) (iblk m c 2 t)) (iblk m c 5 t) (k0_pay6 (F := Ideal) (iblk m c 19 t)) (k0_pay8 (F := Ideal) (iblk m c 0 t) (iblk m c 1 t) (iblk m c 2 t)) (k0_pay9 (F := Ideal) (iblk m c 0 t) (iblk m c 1 t) (iblk m c 2 t))
    = (blocks m c t).q0 := (blocks m c t).fold_q0

/-- The first parallel stage's squared error. -/
theorem at_l0 (c : Dev nD) (t : Fin cfg0.N) : k0_pay12 (F := Ideal) (k0_pay5 (F := Ideal) (iblk m c 0 t) (iblk m c 1 t) (iblk m c 2 t)) (iblk m c 5 t) (k0_pay6 (F := Ideal) (iblk m c 19 t)) (k0_pay8 (F := Ideal) (iblk m c 0 t) (iblk m c 1 t) (iblk m c 2 t)) (k0_pay9 (F := Ideal) (iblk m c 0 t) (iblk m c 1 t) (iblk m c 2 t))
    = (blocks m c t).l0 := (blocks m c t).fold_l0

/-- The first codebook's indices. -/
theorem at_i0 (c : Dev nD) (t : Fin cfg0.N) : k0_pay10 (F := Ideal) (k0_pay5 (F := Ideal) (iblk m c 0 t) (iblk m c 1 t) (iblk m c 2 t)) (iblk m c 5 t) (k0_pay6 (F := Ideal) (iblk m c 19 t)) (k0_pay8 (F := Ideal) (iblk m c 0 t) (iblk m c 1 t) (iblk m c 2 t)) (k0_pay9 (F := Ideal) (iblk m c 0 t) (iblk m c 1 t) (iblk m c 2 t))
    = k0_pay17 (F := Ideal) (blocks m c t).d0 := (blocks m c t).fold_i0

/-- The second parallel stage's distances. -/
theorem at_d1 (c : Dev nD) (t : Fin cfg0.N) : k0_pay16 (F := Ideal) (k0_pay14 (F := Ideal) (k0_pay4 (F := Ideal) (iblk m c 0 t)) (iblk m c 3 t)) (iblk m c 4 t) (iblk m c 6 t) (iblk m c 20 t)
    = (blocks m c t).d1 := (blocks m c t).fold_d1

/-- The second projection. -/
theorem at_z1 (c : Dev nD) (t : Fin cfg0.N) : k0_pay15 (F := Ideal) (k0_pay14 (F := Ideal) (k0_pay4 (F := Ideal) (iblk m c 0 t)) (iblk m c 3 t)) (iblk m c 4 t)
    = (blocks m c t).z1 := (blocks m c t).fold_z1

/-- The second parallel stage's squared error. -/
theorem at_l1 (c : Dev nD) (t : Fin cfg0.N) : k0_pay19 (F := Ideal) (blocks m c t).z1 (iblk m c 6 t) (blocks m c t).d1
    = (blocks m c t).l1 := (blocks m c t).fold_l1

/-- The two quantised blocks side by side. -/
theorem at_c (c : Dev nD) (t : Fin cfg0.N) : k0_pay20 (F := Ideal) (blocks m c t).q0 (blocks m c t).z1 (iblk m c 6 t) (blocks m c t).d1
    = (blocks m c t).c := (blocks m c t).fold_c

/-- The first serial stage's block. -/
theorem at_u0 (c : Dev nD) (t : Fin cfg0.N) : k0_pay21 (F := Ideal) (blocks m c t).q0 (blocks m c t).z1 (iblk m c 6 t) (blocks m c t).d1 (iblk m c 7 t) (iblk m c 8 t) (iblk m c 9 t) (iblk m c 10 t)
    = (blocks m c t).u0 := (blocks m c t).fold_u0

/-- The first serial codebook's indices. -/
theorem at_i2 (c : Dev nD) (t : Fin cfg0.N) : k0_pay25 (F := Ideal) (blocks m c t).u0 (iblk m c 11 t) (k0_pay22 (F := Ideal) (iblk m c 21 t)) (k0_pay23 (F := Ideal) (blocks m c t).u0) (k0_pay24 (F := Ideal) (blocks m c t).u0)
    = k0_pay17 (F := Ideal) (blocks m c t).d2 := (blocks m c t).fold_i2

/-- The first serial stage's squared error. -/
theorem at_l2 (c : Dev nD) (t : Fin cfg0.N) : k0_pay27 (F := Ideal) (blocks m c t).u0 (iblk m c 11 t) (k0_pay22 (F := Ideal) (iblk m c 21 t)) (k0_pay23 (F := Ideal) (blocks m c t).u0) (k0_pay24 (F := Ideal) (blocks m c t).u0)
    = (blocks m c t).l2 := (blocks m c t).fold_l2

/-- The first serial stage's quantised block. -/
theorem at_s0 (c : Dev nD) (t : Fin cfg0.N) : k0_pay28 (F := Ideal) (blocks m c t).u0 (iblk m c 11 t) (k0_pay22 (F := Ideal) (iblk m c 21 t)) (k0_pay23 (F := Ideal) (blocks m c t).u0) (k0_pay24 (F := Ideal) (blocks m c t).u0)
    = (blocks m c t).s0 := (blocks m c t).fold_s0

/-- Everything quantised so far, side by side. -/
theorem at_c1 (c : Dev nD) (t : Fin cfg0.N) : k0_pay29 (F := Ideal) (blocks m c t).c (blocks m c t).u0 (iblk m c 11 t) (k0_pay22 (F := Ideal) (iblk m c 21 t)) (k0_pay23 (F := Ideal) (blocks m c t).u0) (k0_pay24 (F := Ideal) (blocks m c t).u0)
    = (blocks m c t).c1 := (blocks m c t).fold_c1

/-- The second serial stage's distances. -/
theorem at_d3 (c : Dev nD) (t : Fin cfg0.N) : dist256 (blocks m c t).u1 (iblk m c 16 t) (k0_pay31 (F := Ideal) (iblk m c 22 t))
    = (blocks m c t).d3 := (blocks m c t).fold_d3

/-- Each row's least distance in the second serial stage. -/
theorem at_m3 (c : Dev nD) (t : Fin cfg0.N) : shapeCast S1024x1 (multiReduction (F := Ideal) .minimumf [1] S1024 (blocks m c t).d3 0x7F800000#32 reduces_S1024x1024_S1024 (.inl rfl) rfl) shapeCasts_S1024_S1024x1
    = (blocks m c t).m3 := (blocks m c t).fold_m3

/-- The second serial stage's block. -/
theorem at_u1 (c : Dev nD) (t : Fin cfg0.N) : k0_pay30 (F := Ideal) (blocks m c t).c1 (iblk m c 12 t) (constant (F := Ideal) S1024x256 .f32 0x00000000#32) (iblk m c 13 t) (iblk m c 14 t) (iblk m c 15 t)
    = (blocks m c t).u1 := (blocks m c t).fold_u1

/-- The second serial codebook's indices. -/
theorem at_i3 (c : Dev nD) (t : Fin cfg0.N) : k0_pay36 (F := Ideal) (blocks m c t).d3 (blocks m c t).m3 (iota .tc S1024x1024 32 [1] iota_S1024x1024_d1_w32)
    = k0_pay17 (F := Ideal) (blocks m c t).d3 := (blocks m c t).fold_i3

/-- The second serial stage's squared error. -/
theorem at_l3 (c : Dev nD) (t : Fin cfg0.N) : k0_pay38 (F := Ideal) (blocks m c t).u1 (iblk m c 16 t) (blocks m c t).d3 (blocks m c t).m3 (iota .tc S1024x1024 32 [1] iota_S1024x1024_d1_w32)
    = (blocks m c t).l3 := (blocks m c t).fold_l3

/-- The output block. -/
theorem at_zq (c : Dev nD) (t : Fin cfg0.N) : k0_pay39 (F := Ideal) (blocks m c t).c (blocks m c t).s0 (blocks m c t).u1 (iblk m c 16 t) (blocks m c t).d3 (blocks m c t).m3 (iota .tc S1024x1024 32 [1] iota_S1024x1024_d1_w32) (iblk m c 17 t) (iblk m c 18 t)
    = (blocks m c t).zq := (blocks m c t).fold_zq

/-- The output rows. -/
theorem zq_left (c : Dev nD) (t : Fin cfg0.N) : ((outsAt0 m c t.val t.isLt).1 : FVec Ideal S1024x768 .f32) = (blocks m c t).zq := by
  rcases Nat.eq_zero_or_pos t.val with h | h
  · rw [outsAt0_A m c t (by omega) (by omega)]
    frame_out
    rw [at_q0, at_d1, at_z1, at_c, at_u0, at_s0, at_c1, far_eq, least_eq, at_u1, at_d3, at_m3, at_zq]
  · have := lt8 t
    rw [outsAt0_B m c t (by omega) (by omega)]
    frame_out
    rw [at_q0, at_d1, at_z1, at_c, at_u0, at_s0, at_c1, far_eq, least_eq, at_u1, at_d3, at_m3, at_zq]

/-- The indices in codebook 0. -/
theorem i0_left (c : Dev nD) (t : Fin cfg0.N) : ((outsAt0 m c t.val t.isLt).2.1 : IVec S1024 32) = k0_pay17 (F := Ideal) (blocks m c t).d0 := by
  rcases Nat.eq_zero_or_pos t.val with h | h
  · rw [outsAt0_A m c t (by omega) (by omega)]
    frame_out
    rw [at_i0]
  · have := lt8 t
    rw [outsAt0_B m c t (by omega) (by omega)]
    frame_out
    rw [at_i0]

/-- The indices in codebook 1. -/
theorem i1_left (c : Dev nD) (t : Fin cfg0.N) : ((outsAt0 m c t.val t.isLt).2.2.1 : IVec S1024 32) = k0_pay17 (F := Ideal) (blocks m c t).d1 := by
  rcases Nat.eq_zero_or_pos t.val with h | h
  · rw [outsAt0_A m c t (by omega) (by omega)]
    frame_out
    rw [at_d1]
  · have := lt8 t
    rw [outsAt0_B m c t (by omega) (by omega)]
    frame_out
    rw [at_d1]

/-- The indices in codebook 2. -/
theorem i2_left (c : Dev nD) (t : Fin cfg0.N) : ((outsAt0 m c t.val t.isLt).2.2.2.1 : IVec S1024 32) = k0_pay17 (F := Ideal) (blocks m c t).d2 := by
  rcases Nat.eq_zero_or_pos t.val with h | h
  · rw [outsAt0_A m c t (by omega) (by omega)]
    frame_out
    rw [at_q0, at_d1, at_z1, at_u0, at_i2]
  · have := lt8 t
    rw [outsAt0_B m c t (by omega) (by omega)]
    frame_out
    rw [at_q0, at_d1, at_z1, at_u0, at_i2]

/-- The indices in codebook 3. -/
theorem i3_left (c : Dev nD) (t : Fin cfg0.N) : ((outsAt0 m c t.val t.isLt).2.2.2.2.1 : IVec S1024 32) = k0_pay17 (F := Ideal) (blocks m c t).d3 := by
  rcases Nat.eq_zero_or_pos t.val with h | h
  · rw [outsAt0_A m c t (by omega) (by omega)]
    frame_out
    rw [at_q0, at_d1, at_z1, at_c, at_u0, at_c1, far_eq, least_eq, at_u1, at_d3, at_m3, at_i3]
  · have := lt8 t
    rw [outsAt0_B m c t (by omega) (by omega)]
    frame_out
    rw [at_q0, at_d1, at_z1, at_c, at_u0, at_c1, far_eq, least_eq, at_u1, at_d3, at_m3, at_i3]

/-- Adding a point's share to the block. -/
theorem pay3_at (a b d : EReal) (acc : FVec Ideal S1x1 .f32) (j : S1x1.Idx) :
    k0_pay3 (F := Ideal) a b d acc j = acc j + k0_pay1 (F := Ideal) a b d := by
  idx_vars j
  pointwise [k0_pay3]

/-- At the first point the loss block holds the point's share. -/
theorem loss_first (c : Dev nD) (t : Fin cfg0.N) (h0 : t.val % 8 = 0) (h1 : ¬1 ≤ t.val) (j : S1x1.Idx) :
    @Eq EReal (((outsAt0 m c t.val t.isLt).2.2.2.2.2 : FVec Ideal S1x1 .f32) j) (blocks m c t).share := by
  rw [outsAt0_A m c t h0 h1]
  frame_out
  rw [at_q0, at_d1, at_z1, at_c, at_u0, at_c1, far_eq, least_eq, at_u1, at_d3, at_m3, at_l0, at_l1, at_l2, at_l3]
  rfl

/-- At a later point the point's share is added to what the block held. -/
theorem loss_next (c : Dev nD) (t : Fin cfg0.N) (h0 : ¬t.val % 8 = 0) (h1 : 1 ≤ t.val) (j : S1x1.Idx) :
    @Eq EReal (((outsAt0 m c t.val t.isLt).2.2.2.2.2 : FVec Ideal S1x1 .f32) j)
      (((outsAt0 m c (t.val - 1) (by have := t.isLt; omega)).2.2.2.2.2 : FVec Ideal S1x1 .f32) j + (blocks m c t).share) := by
  rw [outsAt0_B m c t h0 h1]
  frame_out
  rw [at_q0, at_d1, at_z1, at_c, at_u0, at_c1, far_eq, least_eq, at_u1, at_d3, at_m3, at_l0, at_l1, at_l2, at_l3]
  exact pay3_at _ _ _ _ j

end Cert.KernelIdeal.Value

end

end
-- ==== Proof.KerVal.lean ====
/- What the kernel's result arrays hold at the end of the region, row by row. -/
module

public import proofs.«01_k».proof.Proof.KerOut

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Vq Cert.KernelIdeal.Row

variable (m : (ℓ : Loc nD τ sig) → Buf (Elt Ideal) ℓ)

/-- The batch a row of the whole lies in. -/
def batch (i : Fin 8192) : Fin 8 := ⟨i.val / 1024, by have := i.isLt; omega⟩

/-- Its place in the batch. -/
def place (i : Fin 8192) : Fin 1024 := ⟨i.val % 1024, Nat.mod_lt _ (by norm_num)⟩

/-- The output rows, one below the other. -/
def outRows (c : Dev nD) : FVec Ideal S8192x768 .f32 :=
  fun i => (params m c).zq (row m c (batch (i 0)) (place (i 0))) (i 1)

/-- One array of indices: for each row the code a stage chooses. -/
def indexRows (f : (Fin 768 → EReal) → Fin 1024) (c : Dev nD) : IVec S8192 32 :=
  fun i => BitVec.ofNat 32 (f (row m c (batch (i 0)) (place (i 0)))).val

/-- The output rows at one place. -/
theorem outRows_at (c : Dev nD) (i : Fin 8192) (b : Fin 8) (r : Fin 1024) (j : Fin 768) (h : i.val = b.val * 1024 + r.val) :
    outRows m c (ix2 i j) = (params m c).zq (row m c b r) j := by
  have hr := r.isLt
  have hb : batch i = b := Fin.ext (by show i.val / 1024 = b.val; omega)
  have hp : place i = r := Fin.ext (by show i.val % 1024 = r.val; omega)
  show (params m c).zq (row m c (batch i) (place i)) j = _
  rw [hb, hp]

/-- An array of indices at one place. -/
theorem indexRows_at (f : (Fin 768 → EReal) → Fin 1024) (c : Dev nD) (i : Fin 8192) (b : Fin 8) (r : Fin 1024) (h : i.val = b.val * 1024 + r.val) :
    indexRows m f c (ix1 i) = BitVec.ofNat 32 (f (row m c b r)).val := by
  have hr := r.isLt
  have hb : batch i = b := Fin.ext (by show i.val / 1024 = b.val; omega)
  have hp : place i = r := Fin.ext (by show i.val % 1024 = r.val; omega)
  show BitVec.ofNat 32 (f (row m c (batch i) (place i))).val = _
  rw [hb, hp]

/-- The output array at the end. -/
theorem final_zq (c : Dev nD) : (dats m 0 c).arrAt 23 (cfgs 0).N = outRows m c := by
  refine (dats m 0 c).arrAt_eq_of_covers 23 (outRows m c) (by decide +kernel) fun t hf y => ?_
  blk_simp
  rw [after0_23, zq_left]
  have ht := lt8 t
  idx_vars y
  have hy := y0.isLt
  refine ((blocks m c t).zq_at (norms m c t) y0 y1).trans ?_
  rw [params_eq, row_eq]
  refine (outRows_at m c ⟨t.val * 1024 + y0.val, by omega⟩ ⟨t.val, ht⟩ y0 y1 rfl).symm.trans ?_
  blk_ext [idx t]

/-- The first codebook's indices at the end. -/
theorem final_i0 (c : Dev nD) : (dats m 0 c).arrAt 24 (cfgs 0).N = indexRows m (fun x => code (params m c).cb0 ((params m c).z0 x)) c := by
  refine (dats m 0 c).arrAt_eq_of_covers 24 (indexRows m (fun x => code (params m c).cb0 ((params m c).z0 x)) c) (by decide +kernel) fun t hf y => ?_
  blk_simp
  rw [after0_24, i0_left]
  have ht := lt8 t
  idx_vars y
  have hy := y0.isLt
  refine ((blocks m c t).i0_at (norms m c t) y0).trans ?_
  rw [params_eq, row_eq]
  refine (indexRows_at m (fun x => code (params m c).cb0 ((params m c).z0 x)) c ⟨t.val * 1024 + y0.val, by omega⟩ ⟨t.val, ht⟩ y0 rfl).symm.trans ?_
  blk_ext [idx t]

/-- The second codebook's indices at the end. -/
theorem final_i1 (c : Dev nD) : (dats m 0 c).arrAt 25 (cfgs 0).N = indexRows m (fun x => code (params m c).cb1 ((params m c).z1 x)) c := by
  refine (dats m 0 c).arrAt_eq_of_covers 25 (indexRows m (fun x => code (params m c).cb1 ((params m c).z1 x)) c) (by decide +kernel) fun t hf y => ?_
  blk_simp
  rw [after0_25, i1_left]
  have ht := lt8 t
  idx_vars y
  have hy := y0.isLt
  refine ((blocks m c t).i1_at (norms m c t) y0).trans ?_
  rw [params_eq, row_eq]
  refine (indexRows_at m (fun x => code (params m c).cb1 ((params m c).z1 x)) c ⟨t.val * 1024 + y0.val, by omega⟩ ⟨t.val, ht⟩ y0 rfl).symm.trans ?_
  blk_ext [idx t]

/-- The third codebook's indices at the end. -/
theorem final_i2 (c : Dev nD) : (dats m 0 c).arrAt 26 (cfgs 0).N = indexRows m (fun x => code (params m c).sc ((params m c).u0 x)) c := by
  refine (dats m 0 c).arrAt_eq_of_covers 26 (indexRows m (fun x => code (params m c).sc ((params m c).u0 x)) c) (by decide +kernel) fun t hf y => ?_
  blk_simp
  rw [after0_26, i2_left]
  have ht := lt8 t
  idx_vars y
  have hy := y0.isLt
  refine ((blocks m c t).i2_at (norms m c t) y0).trans ?_
  rw [params_eq, row_eq]
  refine (indexRows_at m (fun x => code (params m c).sc ((params m c).u0 x)) c ⟨t.val * 1024 + y0.val, by omega⟩ ⟨t.val, ht⟩ y0 rfl).symm.trans ?_
  blk_ext [idx t]

/-- The fourth codebook's indices at the end. -/
theorem final_i3 (c : Dev nD) : (dats m 0 c).arrAt 27 (cfgs 0).N = indexRows m (fun x => code (params m c).tc ((params m c).u1 x)) c := by
  refine (dats m 0 c).arrAt_eq_of_covers 27 (indexRows m (fun x => code (params m c).tc ((params m c).u1 x)) c) (by decide +kernel) fun t hf y => ?_
  blk_simp
  rw [after0_27, i3_left]
  have ht := lt8 t
  idx_vars y
  have hy := y0.isLt
  refine ((blocks m c t).i3_at (norms m c t) y0).trans ?_
  rw [params_eq, row_eq]
  refine (indexRows_at m (fun x => code (params m c).tc ((params m c).u1 x)) c ⟨t.val * 1024 + y0.val, by omega⟩ ⟨t.val, ht⟩ y0 rfl).symm.trans ?_
  blk_ext [idx t]

/-- One batch's share of the loss: a quarter of its squared errors, each over the size of the whole. -/
def part (P : Params) (X : Fin 1024 → Fin 768 → EReal) : EReal := Ideal.ofBits .f32 0x3E800000#32
  * (Ideal.div ((∑ r, err P.cb0 (P.z0 (X r))) + ∑ r, err P.cb1 (P.z1 (X r))) (Ideal.ofBits .f32 0x49800000#32)
    + Ideal.div ((∑ r, err P.sc (P.u0 (X r))) + ∑ r, err P.tc (P.u1 (X r))) (Ideal.ofBits .f32 0x4A000000#32))

/-- A point's share is its batch's. -/
theorem share_part (c : Dev nD) (t : Fin cfg0.N) : (blocks m c t).share = part (params m c) (row m c ⟨t.val, lt8 t⟩) := by
  have h := norms m c t
  rw [Blocks.share_eq, Blocks.l0_eq h, Blocks.l1_eq h, Blocks.l2_eq h, Blocks.l3_eq h, params_eq]
  simp only [row_eq]
  rfl

/-- The loss array at the end. -/
theorem final_loss (c : Dev nD) : (dats m 0 c).arrAt 28 (cfgs 0).N = fun _ => (∑ b : Fin 8, part (params m c) (row m c b) : EReal) := by
  refine (dats m 0 c).arrAt_eq_of_after_last 28 t0_7 (by decide +kernel) _ fun j => ?_
  blk_simp
  rw [after0_28, Pipeline.eq_sum_fin_of_reset_step_apply_last (fun n h => (outsAt0 m c n h).2.2.2.2.2) 8 (fun _ => (0 : EReal))
    (fun p _ => (blocks m c p).share)
    (fun t h j => (loss_first m c t h (by have := lt8 t; omega) j).trans (zero_add _).symm)
    (fun t h j => loss_next m c t h (by omega) j)
    (le_of_eq N_0) t0_7 rfl j, zero_add]
  refine Fin.sum_fin_congr fun s => ?_
  exact share_part m c _

end Cert.KernelIdeal.Value

end

end
-- ==== Proof.KerRun.lean ====
/- The kernel's run: what its six results hold, in the row specification's names. -/
module

public import proofs.«01_k».proof.Proof.KerVal

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Vq Cert.KernelIdeal.Row

variable (m : (ℓ : Loc nD τ sig) → Buf (Elt Ideal) ℓ)

/-- The quantised output. -/
def resZq (c : Dev nD) : FVec Ideal S8x1024x768 .f32 := fun i => (params m c).zq (row m c (i 0) (i 1)) (i 2)

/-- The indices a stage chooses. -/
def resIdx (f : (Fin 768 → EReal) → Fin 1024) (c : Dev nD) : IVec S8x1024 32 := fun i => BitVec.ofNat 32 (f (row m c (i 0) (i 1))).val

/-- The loss. -/
def resLoss (c : Dev nD) : FVec Ideal S_ .f32 := fun _ => (∑ b : Fin 8, part (params m c) (row m c b) : EReal)

/-- Rows of the whole, read by batch. -/
theorem batch_row (X : FVec Ideal S8192x768 .f32) (b : Fin 8) (r : Fin 1024) (k : Fin 768) (i : Fin 8192) (h : i.val = b.val * 1024 + r.val) :
    shapeCast S8x1024x768 X shapeCasts_S8192x768_S8x1024x768 (ix3 b r k) = X (ix2 i k) := by
  pointwise []
  blk_ext []

/-- Indices of the whole, read by batch. -/
theorem batch_idx (X : IVec S8192 32) (b : Fin 8) (r : Fin 1024) (i : Fin 8192) (h : i.val = b.val * 1024 + r.val) :
    shapeCast S8x1024 X shapeCasts_S8192_S8x1024 (ix2 b r) = X (ix1 i) := by
  pointwise []
  blk_ext []

/-- The output by batch. -/
theorem zq_batch (c : Dev nD) : shapeCast S8x1024x768 (outRows m c) shapeCasts_S8192x768_S8x1024x768 = resZq m c := by
  funext y
  idx_vars y
  have h0 := y0.isLt
  have h1 := y1.isLt
  exact (batch_row (outRows m c) y0 y1 y2 ⟨y0.val * 1024 + y1.val, by omega⟩ rfl).trans (outRows_at m c _ y0 y1 y2 rfl)

/-- The indices by batch. -/
theorem idx_batch (f : (Fin 768 → EReal) → Fin 1024) (c : Dev nD) : shapeCast S8x1024 (indexRows m f c) shapeCasts_S8192_S8x1024 = resIdx m f c := by
  funext y
  idx_vars y
  have h0 := y0.isLt
  have h1 := y1.isLt
  exact (batch_idx (indexRows m f c) y0 y1 ⟨y0.val * 1024 + y1.val, by omega⟩ rfl).trans (indexRows_at m f c _ y0 y1 rfl)

/-- The loss as a scalar. -/
theorem loss_scalar (X : EReal) : shapeCast S_ (fun _ => X : FVec Ideal S1x1 .f32) shapeCasts_S1x1_S_ = fun _ => X := rfl

/-- No two windows share an array. -/
theorem arr_inj : Function.Injective (Pipeline.arrRef spec0) := by decide +kernel

/-- Result 0 when the program has ended. -/
theorem tail_zq (c : Dev nD) : Pipeline.afterTail₀ cfgs (dats m) 0 (V0 m) [hostOps1] c main_v14 = resZq m c := by
  have e : Pipeline.withArrays (cfgs 0).spec c (V0 m c) (fun w => (dats m 0 c).arrAt w (cfgs 0).N) (Proc.devRef .tc main_v13_0) = outRows m c :=
    (Pipeline.withArrays_arr (cfgs 0).spec arr_inj c _ _ 23).trans (final_zq m c)
  unfold Pipeline.afterTail₀
  show StableHlo.after hostOps1 _ _ = _
  unfold hostOps1
  after_results
  rw [e]
  exact zq_batch m c

/-- Result 1 when the program has ended. -/
theorem tail_i0 (c : Dev nD) : Pipeline.afterTail₀ cfgs (dats m) 0 (V0 m) [hostOps1] c main_v15 = resIdx m (fun x => code (params m c).cb0 ((params m c).z0 x)) c := by
  have e : Pipeline.withArrays (cfgs 0).spec c (V0 m c) (fun w => (dats m 0 c).arrAt w (cfgs 0).N) (Proc.devRef .tc main_v13_1) = indexRows m (fun x => code (params m c).cb0 ((params m c).z0 x)) c :=
    (Pipeline.withArrays_arr (cfgs 0).spec arr_inj c _ _ 24).trans (final_i0 m c)
  unfold Pipeline.afterTail₀
  show StableHlo.after hostOps1 _ _ = _
  unfold hostOps1
  after_results
  rw [e]
  exact idx_batch m _ c

/-- Result 2 when the program has ended. -/
theorem tail_i1 (c : Dev nD) : Pipeline.afterTail₀ cfgs (dats m) 0 (V0 m) [hostOps1] c main_v16 = resIdx m (fun x => code (params m c).cb1 ((params m c).z1 x)) c := by
  have e : Pipeline.withArrays (cfgs 0).spec c (V0 m c) (fun w => (dats m 0 c).arrAt w (cfgs 0).N) (Proc.devRef .tc main_v13_2) = indexRows m (fun x => code (params m c).cb1 ((params m c).z1 x)) c :=
    (Pipeline.withArrays_arr (cfgs 0).spec arr_inj c _ _ 25).trans (final_i1 m c)
  unfold Pipeline.afterTail₀
  show StableHlo.after hostOps1 _ _ = _
  unfold hostOps1
  after_results
  rw [e]
  exact idx_batch m _ c

/-- Result 3 when the program has ended. -/
theorem tail_i2 (c : Dev nD) : Pipeline.afterTail₀ cfgs (dats m) 0 (V0 m) [hostOps1] c main_v17 = resIdx m (fun x => code (params m c).sc ((params m c).u0 x)) c := by
  have e : Pipeline.withArrays (cfgs 0).spec c (V0 m c) (fun w => (dats m 0 c).arrAt w (cfgs 0).N) (Proc.devRef .tc main_v13_3) = indexRows m (fun x => code (params m c).sc ((params m c).u0 x)) c :=
    (Pipeline.withArrays_arr (cfgs 0).spec arr_inj c _ _ 26).trans (final_i2 m c)
  unfold Pipeline.afterTail₀
  show StableHlo.after hostOps1 _ _ = _
  unfold hostOps1
  after_results
  rw [e]
  exact idx_batch m _ c

/-- Result 4 when the program has ended. -/
theorem tail_i3 (c : Dev nD) : Pipeline.afterTail₀ cfgs (dats m) 0 (V0 m) [hostOps1] c main_v18 = resIdx m (fun x => code (params m c).tc ((params m c).u1 x)) c := by
  have e : Pipeline.withArrays (cfgs 0).spec c (V0 m c) (fun w => (dats m 0 c).arrAt w (cfgs 0).N) (Proc.devRef .tc main_v13_4) = indexRows m (fun x => code (params m c).tc ((params m c).u1 x)) c :=
    (Pipeline.withArrays_arr (cfgs 0).spec arr_inj c _ _ 27).trans (final_i3 m c)
  unfold Pipeline.afterTail₀
  show StableHlo.after hostOps1 _ _ = _
  unfold hostOps1
  after_results
  rw [e]
  exact idx_batch m _ c

/-- Result 5 when the program has ended. -/
theorem tail_loss (c : Dev nD) : Pipeline.afterTail₀ cfgs (dats m) 0 (V0 m) [hostOps1] c main_v19 = resLoss m c := by
  have e : Pipeline.withArrays (cfgs 0).spec c (V0 m c) (fun w => (dats m 0 c).arrAt w (cfgs 0).N) (Proc.devRef .tc main_v13_5) = fun _ => (∑ b : Fin 8, part (params m c) (row m c b) : EReal) :=
    (Pipeline.withArrays_arr (cfgs 0).spec arr_inj c _ _ 28).trans (final_loss m c)
  unfold Pipeline.afterTail₀
  show StableHlo.after hostOps1 _ _ = _
  unfold hostOps1
  after_results
  rw [e]
  exact loss_scalar _

/-- The kernel's run. -/
theorem run (ρ : Dev nD → PrngReg) :
    θ_run (defs (F := Ideal)) (onTc (τ := τ) (main (F := Ideal))) ⟨m, fun _ => 0, ρ⟩ fun r =>
      ∀ c : Dev nD,
        r.2.mem ((c.tc : Thread nD τ).loc main_v14) = resZq m c
        ∧ r.2.mem ((c.tc : Thread nD τ).loc main_v15) = resIdx m (fun x => code (params m c).cb0 ((params m c).z0 x)) c
        ∧ r.2.mem ((c.tc : Thread nD τ).loc main_v16) = resIdx m (fun x => code (params m c).cb1 ((params m c).z1 x)) c
        ∧ r.2.mem ((c.tc : Thread nD τ).loc main_v17) = resIdx m (fun x => code (params m c).sc ((params m c).u0 x)) c
        ∧ r.2.mem ((c.tc : Thread nD τ).loc main_v18) = resIdx m (fun x => code (params m c).tc ((params m c).u1 x)) c
        ∧ r.2.mem ((c.tc : Thread nD τ).loc main_v19) = resLoss m c := by
  run_from Gen.run_main m ρ
  · exact tail_zq m c
  · exact tail_i0 m c
  · exact tail_i1 m c
  · exact tail_i2 m c
  · exact tail_i3 m c
  · exact tail_loss m c

end Cert.KernelIdeal.Value

end

end
-- ==== Proof.RefRun.lean ====
/-
  The reference program as a straight line of host operations.

  `Step n op`: the operation writes the buffer numbered `n` and reads only buffers with smaller numbers. A line whose
  operations are such steps, numbered consecutively, leaves memory contents `W` at which EVERY operation's equation holds
  (`holds_after`): what it wrote is its function of the contents its operands still have at the end. So the final memory is
  described by one equation per operation, and the later modules read off it the few equations a result needs.
-/
module

public import proofs.«01_k».proof.Defs
public import proofs.«01_k».proof.Proof.Gen.ReferenceIdeal
public import Idealize.ShloMosaic.Lib.StableHlo.RunHlo

@[expose] public section

set_option maxRecDepth 16384

noncomputable section

namespace Cert.ReferenceIdeal.Line

open Idealize.ShloMosaic Idealize.ShloMosaic.TcCoe Idealize.SL.Sem
open Idealize.ShloMosaic.StableHlo (seq after nullary unary binary ternary quaternary nary tcRefs run_seq launchContents)
open Cert.ReferenceIdeal Cert.ReferenceIdeal.Gen

/-! ## Lines of numbered steps -/

section General

variable {τ : Topo} {sig : RefSig} {Val : EltTy → Type}

/-- The operation writes the buffer numbered `n` and reads only buffers with smaller numbers. -/
inductive Step (n : ℕ) : HloOp τ sig Val → Prop
  | nullary (y : Ref sig .tc) (v) (hy) : y.idx.val = n → Step n (nullary y v hy)
  | unary (x y : Ref sig .tc) (f) (hx hy) : x.idx.val < n → y.idx.val = n → Step n (unary x y f hx hy)
  | binary (a b y : Ref sig .tc) (f) (ha hb hy) : a.idx.val < n → b.idx.val < n → y.idx.val = n →
      Step n (binary a b y f ha hb hy)
  | ternary (c a b y : Ref sig .tc) (f) (hc ha hb hy) : c.idx.val < n → a.idx.val < n → b.idx.val < n → y.idx.val = n →
      Step n (ternary c a b y f hc ha hb hy)
  | quaternary (a b c e y : Ref sig .tc) (f) (ha hb hc he hy) : a.idx.val < n → b.idx.val < n → c.idx.val < n →
      e.idx.val < n → y.idx.val = n → Step n (quaternary a b c e y f ha hb hc he hy)
  | nary {k : ℕ} (xs : Fin k → Ref sig .tc) (y : Ref sig .tc) (f) (hxs hy) : (∀ i, (xs i).idx.val < n) → y.idx.val = n →
      Step n (nary xs y f hxs hy)

/-- Consecutively numbered steps. -/
def Numbered : ℕ → List (HloOp τ sig Val) → Prop
  | _, [] => True
  | n, op :: ops => Step n op ∧ Numbered (n + 1) ops

/-- Two numbered lines one after the other. -/
theorem Numbered.append {l₁ l₂ : List (HloOp τ sig Val)} : ∀ {n : ℕ}, Numbered n l₁ → Numbered (n + l₁.length) l₂ →
    Numbered n (l₁ ++ l₂) := by
  induction l₁ with
  | nil => intro n _ h; simpa using h
  | cons op l ih =>
    intro n h h2
    refine ⟨h.1, ih h.2 ?_⟩
    have : n + 1 + l.length = n + (op :: l).length := by simp; omega
    rw [this]; exact h2

/-- The operation's equation holds at the contents `W`: running it again changes nothing. -/
def Holds (W : Valuation τ sig Val) (op : HloOp τ sig Val) : Prop :=
  ∀ r : Ref sig .tc, op.result W (Proc.devRef .tc r) = W (Proc.devRef .tc r)

/-- A buffer of smaller number is another buffer. -/
theorem ne_of_lt {n : ℕ} {x y : Ref sig .tc} (hx : x.idx.val < n) (hy : y.idx.val = n) : x ≠ y := by
  rintro rfl; omega

/-- A step leaves every buffer with another number alone. -/
theorem Step.other {n : ℕ} {op : HloOp τ sig Val} (h : Step n op) (F : Valuation τ sig Val) {r : Ref sig .tc}
    (hr : r.idx.val ≠ n) : op.result F (Proc.devRef .tc r) = F (Proc.devRef .tc r) := by
  cases h with
  | nullary y v hy e => exact StableHlo.nullary_result_ne _ _ _ _ (by rintro rfl; exact hr e)
  | unary x y f hx hy _ e => exact StableHlo.unary_result_ne _ _ _ _ _ _ (by rintro rfl; exact hr e)
  | binary a b y f ha hb hy _ _ e => exact StableHlo.binary_result_ne _ _ _ _ _ _ _ _ (by rintro rfl; exact hr e)
  | ternary c a b y f hc ha hb hy _ _ _ e =>
    exact StableHlo.ternary_result_ne _ _ _ _ _ _ _ _ _ _ (by rintro rfl; exact hr e)
  | quaternary a b c e y f ha hb hc he hy _ _ _ _ e' =>
    exact StableHlo.quaternary_result_ne _ _ _ _ _ _ _ _ _ _ _ _ (by rintro rfl; exact hr e')
  | nary xs y f hxs hy _ e => exact StableHlo.nary_result_ne _ _ _ _ _ _ (by rintro rfl; exact hr e)

/-- Contents that agree with a step's operands and with what it wrote satisfy its equation. -/
theorem Step.holds {n : ℕ} {op : HloOp τ sig Val} (h : Step n op) (V W : Valuation τ sig Val)
    (hlt : ∀ r : Ref sig .tc, r.idx.val < n + 1 → W (Proc.devRef .tc r) = op.result V (Proc.devRef .tc r)) : Holds W op := by
  intro r
  have hin : ∀ x : Ref sig .tc, x.idx.val < n → W (Proc.devRef .tc x) = V (Proc.devRef .tc x) := fun x hx => by
    rw [hlt x (by omega), h.other V (by omega)]
  cases h with
  | nullary y v hy e =>
    by_cases hr : r = y
    · subst hr; rw [hlt r (by omega), StableHlo.nullary_result, StableHlo.nullary_result]
    · exact StableHlo.nullary_result_ne _ _ _ _ hr
  | unary x y f hx hy h1 e =>
    by_cases hr : r = y
    · subst hr; rw [hlt r (by omega), StableHlo.unary_result, StableHlo.unary_result, hin x h1]
    · exact StableHlo.unary_result_ne _ _ _ _ _ _ hr
  | binary a b y f ha hb hy h1 h2 e =>
    by_cases hr : r = y
    · subst hr; rw [hlt r (by omega), StableHlo.binary_result, StableHlo.binary_result, hin a h1, hin b h2]
    · exact StableHlo.binary_result_ne _ _ _ _ _ _ _ _ hr
  | ternary c a b y f hc ha hb hy h1 h2 h3 e =>
    by_cases hr : r = y
    · subst hr; rw [hlt r (by omega), StableHlo.ternary_result, StableHlo.ternary_result, hin c h1, hin a h2, hin b h3]
    · exact StableHlo.ternary_result_ne _ _ _ _ _ _ _ _ _ _ hr
  | quaternary a b c e y f ha hb hc he hy h1 h2 h3 h4 e' =>
    by_cases hr : r = y
    · subst hr
      rw [hlt r (by omega), StableHlo.quaternary_result, StableHlo.quaternary_result, hin a h1, hin b h2, hin c h3, hin e h4]
    · exact StableHlo.quaternary_result_ne _ _ _ _ _ _ _ _ _ _ _ _ hr
  | nary xs y f hxs hy h1 e =>
    by_cases hr : r = y
    · subst hr
      rw [hlt r (by omega), StableHlo.nary_result, StableHlo.nary_result]
      exact congrArg f (funext fun k => hin _ (h1 k))
    · exact StableHlo.nary_result_ne _ _ _ _ _ _ hr

/-- A numbered line leaves the buffers before its first number alone. -/
theorem Numbered.after_of_lt {ops : List (HloOp τ sig Val)} : ∀ {n : ℕ}, Numbered n ops → ∀ (V : Valuation τ sig Val)
    {r : Ref sig .tc}, r.idx.val < n → after ops V (Proc.devRef .tc r) = V (Proc.devRef .tc r) := by
  induction ops with
  | nil => intro n _ V r _; rfl
  | cons op ops ih =>
    intro n h V r hr
    rw [StableHlo.after_cons, ih h.2 _ (by omega), h.1.other V (by omega)]

/-- After a numbered line every one of its operations' equations holds. -/
theorem Numbered.holds_after {ops : List (HloOp τ sig Val)} : ∀ {n : ℕ}, Numbered n ops → ∀ V : Valuation τ sig Val,
    ∀ op ∈ ops, Holds (after ops V) op := by
  induction ops with
  | nil => intro n _ V op h; exact absurd h List.not_mem_nil
  | cons o ops ih =>
    intro n h V op hop
    rw [StableHlo.after_cons]
    rcases List.mem_cons.mp hop with rfl | hop
    · exact h.1.holds V _ fun r hr => h.2.after_of_lt _ hr
    · exact ih h.2 _ op hop

/-- A step touches TensorCore buffers only. -/
theorem Step.bufs_sub {n : ℕ} {op : HloOp τ sig Val} (h : Step n op) : op.bufs ⊆ tcRefs τ sig := by
  cases h <;> simp

/-- A step determines everything it writes. -/
theorem Step.fresh_eq {n : ℕ} {op : HloOp τ sig Val} (h : Step n op) : op.fresh = ∅ := by
  cases h <;> rfl

/-- Every operation of a numbered line is a step. -/
theorem Numbered.step {ops : List (HloOp τ sig Val)} : ∀ {n : ℕ}, Numbered n ops → ∀ op ∈ ops, ∃ k, Step k op := by
  induction ops with
  | nil => intro n _ op h; exact absurd h List.not_mem_nil
  | cons o ops ih =>
    intro n h op hop
    rcases List.mem_cons.mp hop with rfl | hop
    · exact ⟨n, h.1⟩
    · exact ih h.2 op hop

/-! ### The equation of the operation at a position -/

variable {W : Valuation τ sig Val} {ops : List (HloOp τ sig Val)}

/-- The operation at position `i`, without operands: its result is its function of what they hold. -/
theorem eq0 (h : ∀ op ∈ ops, Holds W op) (i : ℕ) {y : Ref sig .tc} {v} {hy}
    (hi : ops[i]? = some (nullary y v hy)) : W (Proc.devRef .tc y) = v := by
  rw [← h _ (List.mem_of_getElem? hi) y, StableHlo.nullary_result]

/-- The operation at position `i`, on one operand: its result is its function of what they hold. -/
theorem eq1 (h : ∀ op ∈ ops, Holds W op) (i : ℕ) {x y : Ref sig .tc} {f} {hx hy}
    (hi : ops[i]? = some (unary x y f hx hy)) : W (Proc.devRef .tc y) = f (W (Proc.devRef .tc x)) := by
  rw [← h _ (List.mem_of_getElem? hi) y, StableHlo.unary_result]

/-- The operation at position `i`, on two operands: its result is its function of what they hold. -/
theorem eq2 (h : ∀ op ∈ ops, Holds W op) (i : ℕ) {a b y : Ref sig .tc} {f} {ha hb hy}
    (hi : ops[i]? = some (binary a b y f ha hb hy)) :
    W (Proc.devRef .tc y) = f (W (Proc.devRef .tc a)) (W (Proc.devRef .tc b)) := by
  rw [← h _ (List.mem_of_getElem? hi) y, StableHlo.binary_result]

/-- The operation at position `i`, on three operands: its result is its function of what they hold. -/
theorem eq3 (h : ∀ op ∈ ops, Holds W op) (i : ℕ) {c a b y : Ref sig .tc} {f} {hc ha hb hy}
    (hi : ops[i]? = some (ternary c a b y f hc ha hb hy)) :
    W (Proc.devRef .tc y) = f (W (Proc.devRef .tc c)) (W (Proc.devRef .tc a)) (W (Proc.devRef .tc b)) := by
  rw [← h _ (List.mem_of_getElem? hi) y, StableHlo.ternary_result]

/-- The operation at position `i`, on four operands: its result is its function of what they hold. -/
theorem eq4 (h : ∀ op ∈ ops, Holds W op) (i : ℕ) {a b c e y : Ref sig .tc} {f} {ha hb hc he hy}
    (hi : ops[i]? = some (quaternary a b c e y f ha hb hc he hy)) :
    W (Proc.devRef .tc y) = f (W (Proc.devRef .tc a)) (W (Proc.devRef .tc b)) (W (Proc.devRef .tc c)) (W (Proc.devRef .tc e)) := by
  rw [← h _ (List.mem_of_getElem? hi) y, StableHlo.quaternary_result]

/-- The operation at position `i`, on a family of operands: its result is its function of what they hold. -/
theorem eqn (h : ∀ op ∈ ops, Holds W op) (i : ℕ) {k : ℕ} {xs : Fin k → Ref sig .tc} {y : Ref sig .tc} {f} {hxs hy}
    (hi : ops[i]? = some (nary xs y f hxs hy)) :
    W (Proc.devRef .tc y) = f (fun j => W (Proc.devRef .tc (xs j))) := by
  rw [← h _ (List.mem_of_getElem? hi) y, StableHlo.nary_result]

end General

/-! ## The program's operations -/

variable {F : FTy → Type} [FloatOps F]

/-- The five operations of the arg-min function: the column numbers, its two starting values, and its two results. -/
abbrev argminSteps (arg0 : StableHlo.TRef sig ⟨S8x1024x1024, .f32⟩) (φ : fn_argmin.Bufs) : List (HloOp τ sig (Elt F)) :=
  [StableHlo.TRef.nullary φ.v0 (iotaInDim S8x1024x1024 32 2),
   StableHlo.TRef.nullary φ.cst (constant S_ .f32 0x7F800000#32),
   StableHlo.TRef.nullary φ.c (constantI S_ 32 0#32),
   StableHlo.TRef.quaternary arg0 φ.v0 φ.cst φ.c φ.v1_0 (fun x y u v j => (Host.argReduce reducer_argmin_f32_i32 x y u v reducesTo_S8x1024x1024_S8x1024_d2 h_S_ j).1),
   StableHlo.TRef.quaternary arg0 φ.v0 φ.cst φ.c φ.v1_1 (fun x y u v j => (Host.argReduce reducer_argmin_f32_i32 x y u v reducesTo_S8x1024x1024_S8x1024_d2 h_S_ j).2)]

/-- The operations of the reference program, window 1 of 4, in order. -/
def part0 : List (HloOp τ sig (Elt F)) :=
  [StableHlo.unary main_arg1 main_v0 ((transpose S768x128 [1, 0] · transposes_S128x768_S768x128_1_0) : (⟨S128x768, .f32⟩ : BufTy).Contents (Elt F) → (⟨S768x128, .f32⟩ : BufTy).Contents (Elt F)),
   StableHlo.binary main_arg0 main_v0 main_v1 ((fun l r => Host.dotGeneral dot_S8x1024x768_S768x128_S8x1024x128_2_0_01_1_n_n none l r) : (⟨S8x1024x768, .f32⟩ : BufTy).Contents (Elt F) → (⟨S768x128, .f32⟩ : BufTy).Contents (Elt F) → (⟨S8x1024x128, .f32⟩ : BufTy).Contents (Elt F)),
   StableHlo.unary main_arg2 main_v2 (broadcastInDim S1x1x128 ![2] bcast_S128_S1x1x128_2 : (⟨S128, .f32⟩ : BufTy).Contents (Elt F) → (⟨S1x1x128, .f32⟩ : BufTy).Contents (Elt F)),
   StableHlo.unary main_v2 main_v3 (broadcastInDim S8x1024x128 ![0, 1, 2] bcast_S1x1x128_S8x1024x128_0_1_2 : (⟨S1x1x128, .f32⟩ : BufTy).Contents (Elt F) → (⟨S8x1024x128, .f32⟩ : BufTy).Contents (Elt F)),
   StableHlo.binary main_v1 main_v3 main_v4 (addf : (⟨S8x1024x128, .f32⟩ : BufTy).Contents (Elt F) → (⟨S8x1024x128, .f32⟩ : BufTy).Contents (Elt F) → (⟨S8x1024x128, .f32⟩ : BufTy).Contents (Elt F)),
   StableHlo.binary main_v4 main_v4 main_v5 (mulf : (⟨S8x1024x128, .f32⟩ : BufTy).Contents (Elt F) → (⟨S8x1024x128, .f32⟩ : BufTy).Contents (Elt F) → (⟨S8x1024x128, .f32⟩ : BufTy).Contents (Elt F)),
   StableHlo.nullary main_cst (constant S_ .f32 0x00000000#32),
   StableHlo.binary main_v5 main_cst main_v6 ((fun x v => Host.reduceAdd x v reducesTo_S8x1024x128_S8x1024_d2 h_S_) : (⟨S8x1024x128, .f32⟩ : BufTy).Contents (Elt F) → (⟨S_, .f32⟩ : BufTy).Contents (Elt F) → (⟨S8x1024, .f32⟩ : BufTy).Contents (Elt F)),
   StableHlo.unary main_v6 main_v7 (broadcastInDim S8x1024x1 ![0, 1] bcast_S8x1024_S8x1024x1_0_1 : (⟨S8x1024, .f32⟩ : BufTy).Contents (Elt F) → (⟨S8x1024x1, .f32⟩ : BufTy).Contents (Elt F)),
   StableHlo.unary main_arg5 main_v8 ((transpose S128x1024 [1, 0] · transposes_S1024x128_S128x1024_1_0) : (⟨S1024x128, .f32⟩ : BufTy).Contents (Elt F) → (⟨S128x1024, .f32⟩ : BufTy).Contents (Elt F)),
   StableHlo.binary main_v4 main_v8 main_v9 ((fun l r => Host.dotGeneral dot_S8x1024x128_S128x1024_S8x1024x1024_2_0_01_1_n_n none l r) : (⟨S8x1024x128, .f32⟩ : BufTy).Contents (Elt F) → (⟨S128x1024, .f32⟩ : BufTy).Contents (Elt F) → (⟨S8x1024x1024, .f32⟩ : BufTy).Contents (Elt F)),
   StableHlo.nullary main_cst_0 (constant S_ .f32 0x40000000#32),
   StableHlo.unary main_cst_0 main_v10 (broadcastInDim S8x1024x1024 ![] bcast_S_S8x1024x1024 : (⟨S_, .f32⟩ : BufTy).Contents (Elt F) → (⟨S8x1024x1024, .f32⟩ : BufTy).Contents (Elt F)),
   StableHlo.binary main_v10 main_v9 main_v11 (mulf : (⟨S8x1024x1024, .f32⟩ : BufTy).Contents (Elt F) → (⟨S8x1024x1024, .f32⟩ : BufTy).Contents (Elt F) → (⟨S8x1024x1024, .f32⟩ : BufTy).Contents (Elt F)),
   StableHlo.unary main_v7 main_v12 (broadcastInDim S8x1024x1024 ![0, 1, 2] bcast_S8x1024x1_S8x1024x1024_0_1_2 : (⟨S8x1024x1, .f32⟩ : BufTy).Contents (Elt F) → (⟨S8x1024x1024, .f32⟩ : BufTy).Contents (Elt F)),
   StableHlo.binary main_v12 main_v11 main_v13 (subf : (⟨S8x1024x1024, .f32⟩ : BufTy).Contents (Elt F) → (⟨S8x1024x1024, .f32⟩ : BufTy).Contents (Elt F) → (⟨S8x1024x1024, .f32⟩ : BufTy).Contents (Elt F)),
   StableHlo.binary main_arg5 main_arg5 main_v14 (mulf : (⟨S1024x128, .f32⟩ : BufTy).Contents (Elt F) → (⟨S1024x128, .f32⟩ : BufTy).Contents (Elt F) → (⟨S1024x128, .f32⟩ : BufTy).Contents (Elt F)),
   StableHlo.nullary main_cst_1 (constant S_ .f32 0x00000000#32),
   StableHlo.binary main_v14 main_cst_1 main_v15 ((fun x v => Host.reduceAdd x v reducesTo_S1024x128_S1024_d1 h_S_) : (⟨S1024x128, .f32⟩ : BufTy).Contents (Elt F) → (⟨S_, .f32⟩ : BufTy).Contents (Elt F) → (⟨S1024, .f32⟩ : BufTy).Contents (Elt F)),
   StableHlo.unary main_v15 main_v16 (broadcastInDim S1x1x1024 ![2] bcast_S1024_S1x1x1024_2 : (⟨S1024, .f32⟩ : BufTy).Contents (Elt F) → (⟨S1x1x1024, .f32⟩ : BufTy).Contents (Elt F)),
   StableHlo.unary main_v16 main_v17 (broadcastInDim S8x1024x1024 ![0, 1, 2] bcast_S1x1x1024_S8x1024x1024_0_1_2 : (⟨S1x1x1024, .f32⟩ : BufTy).Contents (Elt F) → (⟨S8x1024x1024, .f32⟩ : BufTy).Contents (Elt F)),
   StableHlo.binary main_v13 main_v17 main_v18 (addf : (⟨S8x1024x1024, .f32⟩ : BufTy).Contents (Elt F) → (⟨S8x1024x1024, .f32⟩ : BufTy).Contents (Elt F) → (⟨S8x1024x1024, .f32⟩ : BufTy).Contents (Elt F))] ++
  argminSteps (.of main_v18) main_call0 ++
  [StableHlo.nullary main_c (constantI S_ 32 0#32),
   StableHlo.unary main_c main_v20 (broadcastInDim S8x1024 ![] bcast_S_S8x1024 : (⟨S_, .i32⟩ : BufTy).Contents (Elt F) → (⟨S8x1024, .i32⟩ : BufTy).Contents (Elt F)),
   StableHlo.binary main_v19 main_v20 main_v21 (cmpi .slt : (⟨S8x1024, .i32⟩ : BufTy).Contents (Elt F) → (⟨S8x1024, .i32⟩ : BufTy).Contents (Elt F) → (⟨S8x1024, .i1⟩ : BufTy).Contents (Elt F)),
   StableHlo.nullary main_c_2 (constantI S_ 32 1024#32),
   StableHlo.unary main_c_2 main_v22 (broadcastInDim S8x1024 ![] bcast_S_S8x1024 : (⟨S_, .i32⟩ : BufTy).Contents (Elt F) → (⟨S8x1024, .i32⟩ : BufTy).Contents (Elt F)),
   StableHlo.binary main_v19 main_v22 main_v23 (addi : (⟨S8x1024, .i32⟩ : BufTy).Contents (Elt F) → (⟨S8x1024, .i32⟩ : BufTy).Contents (Elt F) → (⟨S8x1024, .i32⟩ : BufTy).Contents (Elt F)),
   StableHlo.ternary main_v21 main_v23 main_v19 main_v24 (select : (⟨S8x1024, .i1⟩ : BufTy).Contents (Elt F) → (⟨S8x1024, .i32⟩ : BufTy).Contents (Elt F) → (⟨S8x1024, .i32⟩ : BufTy).Contents (Elt F) → (⟨S8x1024, .i32⟩ : BufTy).Contents (Elt F)),
   StableHlo.unary main_v24 main_v25 (broadcastInDim S8x1024x1 ![0, 1] bcast_S8x1024_S8x1024x1_0_1 : (⟨S8x1024, .i32⟩ : BufTy).Contents (Elt F) → (⟨S8x1024x1, .i32⟩ : BufTy).Contents (Elt F)),
   StableHlo.binary main_arg5 main_v25 main_v26 ((fun x i => Host.gather gather_S1024x128_S8x1024x1_S8x1024x128_2_0_n_n_0_2_1128 x i) : (⟨S1024x128, .f32⟩ : BufTy).Contents (Elt F) → (⟨S8x1024x1, .i32⟩ : BufTy).Contents (Elt F) → (⟨S8x1024x128, .f32⟩ : BufTy).Contents (Elt F)),
   StableHlo.binary main_v26 main_v4 main_v27 (subf : (⟨S8x1024x128, .f32⟩ : BufTy).Contents (Elt F) → (⟨S8x1024x128, .f32⟩ : BufTy).Contents (Elt F) → (⟨S8x1024x128, .f32⟩ : BufTy).Contents (Elt F)),
   StableHlo.binary main_v27 main_v27 main_v28 (mulf : (⟨S8x1024x128, .f32⟩ : BufTy).Contents (Elt F) → (⟨S8x1024x128, .f32⟩ : BufTy).Contents (Elt F) → (⟨S8x1024x128, .f32⟩ : BufTy).Contents (Elt F)),
   StableHlo.nullary main_cst_3 (constant S_ .f32 0x00000000#32),
   StableHlo.binary main_v28 main_cst_3 main_v29 ((fun x v => Host.reduceAdd x v reducesTo_S8x1024x128_S_d0_1_2 h_S_) : (⟨S8x1024x128, .f32⟩ : BufTy).Contents (Elt F) → (⟨S_, .f32⟩ : BufTy).Contents (Elt F) → (⟨S_, .f32⟩ : BufTy).Contents (Elt F)),
   StableHlo.nullary main_cst_4 (constant S_ .f32 0x49800000#32),
   StableHlo.binary main_v29 main_cst_4 main_v30 (Host.divf : (⟨S_, .f32⟩ : BufTy).Contents (Elt F) → (⟨S_, .f32⟩ : BufTy).Contents (Elt F) → (⟨S_, .f32⟩ : BufTy).Contents (Elt F)),
   StableHlo.nullary main_cst_5 (constant S_ .f32 0x3E800000#32),
   StableHlo.binary main_cst_5 main_v30 main_v31 (mulf : (⟨S_, .f32⟩ : BufTy).Contents (Elt F) → (⟨S_, .f32⟩ : BufTy).Contents (Elt F) → (⟨S_, .f32⟩ : BufTy).Contents (Elt F)),
   StableHlo.binary main_v26 main_v4 main_v32 (subf : (⟨S8x1024x128, .f32⟩ : BufTy).Contents (Elt F) → (⟨S8x1024x128, .f32⟩ : BufTy).Contents (Elt F) → (⟨S8x1024x128, .f32⟩ : BufTy).Contents (Elt F)),
   StableHlo.binary main_v4 main_v32 main_v33 (addf : (⟨S8x1024x128, .f32⟩ : BufTy).Contents (Elt F) → (⟨S8x1024x128, .f32⟩ : BufTy).Contents (Elt F) → (⟨S8x1024x128, .f32⟩ : BufTy).Contents (Elt F)),
   StableHlo.unary main_arg3 main_v34 ((transpose S768x128 [1, 0] · transposes_S128x768_S768x128_1_0) : (⟨S128x768, .f32⟩ : BufTy).Contents (Elt F) → (⟨S768x128, .f32⟩ : BufTy).Contents (Elt F)),
   StableHlo.binary main_arg0 main_v34 main_v35 ((fun l r => Host.dotGeneral dot_S8x1024x768_S768x128_S8x1024x128_2_0_01_1_n_n none l r) : (⟨S8x1024x768, .f32⟩ : BufTy).Contents (Elt F) → (⟨S768x128, .f32⟩ : BufTy).Contents (Elt F) → (⟨S8x1024x128, .f32⟩ : BufTy).Contents (Elt F)),
   StableHlo.unary main_arg4 main_v36 (broadcastInDim S1x1x128 ![2] bcast_S128_S1x1x128_2 : (⟨S128, .f32⟩ : BufTy).Contents (Elt F) → (⟨S1x1x128, .f32⟩ : BufTy).Contents (Elt F)),
   StableHlo.unary main_v36 main_v37 (broadcastInDim S8x1024x128 ![0, 1, 2] bcast_S1x1x128_S8x1024x128_0_1_2 : (⟨S1x1x128, .f32⟩ : BufTy).Contents (Elt F) → (⟨S8x1024x128, .f32⟩ : BufTy).Contents (Elt F)),
   StableHlo.binary main_v35 main_v37 main_v38 (addf : (⟨S8x1024x128, .f32⟩ : BufTy).Contents (Elt F) → (⟨S8x1024x128, .f32⟩ : BufTy).Contents (Elt F) → (⟨S8x1024x128, .f32⟩ : BufTy).Contents (Elt F)),
   StableHlo.binary main_v38 main_v38 main_v39 (mulf : (⟨S8x1024x128, .f32⟩ : BufTy).Contents (Elt F) → (⟨S8x1024x128, .f32⟩ : BufTy).Contents (Elt F) → (⟨S8x1024x128, .f32⟩ : BufTy).Contents (Elt F)),
   StableHlo.nullary main_cst_6 (constant S_ .f32 0x00000000#32),
   StableHlo.binary main_v39 main_cst_6 main_v40 ((fun x v => Host.reduceAdd x v reducesTo_S8x1024x128_S8x1024_d2 h_S_) : (⟨S8x1024x128, .f32⟩ : BufTy).Contents (Elt F) → (⟨S_, .f32⟩ : BufTy).Contents (Elt F) → (⟨S8x1024, .f32⟩ : BufTy).Contents (Elt F)),
   StableHlo.unary main_v40 main_v41 (broadcastInDim S8x1024x1 ![0, 1] bcast_S8x1024_S8x1024x1_0_1 : (⟨S8x1024, .f32⟩ : BufTy).Contents (Elt F) → (⟨S8x1024x1, .f32⟩ : BufTy).Contents (Elt F)),
   StableHlo.unary main_arg6 main_v42 ((transpose S128x1024 [1, 0] · transposes_S1024x128_S128x1024_1_0) : (⟨S1024x128, .f32⟩ : BufTy).Contents (Elt F) → (⟨S128x1024, .f32⟩ : BufTy).Contents (Elt F)),
   StableHlo.binary main_v38 main_v42 main_v43 ((fun l r => Host.dotGeneral dot_S8x1024x128_S128x1024_S8x1024x1024_2_0_01_1_n_n none l r) : (⟨S8x1024x128, .f32⟩ : BufTy).Contents (Elt F) → (⟨S128x1024, .f32⟩ : BufTy).Contents (Elt F) → (⟨S8x1024x1024, .f32⟩ : BufTy).Contents (Elt F)),
   StableHlo.nullary main_cst_7 (constant S_ .f32 0x40000000#32),
   StableHlo.unary main_cst_7 main_v44 (broadcastInDim S8x1024x1024 ![] bcast_S_S8x1024x1024 : (⟨S_, .f32⟩ : BufTy).Contents (Elt F) → (⟨S8x1024x1024, .f32⟩ : BufTy).Contents (Elt F)),
   StableHlo.binary main_v44 main_v43 main_v45 (mulf : (⟨S8x1024x1024, .f32⟩ : BufTy).Contents (Elt F) → (⟨S8x1024x1024, .f32⟩ : BufTy).Contents (Elt F) → (⟨S8x1024x1024, .f32⟩ : BufTy).Contents (Elt F)),
   StableHlo.unary main_v41 main_v46 (broadcastInDim S8x1024x1024 ![0, 1, 2] bcast_S8x1024x1_S8x1024x1024_0_1_2 : (⟨S8x1024x1, .f32⟩ : BufTy).Contents (Elt F) → (⟨S8x1024x1024, .f32⟩ : BufTy).Contents (Elt F)),
   StableHlo.binary main_v46 main_v45 main_v47 (subf : (⟨S8x1024x1024, .f32⟩ : BufTy).Contents (Elt F) → (⟨S8x1024x1024, .f32⟩ : BufTy).Contents (Elt F) → (⟨S8x1024x1024, .f32⟩ : BufTy).Contents (Elt F)),
   StableHlo.binary main_arg6 main_arg6 main_v48 (mulf : (⟨S1024x128, .f32⟩ : BufTy).Contents (Elt F) → (⟨S1024x128, .f32⟩ : BufTy).Contents (Elt F) → (⟨S1024x128, .f32⟩ : BufTy).Contents (Elt F)),
   StableHlo.nullary main_cst_8 (constant S_ .f32 0x00000000#32)]

/-- The operations of the reference program, window 2 of 4, in order. -/
def part1 : List (HloOp τ sig (Elt F)) :=
  [StableHlo.binary main_v48 main_cst_8 main_v49 ((fun x v => Host.reduceAdd x v reducesTo_S1024x128_S1024_d1 h_S_) : (⟨S1024x128, .f32⟩ : BufTy).Contents (Elt F) → (⟨S_, .f32⟩ : BufTy).Contents (Elt F) → (⟨S1024, .f32⟩ : BufTy).Contents (Elt F)),
   StableHlo.unary main_v49 main_v50 (broadcastInDim S1x1x1024 ![2] bcast_S1024_S1x1x1024_2 : (⟨S1024, .f32⟩ : BufTy).Contents (Elt F) → (⟨S1x1x1024, .f32⟩ : BufTy).Contents (Elt F)),
   StableHlo.unary main_v50 main_v51 (broadcastInDim S8x1024x1024 ![0, 1, 2] bcast_S1x1x1024_S8x1024x1024_0_1_2 : (⟨S1x1x1024, .f32⟩ : BufTy).Contents (Elt F) → (⟨S8x1024x1024, .f32⟩ : BufTy).Contents (Elt F)),
   StableHlo.binary main_v47 main_v51 main_v52 (addf : (⟨S8x1024x1024, .f32⟩ : BufTy).Contents (Elt F) → (⟨S8x1024x1024, .f32⟩ : BufTy).Contents (Elt F) → (⟨S8x1024x1024, .f32⟩ : BufTy).Contents (Elt F))] ++
  argminSteps (.of main_v52) main_call1 ++
  [StableHlo.nullary main_c_9 (constantI S_ 32 0#32),
   StableHlo.unary main_c_9 main_v54 (broadcastInDim S8x1024 ![] bcast_S_S8x1024 : (⟨S_, .i32⟩ : BufTy).Contents (Elt F) → (⟨S8x1024, .i32⟩ : BufTy).Contents (Elt F)),
   StableHlo.binary main_v53 main_v54 main_v55 (cmpi .slt : (⟨S8x1024, .i32⟩ : BufTy).Contents (Elt F) → (⟨S8x1024, .i32⟩ : BufTy).Contents (Elt F) → (⟨S8x1024, .i1⟩ : BufTy).Contents (Elt F)),
   StableHlo.nullary main_c_10 (constantI S_ 32 1024#32),
   StableHlo.unary main_c_10 main_v56 (broadcastInDim S8x1024 ![] bcast_S_S8x1024 : (⟨S_, .i32⟩ : BufTy).Contents (Elt F) → (⟨S8x1024, .i32⟩ : BufTy).Contents (Elt F)),
   StableHlo.binary main_v53 main_v56 main_v57 (addi : (⟨S8x1024, .i32⟩ : BufTy).Contents (Elt F) → (⟨S8x1024, .i32⟩ : BufTy).Contents (Elt F) → (⟨S8x1024, .i32⟩ : BufTy).Contents (Elt F)),
   StableHlo.ternary main_v55 main_v57 main_v53 main_v58 (select : (⟨S8x1024, .i1⟩ : BufTy).Contents (Elt F) → (⟨S8x1024, .i32⟩ : BufTy).Contents (Elt F) → (⟨S8x1024, .i32⟩ : BufTy).Contents (Elt F) → (⟨S8x1024, .i32⟩ : BufTy).Contents (Elt F)),
   StableHlo.unary main_v58 main_v59 (broadcastInDim S8x1024x1 ![0, 1] bcast_S8x1024_S8x1024x1_0_1 : (⟨S8x1024, .i32⟩ : BufTy).Contents (Elt F) → (⟨S8x1024x1, .i32⟩ : BufTy).Contents (Elt F)),
   StableHlo.binary main_arg6 main_v59 main_v60 ((fun x i => Host.gather gather_S1024x128_S8x1024x1_S8x1024x128_2_0_n_n_0_2_1128 x i) : (⟨S1024x128, .f32⟩ : BufTy).Contents (Elt F) → (⟨S8x1024x1, .i32⟩ : BufTy).Contents (Elt F) → (⟨S8x1024x128, .f32⟩ : BufTy).Contents (Elt F)),
   StableHlo.binary main_v60 main_v38 main_v61 (subf : (⟨S8x1024x128, .f32⟩ : BufTy).Contents (Elt F) → (⟨S8x1024x128, .f32⟩ : BufTy).Contents (Elt F) → (⟨S8x1024x128, .f32⟩ : BufTy).Contents (Elt F)),
   StableHlo.binary main_v61 main_v61 main_v62 (mulf : (⟨S8x1024x128, .f32⟩ : BufTy).Contents (Elt F) → (⟨S8x1024x128, .f32⟩ : BufTy).Contents (Elt F) → (⟨S8x1024x128, .f32⟩ : BufTy).Contents (Elt F)),
   StableHlo.nullary main_cst_11 (constant S_ .f32 0x00000000#32),
   StableHlo.binary main_v62 main_cst_11 main_v63 ((fun x v => Host.reduceAdd x v reducesTo_S8x1024x128_S_d0_1_2 h_S_) : (⟨S8x1024x128, .f32⟩ : BufTy).Contents (Elt F) → (⟨S_, .f32⟩ : BufTy).Contents (Elt F) → (⟨S_, .f32⟩ : BufTy).Contents (Elt F)),
   StableHlo.nullary main_cst_12 (constant S_ .f32 0x49800000#32),
   StableHlo.binary main_v63 main_cst_12 main_v64 (Host.divf : (⟨S_, .f32⟩ : BufTy).Contents (Elt F) → (⟨S_, .f32⟩ : BufTy).Contents (Elt F) → (⟨S_, .f32⟩ : BufTy).Contents (Elt F)),
   StableHlo.nullary main_cst_13 (constant S_ .f32 0x3E800000#32),
   StableHlo.binary main_cst_13 main_v64 main_v65 (mulf : (⟨S_, .f32⟩ : BufTy).Contents (Elt F) → (⟨S_, .f32⟩ : BufTy).Contents (Elt F) → (⟨S_, .f32⟩ : BufTy).Contents (Elt F)),
   StableHlo.binary main_v60 main_v38 main_v66 (subf : (⟨S8x1024x128, .f32⟩ : BufTy).Contents (Elt F) → (⟨S8x1024x128, .f32⟩ : BufTy).Contents (Elt F) → (⟨S8x1024x128, .f32⟩ : BufTy).Contents (Elt F)),
   StableHlo.binary main_v38 main_v66 main_v67 (addf : (⟨S8x1024x128, .f32⟩ : BufTy).Contents (Elt F) → (⟨S8x1024x128, .f32⟩ : BufTy).Contents (Elt F) → (⟨S8x1024x128, .f32⟩ : BufTy).Contents (Elt F)),
   StableHlo.binary main_v33 main_v67 main_v68 ((fun a b => concatenate S8x1024x256 2 [⟨S8x1024x128, a⟩, ⟨S8x1024x128, b⟩] concatenates_S8x1024x128_S8x1024x128_S8x1024x256_d2) : (⟨S8x1024x128, .f32⟩ : BufTy).Contents (Elt F) → (⟨S8x1024x128, .f32⟩ : BufTy).Contents (Elt F) → (⟨S8x1024x256, .f32⟩ : BufTy).Contents (Elt F)),
   StableHlo.binary main_v31 main_v65 main_v69 (addf : (⟨S_, .f32⟩ : BufTy).Contents (Elt F) → (⟨S_, .f32⟩ : BufTy).Contents (Elt F) → (⟨S_, .f32⟩ : BufTy).Contents (Elt F)),
   StableHlo.unary main_arg7 main_v70 ((transpose S256x128 [1, 0] · transposes_S128x256_S256x128_1_0) : (⟨S128x256, .f32⟩ : BufTy).Contents (Elt F) → (⟨S256x128, .f32⟩ : BufTy).Contents (Elt F)),
   StableHlo.binary main_v68 main_v70 main_v71 ((fun l r => Host.dotGeneral dot_S8x1024x256_S256x128_S8x1024x128_2_0_01_1_n_n none l r) : (⟨S8x1024x256, .f32⟩ : BufTy).Contents (Elt F) → (⟨S256x128, .f32⟩ : BufTy).Contents (Elt F) → (⟨S8x1024x128, .f32⟩ : BufTy).Contents (Elt F)),
   StableHlo.unary main_arg8 main_v72 (broadcastInDim S1x1x128 ![2] bcast_S128_S1x1x128_2 : (⟨S128, .f32⟩ : BufTy).Contents (Elt F) → (⟨S1x1x128, .f32⟩ : BufTy).Contents (Elt F)),
   StableHlo.unary main_v72 main_v73 (broadcastInDim S8x1024x128 ![0, 1, 2] bcast_S1x1x128_S8x1024x128_0_1_2 : (⟨S1x1x128, .f32⟩ : BufTy).Contents (Elt F) → (⟨S8x1024x128, .f32⟩ : BufTy).Contents (Elt F)),
   StableHlo.binary main_v71 main_v73 main_v74 (addf : (⟨S8x1024x128, .f32⟩ : BufTy).Contents (Elt F) → (⟨S8x1024x128, .f32⟩ : BufTy).Contents (Elt F) → (⟨S8x1024x128, .f32⟩ : BufTy).Contents (Elt F)),
   StableHlo.nullary main_cst_14 (constant S_ .f32 0x3F000000#32),
   StableHlo.unary main_cst_14 main_v75 (broadcastInDim S8x1024x128 ![] bcast_S_S8x1024x128 : (⟨S_, .f32⟩ : BufTy).Contents (Elt F) → (⟨S8x1024x128, .f32⟩ : BufTy).Contents (Elt F)),
   StableHlo.binary main_v75 main_v74 main_v76 (mulf : (⟨S8x1024x128, .f32⟩ : BufTy).Contents (Elt F) → (⟨S8x1024x128, .f32⟩ : BufTy).Contents (Elt F) → (⟨S8x1024x128, .f32⟩ : BufTy).Contents (Elt F)),
   StableHlo.nullary main_cst_15 (constant S_ .f32 0x40000000#32),
   StableHlo.unary main_cst_15 main_v77 (Host.sqrt : (⟨S_, .f32⟩ : BufTy).Contents (Elt F) → (⟨S_, .f32⟩ : BufTy).Contents (Elt F)),
   StableHlo.unary main_v77 main_v78 (broadcastInDim S8x1024x128 ![] bcast_S_S8x1024x128 : (⟨S_, .f32⟩ : BufTy).Contents (Elt F) → (⟨S8x1024x128, .f32⟩ : BufTy).Contents (Elt F)),
   StableHlo.binary main_v74 main_v78 main_v79 (Host.divf : (⟨S8x1024x128, .f32⟩ : BufTy).Contents (Elt F) → (⟨S8x1024x128, .f32⟩ : BufTy).Contents (Elt F) → (⟨S8x1024x128, .f32⟩ : BufTy).Contents (Elt F)),
   StableHlo.unary main_v79 main_v80 (Host.erf : (⟨S8x1024x128, .f32⟩ : BufTy).Contents (Elt F) → (⟨S8x1024x128, .f32⟩ : BufTy).Contents (Elt F)),
   StableHlo.nullary main_cst_16 (constant S_ .f32 0x3F800000#32),
   StableHlo.unary main_cst_16 main_v81 (broadcastInDim S8x1024x128 ![] bcast_S_S8x1024x128 : (⟨S_, .f32⟩ : BufTy).Contents (Elt F) → (⟨S8x1024x128, .f32⟩ : BufTy).Contents (Elt F)),
   StableHlo.binary main_v81 main_v80 main_v82 (addf : (⟨S8x1024x128, .f32⟩ : BufTy).Contents (Elt F) → (⟨S8x1024x128, .f32⟩ : BufTy).Contents (Elt F) → (⟨S8x1024x128, .f32⟩ : BufTy).Contents (Elt F)),
   StableHlo.binary main_v76 main_v82 main_v83 (mulf : (⟨S8x1024x128, .f32⟩ : BufTy).Contents (Elt F) → (⟨S8x1024x128, .f32⟩ : BufTy).Contents (Elt F) → (⟨S8x1024x128, .f32⟩ : BufTy).Contents (Elt F)),
   StableHlo.unary main_arg9 main_v84 ((transpose S128x256 [1, 0] · transposes_S256x128_S128x256_1_0) : (⟨S256x128, .f32⟩ : BufTy).Contents (Elt F) → (⟨S128x256, .f32⟩ : BufTy).Contents (Elt F)),
   StableHlo.binary main_v83 main_v84 main_v85 ((fun l r => Host.dotGeneral dot_S8x1024x128_S128x256_S8x1024x256_2_0_01_1_n_n none l r) : (⟨S8x1024x128, .f32⟩ : BufTy).Contents (Elt F) → (⟨S128x256, .f32⟩ : BufTy).Contents (Elt F) → (⟨S8x1024x256, .f32⟩ : BufTy).Contents (Elt F)),
   StableHlo.unary main_arg10 main_v86 (broadcastInDim S1x1x256 ![2] bcast_S256_S1x1x256_2 : (⟨S256, .f32⟩ : BufTy).Contents (Elt F) → (⟨S1x1x256, .f32⟩ : BufTy).Contents (Elt F)),
   StableHlo.unary main_v86 main_v87 (broadcastInDim S8x1024x256 ![0, 1, 2] bcast_S1x1x256_S8x1024x256_0_1_2 : (⟨S1x1x256, .f32⟩ : BufTy).Contents (Elt F) → (⟨S8x1024x256, .f32⟩ : BufTy).Contents (Elt F)),
   StableHlo.binary main_v85 main_v87 main_v88 (addf : (⟨S8x1024x256, .f32⟩ : BufTy).Contents (Elt F) → (⟨S8x1024x256, .f32⟩ : BufTy).Contents (Elt F) → (⟨S8x1024x256, .f32⟩ : BufTy).Contents (Elt F)),
   StableHlo.binary main_v88 main_v88 main_v89 (mulf : (⟨S8x1024x256, .f32⟩ : BufTy).Contents (Elt F) → (⟨S8x1024x256, .f32⟩ : BufTy).Contents (Elt F) → (⟨S8x1024x256, .f32⟩ : BufTy).Contents (Elt F)),
   StableHlo.nullary main_cst_17 (constant S_ .f32 0x00000000#32),
   StableHlo.binary main_v89 main_cst_17 main_v90 ((fun x v => Host.reduceAdd x v reducesTo_S8x1024x256_S8x1024_d2 h_S_) : (⟨S8x1024x256, .f32⟩ : BufTy).Contents (Elt F) → (⟨S_, .f32⟩ : BufTy).Contents (Elt F) → (⟨S8x1024, .f32⟩ : BufTy).Contents (Elt F)),
   StableHlo.unary main_v90 main_v91 (broadcastInDim S8x1024x1 ![0, 1] bcast_S8x1024_S8x1024x1_0_1 : (⟨S8x1024, .f32⟩ : BufTy).Contents (Elt F) → (⟨S8x1024x1, .f32⟩ : BufTy).Contents (Elt F)),
   StableHlo.unary main_arg11 main_v92 ((transpose S256x1024 [1, 0] · transposes_S1024x256_S256x1024_1_0) : (⟨S1024x256, .f32⟩ : BufTy).Contents (Elt F) → (⟨S256x1024, .f32⟩ : BufTy).Contents (Elt F)),
   StableHlo.binary main_v88 main_v92 main_v93 ((fun l r => Host.dotGeneral dot_S8x1024x256_S256x1024_S8x1024x1024_2_0_01_1_n_n none l r) : (⟨S8x1024x256, .f32⟩ : BufTy).Contents (Elt F) → (⟨S256x1024, .f32⟩ : BufTy).Contents (Elt F) → (⟨S8x1024x1024, .f32⟩ : BufTy).Contents (Elt F)),
   StableHlo.nullary main_cst_18 (constant S_ .f32 0x40000000#32),
   StableHlo.unary main_cst_18 main_v94 (broadcastInDim S8x1024x1024 ![] bcast_S_S8x1024x1024 : (⟨S_, .f32⟩ : BufTy).Contents (Elt F) → (⟨S8x1024x1024, .f32⟩ : BufTy).Contents (Elt F)),
   StableHlo.binary main_v94 main_v93 main_v95 (mulf : (⟨S8x1024x1024, .f32⟩ : BufTy).Contents (Elt F) → (⟨S8x1024x1024, .f32⟩ : BufTy).Contents (Elt F) → (⟨S8x1024x1024, .f32⟩ : BufTy).Contents (Elt F)),
   StableHlo.unary main_v91 main_v96 (broadcastInDim S8x1024x1024 ![0, 1, 2] bcast_S8x1024x1_S8x1024x1024_0_1_2 : (⟨S8x1024x1, .f32⟩ : BufTy).Contents (Elt F) → (⟨S8x1024x1024, .f32⟩ : BufTy).Contents (Elt F)),
   StableHlo.binary main_v96 main_v95 main_v97 (subf : (⟨S8x1024x1024, .f32⟩ : BufTy).Contents (Elt F) → (⟨S8x1024x1024, .f32⟩ : BufTy).Contents (Elt F) → (⟨S8x1024x1024, .f32⟩ : BufTy).Contents (Elt F)),
   StableHlo.binary main_arg11 main_arg11 main_v98 (mulf : (⟨S1024x256, .f32⟩ : BufTy).Contents (Elt F) → (⟨S1024x256, .f32⟩ : BufTy).Contents (Elt F) → (⟨S1024x256, .f32⟩ : BufTy).Contents (Elt F))]

/-- The operations of the reference program, window 3 of 4, in order. -/
def part2 : List (HloOp τ sig (Elt F)) :=
  [StableHlo.nullary main_cst_19 (constant S_ .f32 0x00000000#32),
   StableHlo.binary main_v98 main_cst_19 main_v99 ((fun x v => Host.reduceAdd x v reducesTo_S1024x256_S1024_d1 h_S_) : (⟨S1024x256, .f32⟩ : BufTy).Contents (Elt F) → (⟨S_, .f32⟩ : BufTy).Contents (Elt F) → (⟨S1024, .f32⟩ : BufTy).Contents (Elt F)),
   StableHlo.unary main_v99 main_v100 (broadcastInDim S1x1x1024 ![2] bcast_S1024_S1x1x1024_2 : (⟨S1024, .f32⟩ : BufTy).Contents (Elt F) → (⟨S1x1x1024, .f32⟩ : BufTy).Contents (Elt F)),
   StableHlo.unary main_v100 main_v101 (broadcastInDim S8x1024x1024 ![0, 1, 2] bcast_S1x1x1024_S8x1024x1024_0_1_2 : (⟨S1x1x1024, .f32⟩ : BufTy).Contents (Elt F) → (⟨S8x1024x1024, .f32⟩ : BufTy).Contents (Elt F)),
   StableHlo.binary main_v97 main_v101 main_v102 (addf : (⟨S8x1024x1024, .f32⟩ : BufTy).Contents (Elt F) → (⟨S8x1024x1024, .f32⟩ : BufTy).Contents (Elt F) → (⟨S8x1024x1024, .f32⟩ : BufTy).Contents (Elt F))] ++
  argminSteps (.of main_v102) main_call2 ++
  [StableHlo.nullary main_c_20 (constantI S_ 32 0#32),
   StableHlo.unary main_c_20 main_v104 (broadcastInDim S8x1024 ![] bcast_S_S8x1024 : (⟨S_, .i32⟩ : BufTy).Contents (Elt F) → (⟨S8x1024, .i32⟩ : BufTy).Contents (Elt F)),
   StableHlo.binary main_v103 main_v104 main_v105 (cmpi .slt : (⟨S8x1024, .i32⟩ : BufTy).Contents (Elt F) → (⟨S8x1024, .i32⟩ : BufTy).Contents (Elt F) → (⟨S8x1024, .i1⟩ : BufTy).Contents (Elt F)),
   StableHlo.nullary main_c_21 (constantI S_ 32 1024#32),
   StableHlo.unary main_c_21 main_v106 (broadcastInDim S8x1024 ![] bcast_S_S8x1024 : (⟨S_, .i32⟩ : BufTy).Contents (Elt F) → (⟨S8x1024, .i32⟩ : BufTy).Contents (Elt F)),
   StableHlo.binary main_v103 main_v106 main_v107 (addi : (⟨S8x1024, .i32⟩ : BufTy).Contents (Elt F) → (⟨S8x1024, .i32⟩ : BufTy).Contents (Elt F) → (⟨S8x1024, .i32⟩ : BufTy).Contents (Elt F)),
   StableHlo.ternary main_v105 main_v107 main_v103 main_v108 (select : (⟨S8x1024, .i1⟩ : BufTy).Contents (Elt F) → (⟨S8x1024, .i32⟩ : BufTy).Contents (Elt F) → (⟨S8x1024, .i32⟩ : BufTy).Contents (Elt F) → (⟨S8x1024, .i32⟩ : BufTy).Contents (Elt F)),
   StableHlo.unary main_v108 main_v109 (broadcastInDim S8x1024x1 ![0, 1] bcast_S8x1024_S8x1024x1_0_1 : (⟨S8x1024, .i32⟩ : BufTy).Contents (Elt F) → (⟨S8x1024x1, .i32⟩ : BufTy).Contents (Elt F)),
   StableHlo.binary main_arg11 main_v109 main_v110 ((fun x i => Host.gather gather_S1024x256_S8x1024x1_S8x1024x256_2_0_n_n_0_2_1256 x i) : (⟨S1024x256, .f32⟩ : BufTy).Contents (Elt F) → (⟨S8x1024x1, .i32⟩ : BufTy).Contents (Elt F) → (⟨S8x1024x256, .f32⟩ : BufTy).Contents (Elt F)),
   StableHlo.binary main_v110 main_v88 main_v111 (subf : (⟨S8x1024x256, .f32⟩ : BufTy).Contents (Elt F) → (⟨S8x1024x256, .f32⟩ : BufTy).Contents (Elt F) → (⟨S8x1024x256, .f32⟩ : BufTy).Contents (Elt F)),
   StableHlo.binary main_v111 main_v111 main_v112 (mulf : (⟨S8x1024x256, .f32⟩ : BufTy).Contents (Elt F) → (⟨S8x1024x256, .f32⟩ : BufTy).Contents (Elt F) → (⟨S8x1024x256, .f32⟩ : BufTy).Contents (Elt F)),
   StableHlo.nullary main_cst_22 (constant S_ .f32 0x00000000#32),
   StableHlo.binary main_v112 main_cst_22 main_v113 ((fun x v => Host.reduceAdd x v reducesTo_S8x1024x256_S_d0_1_2 h_S_) : (⟨S8x1024x256, .f32⟩ : BufTy).Contents (Elt F) → (⟨S_, .f32⟩ : BufTy).Contents (Elt F) → (⟨S_, .f32⟩ : BufTy).Contents (Elt F)),
   StableHlo.nullary main_cst_23 (constant S_ .f32 0x4A000000#32),
   StableHlo.binary main_v113 main_cst_23 main_v114 (Host.divf : (⟨S_, .f32⟩ : BufTy).Contents (Elt F) → (⟨S_, .f32⟩ : BufTy).Contents (Elt F) → (⟨S_, .f32⟩ : BufTy).Contents (Elt F)),
   StableHlo.nullary main_cst_24 (constant S_ .f32 0x3E800000#32),
   StableHlo.binary main_cst_24 main_v114 main_v115 (mulf : (⟨S_, .f32⟩ : BufTy).Contents (Elt F) → (⟨S_, .f32⟩ : BufTy).Contents (Elt F) → (⟨S_, .f32⟩ : BufTy).Contents (Elt F)),
   StableHlo.binary main_v110 main_v88 main_v116 (subf : (⟨S8x1024x256, .f32⟩ : BufTy).Contents (Elt F) → (⟨S8x1024x256, .f32⟩ : BufTy).Contents (Elt F) → (⟨S8x1024x256, .f32⟩ : BufTy).Contents (Elt F)),
   StableHlo.binary main_v88 main_v116 main_v117 (addf : (⟨S8x1024x256, .f32⟩ : BufTy).Contents (Elt F) → (⟨S8x1024x256, .f32⟩ : BufTy).Contents (Elt F) → (⟨S8x1024x256, .f32⟩ : BufTy).Contents (Elt F)),
   StableHlo.binary main_v69 main_v115 main_v118 (addf : (⟨S_, .f32⟩ : BufTy).Contents (Elt F) → (⟨S_, .f32⟩ : BufTy).Contents (Elt F) → (⟨S_, .f32⟩ : BufTy).Contents (Elt F)),
   StableHlo.binary main_v68 main_v117 main_v119 ((fun a b => concatenate S8x1024x512 2 [⟨S8x1024x256, a⟩, ⟨S8x1024x256, b⟩] concatenates_S8x1024x256_S8x1024x256_S8x1024x512_d2) : (⟨S8x1024x256, .f32⟩ : BufTy).Contents (Elt F) → (⟨S8x1024x256, .f32⟩ : BufTy).Contents (Elt F) → (⟨S8x1024x512, .f32⟩ : BufTy).Contents (Elt F)),
   StableHlo.unary main_arg12 main_v120 ((transpose S512x256 [1, 0] · transposes_S256x512_S512x256_1_0) : (⟨S256x512, .f32⟩ : BufTy).Contents (Elt F) → (⟨S512x256, .f32⟩ : BufTy).Contents (Elt F)),
   StableHlo.binary main_v119 main_v120 main_v121 ((fun l r => Host.dotGeneral dot_S8x1024x512_S512x256_S8x1024x256_2_0_01_1_n_n none l r) : (⟨S8x1024x512, .f32⟩ : BufTy).Contents (Elt F) → (⟨S512x256, .f32⟩ : BufTy).Contents (Elt F) → (⟨S8x1024x256, .f32⟩ : BufTy).Contents (Elt F)),
   StableHlo.unary main_arg13 main_v122 (broadcastInDim S1x1x256 ![2] bcast_S256_S1x1x256_2 : (⟨S256, .f32⟩ : BufTy).Contents (Elt F) → (⟨S1x1x256, .f32⟩ : BufTy).Contents (Elt F)),
   StableHlo.unary main_v122 main_v123 (broadcastInDim S8x1024x256 ![0, 1, 2] bcast_S1x1x256_S8x1024x256_0_1_2 : (⟨S1x1x256, .f32⟩ : BufTy).Contents (Elt F) → (⟨S8x1024x256, .f32⟩ : BufTy).Contents (Elt F)),
   StableHlo.binary main_v121 main_v123 main_v124 (addf : (⟨S8x1024x256, .f32⟩ : BufTy).Contents (Elt F) → (⟨S8x1024x256, .f32⟩ : BufTy).Contents (Elt F) → (⟨S8x1024x256, .f32⟩ : BufTy).Contents (Elt F)),
   StableHlo.nullary main_cst_25 (constant S_ .f32 0x3F000000#32),
   StableHlo.unary main_cst_25 main_v125 (broadcastInDim S8x1024x256 ![] bcast_S_S8x1024x256 : (⟨S_, .f32⟩ : BufTy).Contents (Elt F) → (⟨S8x1024x256, .f32⟩ : BufTy).Contents (Elt F)),
   StableHlo.binary main_v125 main_v124 main_v126 (mulf : (⟨S8x1024x256, .f32⟩ : BufTy).Contents (Elt F) → (⟨S8x1024x256, .f32⟩ : BufTy).Contents (Elt F) → (⟨S8x1024x256, .f32⟩ : BufTy).Contents (Elt F)),
   StableHlo.nullary main_cst_26 (constant S_ .f32 0x40000000#32),
   StableHlo.unary main_cst_26 main_v127 (Host.sqrt : (⟨S_, .f32⟩ : BufTy).Contents (Elt F) → (⟨S_, .f32⟩ : BufTy).Contents (Elt F)),
   StableHlo.unary main_v127 main_v128 (broadcastInDim S8x1024x256 ![] bcast_S_S8x1024x256 : (⟨S_, .f32⟩ : BufTy).Contents (Elt F) → (⟨S8x1024x256, .f32⟩ : BufTy).Contents (Elt F)),
   StableHlo.binary main_v124 main_v128 main_v129 (Host.divf : (⟨S8x1024x256, .f32⟩ : BufTy).Contents (Elt F) → (⟨S8x1024x256, .f32⟩ : BufTy).Contents (Elt F) → (⟨S8x1024x256, .f32⟩ : BufTy).Contents (Elt F)),
   StableHlo.unary main_v129 main_v130 (Host.erf : (⟨S8x1024x256, .f32⟩ : BufTy).Contents (Elt F) → (⟨S8x1024x256, .f32⟩ : BufTy).Contents (Elt F)),
   StableHlo.nullary main_cst_27 (constant S_ .f32 0x3F800000#32),
   StableHlo.unary main_cst_27 main_v131 (broadcastInDim S8x1024x256 ![] bcast_S_S8x1024x256 : (⟨S_, .f32⟩ : BufTy).Contents (Elt F) → (⟨S8x1024x256, .f32⟩ : BufTy).Contents (Elt F)),
   StableHlo.binary main_v131 main_v130 main_v132 (addf : (⟨S8x1024x256, .f32⟩ : BufTy).Contents (Elt F) → (⟨S8x1024x256, .f32⟩ : BufTy).Contents (Elt F) → (⟨S8x1024x256, .f32⟩ : BufTy).Contents (Elt F)),
   StableHlo.binary main_v126 main_v132 main_v133 (mulf : (⟨S8x1024x256, .f32⟩ : BufTy).Contents (Elt F) → (⟨S8x1024x256, .f32⟩ : BufTy).Contents (Elt F) → (⟨S8x1024x256, .f32⟩ : BufTy).Contents (Elt F)),
   StableHlo.unary main_arg14 main_v134 ((transpose S256x256 [1, 0] · transposes_S256x256_S256x256_1_0) : (⟨S256x256, .f32⟩ : BufTy).Contents (Elt F) → (⟨S256x256, .f32⟩ : BufTy).Contents (Elt F)),
   StableHlo.binary main_v133 main_v134 main_v135 ((fun l r => Host.dotGeneral dot_S8x1024x256_S256x256_S8x1024x256_2_0_01_1_n_n none l r) : (⟨S8x1024x256, .f32⟩ : BufTy).Contents (Elt F) → (⟨S256x256, .f32⟩ : BufTy).Contents (Elt F) → (⟨S8x1024x256, .f32⟩ : BufTy).Contents (Elt F)),
   StableHlo.unary main_arg15 main_v136 (broadcastInDim S1x1x256 ![2] bcast_S256_S1x1x256_2 : (⟨S256, .f32⟩ : BufTy).Contents (Elt F) → (⟨S1x1x256, .f32⟩ : BufTy).Contents (Elt F)),
   StableHlo.unary main_v136 main_v137 (broadcastInDim S8x1024x256 ![0, 1, 2] bcast_S1x1x256_S8x1024x256_0_1_2 : (⟨S1x1x256, .f32⟩ : BufTy).Contents (Elt F) → (⟨S8x1024x256, .f32⟩ : BufTy).Contents (Elt F)),
   StableHlo.binary main_v135 main_v137 main_v138 (addf : (⟨S8x1024x256, .f32⟩ : BufTy).Contents (Elt F) → (⟨S8x1024x256, .f32⟩ : BufTy).Contents (Elt F) → (⟨S8x1024x256, .f32⟩ : BufTy).Contents (Elt F)),
   StableHlo.binary main_v138 main_v138 main_v139 (mulf : (⟨S8x1024x256, .f32⟩ : BufTy).Contents (Elt F) → (⟨S8x1024x256, .f32⟩ : BufTy).Contents (Elt F) → (⟨S8x1024x256, .f32⟩ : BufTy).Contents (Elt F)),
   StableHlo.nullary main_cst_28 (constant S_ .f32 0x00000000#32),
   StableHlo.binary main_v139 main_cst_28 main_v140 ((fun x v => Host.reduceAdd x v reducesTo_S8x1024x256_S8x1024_d2 h_S_) : (⟨S8x1024x256, .f32⟩ : BufTy).Contents (Elt F) → (⟨S_, .f32⟩ : BufTy).Contents (Elt F) → (⟨S8x1024, .f32⟩ : BufTy).Contents (Elt F)),
   StableHlo.unary main_v140 main_v141 (broadcastInDim S8x1024x1 ![0, 1] bcast_S8x1024_S8x1024x1_0_1 : (⟨S8x1024, .f32⟩ : BufTy).Contents (Elt F) → (⟨S8x1024x1, .f32⟩ : BufTy).Contents (Elt F)),
   StableHlo.unary main_arg16 main_v142 ((transpose S256x1024 [1, 0] · transposes_S1024x256_S256x1024_1_0) : (⟨S1024x256, .f32⟩ : BufTy).Contents (Elt F) → (⟨S256x1024, .f32⟩ : BufTy).Contents (Elt F)),
   StableHlo.binary main_v138 main_v142 main_v143 ((fun l r => Host.dotGeneral dot_S8x1024x256_S256x1024_S8x1024x1024_2_0_01_1_n_n none l r) : (⟨S8x1024x256, .f32⟩ : BufTy).Contents (Elt F) → (⟨S256x1024, .f32⟩ : BufTy).Contents (Elt F) → (⟨S8x1024x1024, .f32⟩ : BufTy).Contents (Elt F)),
   StableHlo.nullary main_cst_29 (constant S_ .f32 0x40000000#32),
   StableHlo.unary main_cst_29 main_v144 (broadcastInDim S8x1024x1024 ![] bcast_S_S8x1024x1024 : (⟨S_, .f32⟩ : BufTy).Contents (Elt F) → (⟨S8x1024x1024, .f32⟩ : BufTy).Contents (Elt F)),
   StableHlo.binary main_v144 main_v143 main_v145 (mulf : (⟨S8x1024x1024, .f32⟩ : BufTy).Contents (Elt F) → (⟨S8x1024x1024, .f32⟩ : BufTy).Contents (Elt F) → (⟨S8x1024x1024, .f32⟩ : BufTy).Contents (Elt F)),
   StableHlo.unary main_v141 main_v146 (broadcastInDim S8x1024x1024 ![0, 1, 2] bcast_S8x1024x1_S8x1024x1024_0_1_2 : (⟨S8x1024x1, .f32⟩ : BufTy).Contents (Elt F) → (⟨S8x1024x1024, .f32⟩ : BufTy).Contents (Elt F)),
   StableHlo.binary main_v146 main_v145 main_v147 (subf : (⟨S8x1024x1024, .f32⟩ : BufTy).Contents (Elt F) → (⟨S8x1024x1024, .f32⟩ : BufTy).Contents (Elt F) → (⟨S8x1024x1024, .f32⟩ : BufTy).Contents (Elt F))]

/-- The operations of the reference program, window 4 of 4, in order. -/
def part3 : List (HloOp τ sig (Elt F)) :=
  [StableHlo.binary main_arg16 main_arg16 main_v148 (mulf : (⟨S1024x256, .f32⟩ : BufTy).Contents (Elt F) → (⟨S1024x256, .f32⟩ : BufTy).Contents (Elt F) → (⟨S1024x256, .f32⟩ : BufTy).Contents (Elt F)),
   StableHlo.nullary main_cst_30 (constant S_ .f32 0x00000000#32),
   StableHlo.binary main_v148 main_cst_30 main_v149 ((fun x v => Host.reduceAdd x v reducesTo_S1024x256_S1024_d1 h_S_) : (⟨S1024x256, .f32⟩ : BufTy).Contents (Elt F) → (⟨S_, .f32⟩ : BufTy).Contents (Elt F) → (⟨S1024, .f32⟩ : BufTy).Contents (Elt F)),
   StableHlo.unary main_v149 main_v150 (broadcastInDim S1x1x1024 ![2] bcast_S1024_S1x1x1024_2 : (⟨S1024, .f32⟩ : BufTy).Contents (Elt F) → (⟨S1x1x1024, .f32⟩ : BufTy).Contents (Elt F)),
   StableHlo.unary main_v150 main_v151 (broadcastInDim S8x1024x1024 ![0, 1, 2] bcast_S1x1x1024_S8x1024x1024_0_1_2 : (⟨S1x1x1024, .f32⟩ : BufTy).Contents (Elt F) → (⟨S8x1024x1024, .f32⟩ : BufTy).Contents (Elt F)),
   StableHlo.binary main_v147 main_v151 main_v152 (addf : (⟨S8x1024x1024, .f32⟩ : BufTy).Contents (Elt F) → (⟨S8x1024x1024, .f32⟩ : BufTy).Contents (Elt F) → (⟨S8x1024x1024, .f32⟩ : BufTy).Contents (Elt F))] ++
  argminSteps (.of main_v152) main_call3 ++
  [StableHlo.nullary main_c_31 (constantI S_ 32 0#32),
   StableHlo.unary main_c_31 main_v154 (broadcastInDim S8x1024 ![] bcast_S_S8x1024 : (⟨S_, .i32⟩ : BufTy).Contents (Elt F) → (⟨S8x1024, .i32⟩ : BufTy).Contents (Elt F)),
   StableHlo.binary main_v153 main_v154 main_v155 (cmpi .slt : (⟨S8x1024, .i32⟩ : BufTy).Contents (Elt F) → (⟨S8x1024, .i32⟩ : BufTy).Contents (Elt F) → (⟨S8x1024, .i1⟩ : BufTy).Contents (Elt F)),
   StableHlo.nullary main_c_32 (constantI S_ 32 1024#32),
   StableHlo.unary main_c_32 main_v156 (broadcastInDim S8x1024 ![] bcast_S_S8x1024 : (⟨S_, .i32⟩ : BufTy).Contents (Elt F) → (⟨S8x1024, .i32⟩ : BufTy).Contents (Elt F)),
   StableHlo.binary main_v153 main_v156 main_v157 (addi : (⟨S8x1024, .i32⟩ : BufTy).Contents (Elt F) → (⟨S8x1024, .i32⟩ : BufTy).Contents (Elt F) → (⟨S8x1024, .i32⟩ : BufTy).Contents (Elt F)),
   StableHlo.ternary main_v155 main_v157 main_v153 main_v158 (select : (⟨S8x1024, .i1⟩ : BufTy).Contents (Elt F) → (⟨S8x1024, .i32⟩ : BufTy).Contents (Elt F) → (⟨S8x1024, .i32⟩ : BufTy).Contents (Elt F) → (⟨S8x1024, .i32⟩ : BufTy).Contents (Elt F)),
   StableHlo.unary main_v158 main_v159 (broadcastInDim S8x1024x1 ![0, 1] bcast_S8x1024_S8x1024x1_0_1 : (⟨S8x1024, .i32⟩ : BufTy).Contents (Elt F) → (⟨S8x1024x1, .i32⟩ : BufTy).Contents (Elt F)),
   StableHlo.binary main_arg16 main_v159 main_v160 ((fun x i => Host.gather gather_S1024x256_S8x1024x1_S8x1024x256_2_0_n_n_0_2_1256 x i) : (⟨S1024x256, .f32⟩ : BufTy).Contents (Elt F) → (⟨S8x1024x1, .i32⟩ : BufTy).Contents (Elt F) → (⟨S8x1024x256, .f32⟩ : BufTy).Contents (Elt F)),
   StableHlo.binary main_v160 main_v138 main_v161 (subf : (⟨S8x1024x256, .f32⟩ : BufTy).Contents (Elt F) → (⟨S8x1024x256, .f32⟩ : BufTy).Contents (Elt F) → (⟨S8x1024x256, .f32⟩ : BufTy).Contents (Elt F)),
   StableHlo.binary main_v161 main_v161 main_v162 (mulf : (⟨S8x1024x256, .f32⟩ : BufTy).Contents (Elt F) → (⟨S8x1024x256, .f32⟩ : BufTy).Contents (Elt F) → (⟨S8x1024x256, .f32⟩ : BufTy).Contents (Elt F)),
   StableHlo.nullary main_cst_33 (constant S_ .f32 0x00000000#32),
   StableHlo.binary main_v162 main_cst_33 main_v163 ((fun x v => Host.reduceAdd x v reducesTo_S8x1024x256_S_d0_1_2 h_S_) : (⟨S8x1024x256, .f32⟩ : BufTy).Contents (Elt F) → (⟨S_, .f32⟩ : BufTy).Contents (Elt F) → (⟨S_, .f32⟩ : BufTy).Contents (Elt F)),
   StableHlo.nullary main_cst_34 (constant S_ .f32 0x4A000000#32),
   StableHlo.binary main_v163 main_cst_34 main_v164 (Host.divf : (⟨S_, .f32⟩ : BufTy).Contents (Elt F) → (⟨S_, .f32⟩ : BufTy).Contents (Elt F) → (⟨S_, .f32⟩ : BufTy).Contents (Elt F)),
   StableHlo.nullary main_cst_35 (constant S_ .f32 0x3E800000#32),
   StableHlo.binary main_cst_35 main_v164 main_v165 (mulf : (⟨S_, .f32⟩ : BufTy).Contents (Elt F) → (⟨S_, .f32⟩ : BufTy).Contents (Elt F) → (⟨S_, .f32⟩ : BufTy).Contents (Elt F)),
   StableHlo.binary main_v160 main_v138 main_v166 (subf : (⟨S8x1024x256, .f32⟩ : BufTy).Contents (Elt F) → (⟨S8x1024x256, .f32⟩ : BufTy).Contents (Elt F) → (⟨S8x1024x256, .f32⟩ : BufTy).Contents (Elt F)),
   StableHlo.binary main_v138 main_v166 main_v167 (addf : (⟨S8x1024x256, .f32⟩ : BufTy).Contents (Elt F) → (⟨S8x1024x256, .f32⟩ : BufTy).Contents (Elt F) → (⟨S8x1024x256, .f32⟩ : BufTy).Contents (Elt F)),
   StableHlo.binary main_v118 main_v165 main_v168 (addf : (⟨S_, .f32⟩ : BufTy).Contents (Elt F) → (⟨S_, .f32⟩ : BufTy).Contents (Elt F) → (⟨S_, .f32⟩ : BufTy).Contents (Elt F)),
   StableHlo.nary ![main_v68, main_v117, main_v167] main_v169 (fun u => (concatenate S8x1024x768 2 [⟨S8x1024x256, (u 0 : (⟨S8x1024x256, .f32⟩ : BufTy).Contents (Elt F))⟩, ⟨S8x1024x256, (u 1 : (⟨S8x1024x256, .f32⟩ : BufTy).Contents (Elt F))⟩, ⟨S8x1024x256, (u 2 : (⟨S8x1024x256, .f32⟩ : BufTy).Contents (Elt F))⟩] concatenates_S8x1024x256_S8x1024x256_S8x1024x256_S8x1024x768_d2 : (⟨S8x1024x768, .f32⟩ : BufTy).Contents (Elt F))),
   StableHlo.unary main_arg17 main_v170 ((transpose S768x768 [1, 0] · transposes_S768x768_S768x768_1_0) : (⟨S768x768, .f32⟩ : BufTy).Contents (Elt F) → (⟨S768x768, .f32⟩ : BufTy).Contents (Elt F)),
   StableHlo.binary main_v169 main_v170 main_v171 ((fun l r => Host.dotGeneral dot_S8x1024x768_S768x768_S8x1024x768_2_0_01_1_n_n none l r) : (⟨S8x1024x768, .f32⟩ : BufTy).Contents (Elt F) → (⟨S768x768, .f32⟩ : BufTy).Contents (Elt F) → (⟨S8x1024x768, .f32⟩ : BufTy).Contents (Elt F)),
   StableHlo.unary main_arg18 main_v172 (broadcastInDim S1x1x768 ![2] bcast_S768_S1x1x768_2 : (⟨S768, .f32⟩ : BufTy).Contents (Elt F) → (⟨S1x1x768, .f32⟩ : BufTy).Contents (Elt F)),
   StableHlo.unary main_v172 main_v173 (broadcastInDim S8x1024x768 ![0, 1, 2] bcast_S1x1x768_S8x1024x768_0_1_2 : (⟨S1x1x768, .f32⟩ : BufTy).Contents (Elt F) → (⟨S8x1024x768, .f32⟩ : BufTy).Contents (Elt F)),
   StableHlo.binary main_v171 main_v173 main_v174 (addf : (⟨S8x1024x768, .f32⟩ : BufTy).Contents (Elt F) → (⟨S8x1024x768, .f32⟩ : BufTy).Contents (Elt F) → (⟨S8x1024x768, .f32⟩ : BufTy).Contents (Elt F))]

/-- All the operations. -/
def ops : List (HloOp τ sig (Elt F)) := part0 ++ part1 ++ part2 ++ part3

set_option maxHeartbeats 2000000 in
/-- Window 1 of the program is its operations in order. -/
theorem part0_eq (d : Dev nD) : main_part0 (F := F) d = seq part0 := by
  rfl

set_option maxHeartbeats 2000000 in
/-- Window 1's operations are numbered consecutively from 19. -/
theorem part0_numbered : Numbered 19 (part0 (F := F)) := by
  repeat' first
    | exact trivial
    | refine And.intro ?_ ?_
    | exact Step.nullary _ _ _ rfl
    | exact Step.unary _ _ _ _ _ (by decide) rfl
    | exact Step.binary _ _ _ _ _ _ _ (by decide) (by decide) rfl
    | exact Step.ternary _ _ _ _ _ _ _ _ _ (by decide) (by decide) (by decide) rfl
    | exact Step.quaternary _ _ _ _ _ _ _ _ _ _ _ (by decide) (by decide) (by decide) (by decide) rfl
    | exact Step.nary _ _ _ _ _ (by decide) rfl

set_option maxHeartbeats 2000000 in
/-- Window 2 of the program is its operations in order. -/
theorem part1_eq (d : Dev nD) : main_part1 (F := F) d = seq part1 := by
  rfl

set_option maxHeartbeats 2000000 in
/-- Window 2's operations are numbered consecutively from 83. -/
theorem part1_numbered : Numbered 83 (part1 (F := F)) := by
  repeat' first
    | exact trivial
    | refine And.intro ?_ ?_
    | exact Step.nullary _ _ _ rfl
    | exact Step.unary _ _ _ _ _ (by decide) rfl
    | exact Step.binary _ _ _ _ _ _ _ (by decide) (by decide) rfl
    | exact Step.ternary _ _ _ _ _ _ _ _ _ (by decide) (by decide) (by decide) rfl
    | exact Step.quaternary _ _ _ _ _ _ _ _ _ _ _ (by decide) (by decide) (by decide) (by decide) rfl
    | exact Step.nary _ _ _ _ _ (by decide) rfl

set_option maxHeartbeats 2000000 in
/-- Window 3 of the program is its operations in order. -/
theorem part2_eq (d : Dev nD) : main_part2 (F := F) d = seq part2 := by
  rfl

set_option maxHeartbeats 2000000 in
/-- Window 3's operations are numbered consecutively from 147. -/
theorem part2_numbered : Numbered 147 (part2 (F := F)) := by
  repeat' first
    | exact trivial
    | refine And.intro ?_ ?_
    | exact Step.nullary _ _ _ rfl
    | exact Step.unary _ _ _ _ _ (by decide) rfl
    | exact Step.binary _ _ _ _ _ _ _ (by decide) (by decide) rfl
    | exact Step.ternary _ _ _ _ _ _ _ _ _ (by decide) (by decide) (by decide) rfl
    | exact Step.quaternary _ _ _ _ _ _ _ _ _ _ _ (by decide) (by decide) (by decide) (by decide) rfl
    | exact Step.nary _ _ _ _ _ (by decide) rfl

set_option maxHeartbeats 2000000 in
/-- Window 4 of the program is its operations in order. -/
theorem part3_eq (d : Dev nD) : main_part3 (F := F) d = seq part3 := by
  rfl

set_option maxHeartbeats 2000000 in
/-- Window 4's operations are numbered consecutively from 211. -/
theorem part3_numbered : Numbered 211 (part3 (F := F)) := by
  repeat' first
    | exact trivial
    | refine And.intro ?_ ?_
    | exact Step.nullary _ _ _ rfl
    | exact Step.unary _ _ _ _ _ (by decide) rfl
    | exact Step.binary _ _ _ _ _ _ _ (by decide) (by decide) rfl
    | exact Step.ternary _ _ _ _ _ _ _ _ _ (by decide) (by decide) (by decide) rfl
    | exact Step.quaternary _ _ _ _ _ _ _ _ _ _ _ (by decide) (by decide) (by decide) (by decide) rfl
    | exact Step.nary _ _ _ _ _ (by decide) rfl

/-- The whole line is numbered consecutively. -/
theorem numbered : Numbered 19 (ops (F := F)) :=
  ((part0_numbered.append part1_numbered).append part2_numbered).append part3_numbered

/-- The program is its operations in order. -/
theorem main_eq (d : Dev nD) : main (F := F) d = seq ops := by
  unfold main ops
  rw [part0_eq, part1_eq, part2_eq, part3_eq, StableHlo.seq_append, StableHlo.seq_append, StableHlo.seq_append]
  simp only [bind_assoc]

/-- What memory contents satisfy at the end of a run: every operation's equation, window by window. -/
structure Final (W : Valuation τ sig (Elt Ideal)) : Prop where
  h0 : ∀ op ∈ part0 (F := Ideal), Holds W op
  h1 : ∀ op ∈ part1 (F := Ideal), Holds W op
  h2 : ∀ op ∈ part2 (F := Ideal), Holds W op
  h3 : ∀ op ∈ part3 (F := Ideal), Holds W op

/-- The run: on every device memory ends at contents that satisfy every operation's equation and agree with the launch
    on the arguments. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r =>
      ∀ d : Dev nD, ∃ W : Valuation τ sig (Elt Ideal), Final W ∧
        (∀ b : Ref sig .tc, r.2.mem ((d.tc : Thread nD τ).loc b) = W (Proc.devRef .tc b)) ∧
        (∀ b : Ref sig .tc, b.idx.val < 19 → W (Proc.devRef .tc b) = m ((d.tc : Thread nD τ).loc b)) := by
  refine (θ_run _ _ _).mono (fun r h d => ⟨after ops (launchContents m d), ?_, h d, fun b hb => ?_⟩)
    (run_seq (by decide) (by decide) defs main (fun _ => ops (F := Ideal)) main_eq
      (fun _ => List.forall_iff_forall_mem.mpr fun op hop => ?_) m ρ (fun _ op hop => ?_))
  · have h := numbered.holds_after (launchContents m d)
    exact ⟨fun op ho => h op (List.mem_append_left _ (List.mem_append_left _ (List.mem_append_left _ ho))),
      fun op ho => h op (List.mem_append_left _ (List.mem_append_left _ (List.mem_append_right _ ho))),
      fun op ho => h op (List.mem_append_left _ (List.mem_append_right _ ho)), fun op ho => h op (List.mem_append_right _ ho)⟩
  · exact numbered.after_of_lt _ hb
  · obtain ⟨k, hk⟩ := numbered.step op hop; exact hk.bufs_sub
  · obtain ⟨k, hk⟩ := numbered.step op hop; exact hk.fresh_eq

end Cert.ReferenceIdeal.Line

end
-- ==== Proof.ArgMin.lean ====
/- The reference's arg-min, read at the extended reals: folding (distance, index) pairs keeps the pair of least distance and, among equal
   distances, of least index, so its index is that of the first least distance. -/
module

public import proofs.«01_k».proof.Defs
public import proofs.«01_k».proof.Proof.Gen.ReferenceIdeal
public import proofs.«01_k».proof.Proof.Spec

@[expose] public section

set_option maxRecDepth 16384

noncomputable section

open Idealize.ShloMosaic Idealize.ShloMosaic.TcCoe Idealize.SL.Sem

namespace Cert.ReferenceIdeal.Row

open Cert.ReferenceIdeal Cert.ReferenceIdeal.Gen Cert.Vq

/-- The order in which the arg-min keeps pairs: smaller distance first, on equal distances smaller index. -/
def Le (a b : EReal × BitVec 32) : Prop := a.1 < b.1 ∨ (a.1 = b.1 ∧ a.2.toInt ≤ b.2.toInt)

/-- The order is reflexive. -/
theorem Le.refl (a : EReal × BitVec 32) : Le a a := Or.inr ⟨rfl, le_rfl⟩

/-- The order is transitive. -/
theorem Le.trans {a b c : EReal × BitVec 32} (h : Le a b) (h' : Le b c) : Le a c := by
  rcases h with h | ⟨h, i⟩ <;> rcases h' with h' | ⟨h', i'⟩
  · exact Or.inl (h.trans h')
  · exact Or.inl (h' ▸ h)
  · exact Or.inl (h ▸ h')
  · exact Or.inr ⟨h.trans h', i.trans i'⟩

/-- The arg-min's body returns one of its operands, and that one comes before both. -/
theorem body_spec (a b : EReal × BitVec 32) :
    (reducer_argmin_f32_i32 (F := Ideal) a b = a ∨ reducer_argmin_f32_i32 (F := Ideal) a b = b)
      ∧ Le (reducer_argmin_f32_i32 (F := Ideal) a b) a ∧ Le (reducer_argmin_f32_i32 (F := Ideal) a b) b := by
  obtain ⟨x, i⟩ := a
  obtain ⟨y, j⟩ := b
  rcases lt_trichotomy x y with h | h | h
  · have e : reducer_argmin_f32_i32 (F := Ideal) (x, i) (y, j) = (x, i) := by
      have hw : ∀ v w : BitVec 1, 1#1 ||| v &&& w = 1#1 := by decide
      simp [reducer_argmin_f32_i32, Ideal.cmpf_def, Ideal.cmp, h, IntOp.ori, IntOp.andi, Scalar.select, hw]
    rw [e]
    exact ⟨Or.inl rfl, Le.refl _, Or.inl h⟩
  · subst h
    by_cases hij : i.toInt < j.toInt
    all_goals have hs : i.slt j = decide (i.toInt < j.toInt) := rfl
    · have e : reducer_argmin_f32_i32 (F := Ideal) (x, i) (x, j) = (x, i) := by
        simp [reducer_argmin_f32_i32, Ideal.cmpf_def, Ideal.cmp, IntOp.ori, IntOp.andi, IntOp.cmpi, Scalar.select, hs, hij]
      rw [e]
      exact ⟨Or.inl rfl, Le.refl _, Or.inr ⟨rfl, hij.le⟩⟩
    · have e : reducer_argmin_f32_i32 (F := Ideal) (x, i) (x, j) = (x, j) := by
        simp [reducer_argmin_f32_i32, Ideal.cmpf_def, Ideal.cmp, IntOp.ori, IntOp.andi, IntOp.cmpi, Scalar.select, hs, hij]
      rw [e]
      exact ⟨Or.inr rfl, Or.inr ⟨rfl, not_lt.mp hij⟩, Le.refl _⟩
  · have e : reducer_argmin_f32_i32 (F := Ideal) (x, i) (y, j) = (y, j) := by
      simp [reducer_argmin_f32_i32, Ideal.cmpf_def, Ideal.cmp, h.not_gt, h.ne', IntOp.ori, IntOp.andi, IntOp.cmpi, Scalar.select]
    rw [e]
    exact ⟨Or.inr rfl, Or.inl h, Le.refl _⟩

/-- Folding the arg-min's body over a list returns the start or a member, and it comes before the start and every member. -/
theorem foldl_spec (L : List (EReal × BitVec 32)) (s : EReal × BitVec 32) :
    (L.foldl (reducer_argmin_f32_i32 (F := Ideal)) s = s ∨ L.foldl (reducer_argmin_f32_i32 (F := Ideal)) s ∈ L)
      ∧ Le (L.foldl (reducer_argmin_f32_i32 (F := Ideal)) s) s ∧ ∀ q ∈ L, Le (L.foldl (reducer_argmin_f32_i32 (F := Ideal)) s) q := by
  induction L generalizing s with
  | nil => exact ⟨Or.inl rfl, Le.refl s, by simp⟩
  | cons p L ih =>
    obtain ⟨hm, hs, hL⟩ := ih (reducer_argmin_f32_i32 (F := Ideal) s p)
    obtain ⟨he, h1, h2⟩ := body_spec s p
    rw [List.foldl_cons]
    refine ⟨?_, hs.trans h1, fun q hq => ?_⟩
    · rcases hm with hm | hm
      · rcases he with he | he
        · exact Or.inl (hm.trans he)
        · exact Or.inr (by rw [hm, he]; exact List.mem_cons_self)
      · exact Or.inr (List.mem_cons_of_mem _ hm)
    · rcases List.mem_cons.mp hq with rfl | hq
      · exact hs.trans h2
      · exact hL q hq

/-- The word `+∞` of the arg-min's starting value. -/
theorem inf_bits : Ideal.ofBits .f32 0x7F800000#32 = ⊤ := by
  simp [Ideal.ofBits, Ideal.ieee]

/-- A small index as a word has itself as integer value. -/
theorem toInt_small (k : ℕ) (h : k ≤ 1024) : (BitVec.ofNat 32 k).toInt = k := by
  rw [BitVec.toInt_eq_toNat_cond, BitVec.toNat_ofNat]
  omega

/-- Folding over the pairs of a row, in any order, from `(+∞, 0)` gives the index of the row's first least entry. -/
theorem foldl_pick (d : Fin 1024 → EReal) (L : List (EReal × BitVec 32))
    (hL : ∀ q, q ∈ L ↔ ∃ k : Fin 1024, q = (d k, BitVec.ofNat 32 k.val)) :
    (L.foldl (reducer_argmin_f32_i32 (F := Ideal)) (⊤, 0#32)).2 = BitVec.ofNat 32 (pick d).val := by
  obtain ⟨hm, hs, hl⟩ := foldl_spec L (⊤, 0#32)
  rcases hm with hm | hm
  · rw [hm] at hl ⊢
    have hp : Le (⊤, 0#32) (d (pick d), BitVec.ofNat 32 (pick d).val) := hl _ ((hL _).mpr ⟨_, rfl⟩)
    have htop : d (pick d) = ⊤ := by
      rcases hp with h | h
      · exact absurd h not_top_lt
      · exact h.1.symm
    have h0 : (pick d) = 0 := by
      by_contra hne
      have hlt : (0 : Fin 1024) < pick d := Fin.pos_of_ne_zero hne
      have := (pick_least d).2 0 hlt
      rw [htop] at this
      exact not_top_lt this
    rw [h0]; rfl
  · obtain ⟨k, hk⟩ := (hL _).mp hm
    rw [hk] at hl ⊢
    have : Least d k := by
      refine ⟨fun l => ?_, fun l hlk => ?_⟩
      · rcases hl _ ((hL _).mpr ⟨l, rfl⟩) with h | h
        · exact le_of_lt h
        · exact le_of_eq h.1
      · rcases hl _ ((hL _).mpr ⟨l, rfl⟩) with h | h
        · exact h
        · have h2 := h.2
          simp only [toInt_small _ k.isLt.le, toInt_small _ l.isLt.le] at h2
          have : l.val < k.val := hlk
          omega
    rw [this.eq_pick]

/-- The reference's index for a row is that of the row's first least distance. -/
theorem argmin_at (d : FVec Ideal S8x1024x1024 .f32) (b : Fin 8) (r : Fin 1024) :
    (Host.argReduce (reducer_argmin_f32_i32 (F := Ideal)) d (iotaInDim S8x1024x1024 32 2) (constant S_ .f32 0x7F800000#32) (constantI S_ 32 0#32)
        reducesTo_S8x1024x1024_S8x1024_d2 h_S_ (ix2 b r)).2
      = BitVec.ofNat 32 (pick fun k => d (ix3 b r k)).val := by
  rw [Ideal.argReduce_eq_reduce2, Host.reduce2_eq_foldl_fiber]
  rw [show ((constant S_ .f32 0x7F800000#32 : FVec Ideal S_ .f32) (Shape.Idx.first h_S_), (constantI S_ 32 0#32) (Shape.Idx.first h_S_))
    = ((⊤ : EReal), 0#32) from Prod.ext inf_bits rfl]
  refine foldl_pick _ _ fun q => ?_
  unfold Host.argReduceFiber
  simp only [List.mem_map, List.mem_filter, List.mem_finRange, true_and, decide_eq_true_eq]
  constructor
  · rintro ⟨n, hn, rfl⟩
    generalize S8x1024x1024.rowMajor.symm n = i at hn
    have h0 : (reducesTo_S8x1024x1024_S8x1024_d2.drop i) 0 = b := by rw [hn]; rfl
    have h1 : (reducesTo_S8x1024x1024_S8x1024_d2.drop i) 1 = r := by rw [hn]; rfl
    have e0 : (i 0 : Fin 8) = b := (Fin.ext (Shape.ReducesTo.drop_apply_val_of_eq reducesTo_S8x1024x1024_S8x1024_d2 i 0 0 (by decide)).symm).trans h0
    have e1 : (i 1 : Fin 1024) = r := (Fin.ext (Shape.ReducesTo.drop_apply_val_of_eq reducesTo_S8x1024x1024_S8x1024_d2 i 1 1 (by decide)).symm).trans h1
    refine ⟨i 2, Prod.ext (congrArg d ?_) rfl⟩
    exact (eq_ix3 i).trans (by rw [← e0, ← e1])
  · rintro ⟨k, rfl⟩
    refine ⟨S8x1024x1024.rowMajor (ix3 b r k), ?_, ?_⟩
    · rw [Equiv.symm_apply_apply]
      funext a
      match a with
      | ⟨0, _⟩ => exact Fin.ext (Shape.ReducesTo.drop_apply_val_of_eq reducesTo_S8x1024x1024_S8x1024_d2 _ 0 0 (by decide))
      | ⟨1, _⟩ => exact Fin.ext (Shape.ReducesTo.drop_apply_val_of_eq reducesTo_S8x1024x1024_S8x1024_d2 _ 1 1 (by decide))
    · rw [Equiv.symm_apply_apply]
      rfl

end Cert.ReferenceIdeal.Row

end

end
-- ==== Proof.RefOps.lean ====
/- The reference's projections, distances, choices and squared errors as functions of arrays, each read at one row. -/
module

public import proofs.«01_k».proof.Proof.ArgMin

@[expose] public section

set_option maxRecDepth 16384

noncomputable section

open Idealize.ShloMosaic Idealize.ShloMosaic.TcCoe Idealize.SL.Sem

namespace Cert.ReferenceIdeal.Row

open Cert.ReferenceIdeal Cert.ReferenceIdeal.Gen Cert.Vq

/-- A gather of 128-wide rows reads the row its index names. -/
theorem gather128 (x : FVec Ideal S1024x128 .f32) (idx : IVec S8x1024x1 32) (b : Fin 8) (r : Fin 1024) (j : Fin 128) (p : Fin 1024)
    (hp : idx (ix3 b r 0) = BitVec.ofNat 32 p.val) :
    Host.gather gather_S1024x128_S8x1024x1_S8x1024x128_2_0_n_n_0_2_1128 x idx (ix3 b r j) = x (ix2 p j) := by
  unfold Host.gather
  refine congrArg x (funext fun a => Fin.ext ?_)
  match a with
  | ⟨0, _⟩ =>
    have hs : gather_S1024x128_S8x1024x1_S8x1024x128_2_0_n_n_0_2_1128.siIdx (ix3 b r j) ⟨0, by decide⟩ = ix3 b r 0 := by
      funext c
      match c with
      | ⟨0, _⟩ => rfl
      | ⟨1, _⟩ => rfl
      | ⟨2, _⟩ => rfl
    show min (idx (gather_S1024x128_S8x1024x1_S8x1024x128_2_0_n_n_0_2_1128.siIdx (ix3 b r j) ⟨0, by decide⟩)).toInt.toNat 1023 = p.val
    rw [hs, hp, toInt_small _ p.isLt.le]
    have := p.isLt
    omega
  | ⟨1, _⟩ =>
    show 0 + 0 + j.val = j.val
    omega

/-- A gather of 256-wide rows reads the row its index names. -/
theorem gather256 (x : FVec Ideal S1024x256 .f32) (idx : IVec S8x1024x1 32) (b : Fin 8) (r : Fin 1024) (j : Fin 256) (p : Fin 1024)
    (hp : idx (ix3 b r 0) = BitVec.ofNat 32 p.val) :
    Host.gather gather_S1024x256_S8x1024x1_S8x1024x256_2_0_n_n_0_2_1256 x idx (ix3 b r j) = x (ix2 p j) := by
  unfold Host.gather
  refine congrArg x (funext fun a => Fin.ext ?_)
  match a with
  | ⟨0, _⟩ =>
    have hs : gather_S1024x256_S8x1024x1_S8x1024x256_2_0_n_n_0_2_1256.siIdx (ix3 b r j) ⟨0, by decide⟩ = ix3 b r 0 := by
      funext c
      match c with
      | ⟨0, _⟩ => rfl
      | ⟨1, _⟩ => rfl
      | ⟨2, _⟩ => rfl
    show min (idx (gather_S1024x256_S8x1024x1_S8x1024x256_2_0_n_n_0_2_1256.siIdx (ix3 b r j) ⟨0, by decide⟩)).toInt.toNat 1023 = p.val
    rw [hs, hp, toInt_small _ p.isLt.le]
    have := p.isLt
    omega
  | ⟨1, _⟩ =>
    show 0 + 0 + j.val = j.val
    omega

/-- The index array behind a row choice, with the reference's wrap-around of negative indices. -/
def wrapped (i : IVec S8x1024 32) : IVec S8x1024x1 32 :=
  broadcastInDim S8x1024x1 ![0, 1] bcast_S8x1024_S8x1024x1_0_1
    (select (cmpi .slt i (broadcastInDim S8x1024 ![] bcast_S_S8x1024 (constantI S_ 32 0#32)))
      (addi i (broadcastInDim S8x1024 ![] bcast_S_S8x1024 (constantI S_ 32 1024#32))) i)

/-- An index below the number of codes is not wrapped. -/
theorem wrapped_at (i : IVec S8x1024 32) (b : Fin 8) (r : Fin 1024) (p : Fin 1024) (hp : i (ix2 b r) = BitVec.ofNat 32 p.val) :
    wrapped i (ix3 b r 0) = BitVec.ofNat 32 p.val := by
  pointwise [wrapped]
  rw [hp]
  have h : (BitVec.ofNat 32 p.val).slt 0#32 = false := by
    have := p.isLt
    rw [BitVec.slt_eq_decide, toInt_small _ p.isLt.le]
    simp
  simp [Scalar.select, IntOp.cmpi, h]

/-- The index array: for each row the first position of its least distance. -/
def codes (d : FVec Ideal S8x1024x1024 .f32) : IVec S8x1024 32 := fun j => BitVec.ofNat 32 (pick fun k => d (ix3 (j 0) (j 1) k)).val

/-- What the reference's index search computes. -/
theorem codes_eq (d : FVec Ideal S8x1024x1024 .f32) :
    (fun j => (Host.argReduce (reducer_argmin_f32_i32 (F := Ideal)) d (iotaInDim S8x1024x1024 32 2) (constant S_ .f32 0x7F800000#32) (constantI S_ 32 0#32)
      reducesTo_S8x1024x1024_S8x1024_d2 h_S_ j).2) = codes d := by
  funext j
  obtain ⟨b, r, rfl⟩ : ∃ (b : Fin 8) (r : Fin 1024), j = ix2 b r := ⟨j 0, j 1, eq_ix2 j⟩
  exact argmin_at d b r

/-- A projection. -/
def proj (x : FVec Ideal S8x1024x768 .f32) (w : FVec Ideal S128x768 .f32) (b : FVec Ideal S128 .f32) : FVec Ideal S8x1024x128 .f32 :=
  addf (Host.dotGeneral dot_S8x1024x768_S768x128_S8x1024x128_2_0_01_1_n_n none x (transpose S768x128 [1, 0] w transposes_S128x768_S768x128_1_0))
    (broadcastInDim S8x1024x128 ![0, 1, 2] bcast_S1x1x128_S8x1024x128_0_1_2 (broadcastInDim S1x1x128 ![2] bcast_S128_S1x1x128_2 b))

/-- A projection's row. -/
theorem proj_at (x : FVec Ideal S8x1024x768 .f32) (w : FVec Ideal S128x768 .f32) (bs : FVec Ideal S128 .f32) (b : Fin 8) (r : Fin 1024) (j : Fin 128) :
    proj x w bs (ix3 b r j) = lin (fun j i => w (ix2 j i)) (fun j => bs (ix1 j)) (fun i => x (ix3 b r i)) j := by
  pointwise [proj, lin]

/-- The index of the least distance. -/
theorem codes_at (d : FVec Ideal S8x1024x1024 .f32) (b : Fin 8) (r : Fin 1024) :
    codes d (ix2 b r) = BitVec.ofNat 32 (pick fun k => d (ix3 b r k)).val := rfl

/-- The distances of 128-wide rows. -/
def dist128 (z : FVec Ideal S8x1024x128 .f32) (cb : FVec Ideal S1024x128 .f32) : FVec Ideal S8x1024x1024 .f32 :=
  addf
    (subf
      (broadcastInDim S8x1024x1024 ![0, 1, 2] bcast_S8x1024x1_S8x1024x1024_0_1_2 (broadcastInDim S8x1024x1 ![0, 1] bcast_S8x1024_S8x1024x1_0_1
        (Host.reduceAdd (mulf z z) (constant S_ .f32 0x00000000#32) reducesTo_S8x1024x128_S8x1024_d2 h_S_)))
      (mulf (broadcastInDim S8x1024x1024 ![] bcast_S_S8x1024x1024 (constant S_ .f32 0x40000000#32))
        (Host.dotGeneral dot_S8x1024x128_S128x1024_S8x1024x1024_2_0_01_1_n_n none z (transpose S128x1024 [1, 0] cb transposes_S1024x128_S128x1024_1_0))))
    (broadcastInDim S8x1024x1024 ![0, 1, 2] bcast_S1x1x1024_S8x1024x1024_0_1_2 (broadcastInDim S1x1x1024 ![2] bcast_S1024_S1x1x1024_2
      (Host.reduceAdd (mulf cb cb) (constant S_ .f32 0x00000000#32) reducesTo_S1024x128_S1024_d1 h_S_)))

/-- The distances of one row from the codes. -/
theorem dist128_at (z : FVec Ideal S8x1024x128 .f32) (cb : FVec Ideal S1024x128 .f32) (b : Fin 8) (r k : Fin 1024) :
    dist128 z cb (ix3 b r k) = Vq.dist (fun k i => cb (ix2 k i)) (fun i => z (ix3 b r i)) k := by
  pointwise [dist128]
  rfl

/-- The index of a row's nearest code. -/
theorem codes128_at (z : FVec Ideal S8x1024x128 .f32) (cb : FVec Ideal S1024x128 .f32) (b : Fin 8) (r : Fin 1024) :
    codes (dist128 z cb) (ix2 b r) = BitVec.ofNat 32 (code (fun k i => cb (ix2 k i)) (fun i => z (ix3 b r i))).val := by
  rw [codes_at, code, show (fun k => dist128 z cb (ix3 b r k)) = _ from funext fun k => dist128_at z cb b r k]

/-- The nearest codes. -/
def near128 (z : FVec Ideal S8x1024x128 .f32) (cb : FVec Ideal S1024x128 .f32) : FVec Ideal S8x1024x128 .f32 :=
  Host.gather gather_S1024x128_S8x1024x1_S8x1024x128_2_0_n_n_0_2_1128 cb (wrapped (codes (dist128 z cb)))

/-- A row's nearest code. -/
theorem near128_at (z : FVec Ideal S8x1024x128 .f32) (cb : FVec Ideal S1024x128 .f32) (b : Fin 8) (r : Fin 1024) (j : Fin 128) :
    near128 z cb (ix3 b r j) = Vq.near (fun k i => cb (ix2 k i)) (fun i => z (ix3 b r i)) j :=
  gather128 _ _ b r j _ (wrapped_at _ b r _ (codes128_at z cb b r))

/-- The rows passed on. -/
def pass128 (z : FVec Ideal S8x1024x128 .f32) (cb : FVec Ideal S1024x128 .f32) : FVec Ideal S8x1024x128 .f32 :=
  addf z (subf (near128 z cb) z)

/-- The row passed on. -/
theorem pass128_at (z : FVec Ideal S8x1024x128 .f32) (cb : FVec Ideal S1024x128 .f32) (b : Fin 8) (r : Fin 1024) (j : Fin 128) :
    pass128 z cb (ix3 b r j) = Vq.pass (fun k i => cb (ix2 k i)) (fun i => z (ix3 b r i)) j := by
  show z (ix3 b r j) + (near128 z cb (ix3 b r j) - z (ix3 b r j)) = _
  rw [near128_at]
  rfl

/-- A stage's share of the loss: a quarter of the mean squared error. -/
def share128 (z : FVec Ideal S8x1024x128 .f32) (cb : FVec Ideal S1024x128 .f32) : FVec Ideal S_ .f32 :=
  mulf (constant S_ .f32 0x3E800000#32)
    (Host.divf (Host.reduceAdd (mulf (subf (near128 z cb) z) (subf (near128 z cb) z)) (constant S_ .f32 0x00000000#32) reducesTo_S8x1024x128_S_d0_1_2 h_S_)
      (constant S_ .f32 0x49800000#32))

/-- A stage's share of the loss, from its rows' squared errors. -/
theorem share128_at (z : FVec Ideal S8x1024x128 .f32) (cb : FVec Ideal S1024x128 .f32) :
    share128 z cb ix0 = Ideal.ofBits .f32 0x3E800000#32
      * Ideal.div (∑ b : Fin 8, ∑ r : Fin 1024, err (fun k i => cb (ix2 k i)) (fun i => z (ix3 b r i))) (Ideal.ofBits .f32 0x49800000#32) := by
  unfold err
  simp only [← near128_at]
  pointwise [share128]

/-- The distances of 256-wide rows. -/
def dist256 (z : FVec Ideal S8x1024x256 .f32) (cb : FVec Ideal S1024x256 .f32) : FVec Ideal S8x1024x1024 .f32 :=
  addf
    (subf
      (broadcastInDim S8x1024x1024 ![0, 1, 2] bcast_S8x1024x1_S8x1024x1024_0_1_2 (broadcastInDim S8x1024x1 ![0, 1] bcast_S8x1024_S8x1024x1_0_1
        (Host.reduceAdd (mulf z z) (constant S_ .f32 0x00000000#32) reducesTo_S8x1024x256_S8x1024_d2 h_S_)))
      (mulf (broadcastInDim S8x1024x1024 ![] bcast_S_S8x1024x1024 (constant S_ .f32 0x40000000#32))
        (Host.dotGeneral dot_S8x1024x256_S256x1024_S8x1024x1024_2_0_01_1_n_n none z (transpose S256x1024 [1, 0] cb transposes_S1024x256_S256x1024_1_0))))
    (broadcastInDim S8x1024x1024 ![0, 1, 2] bcast_S1x1x1024_S8x1024x1024_0_1_2 (broadcastInDim S1x1x1024 ![2] bcast_S1024_S1x1x1024_2
      (Host.reduceAdd (mulf cb cb) (constant S_ .f32 0x00000000#32) reducesTo_S1024x256_S1024_d1 h_S_)))

/-- The distances of one row from the codes. -/
theorem dist256_at (z : FVec Ideal S8x1024x256 .f32) (cb : FVec Ideal S1024x256 .f32) (b : Fin 8) (r k : Fin 1024) :
    dist256 z cb (ix3 b r k) = Vq.dist (fun k i => cb (ix2 k i)) (fun i => z (ix3 b r i)) k := by
  pointwise [dist256]
  rfl

/-- The index of a row's nearest code. -/
theorem codes256_at (z : FVec Ideal S8x1024x256 .f32) (cb : FVec Ideal S1024x256 .f32) (b : Fin 8) (r : Fin 1024) :
    codes (dist256 z cb) (ix2 b r) = BitVec.ofNat 32 (code (fun k i => cb (ix2 k i)) (fun i => z (ix3 b r i))).val := by
  rw [codes_at, code, show (fun k => dist256 z cb (ix3 b r k)) = _ from funext fun k => dist256_at z cb b r k]

/-- The nearest codes. -/
def near256 (z : FVec Ideal S8x1024x256 .f32) (cb : FVec Ideal S1024x256 .f32) : FVec Ideal S8x1024x256 .f32 :=
  Host.gather gather_S1024x256_S8x1024x1_S8x1024x256_2_0_n_n_0_2_1256 cb (wrapped (codes (dist256 z cb)))

/-- A row's nearest code. -/
theorem near256_at (z : FVec Ideal S8x1024x256 .f32) (cb : FVec Ideal S1024x256 .f32) (b : Fin 8) (r : Fin 1024) (j : Fin 256) :
    near256 z cb (ix3 b r j) = Vq.near (fun k i => cb (ix2 k i)) (fun i => z (ix3 b r i)) j :=
  gather256 _ _ b r j _ (wrapped_at _ b r _ (codes256_at z cb b r))

/-- The rows passed on. -/
def pass256 (z : FVec Ideal S8x1024x256 .f32) (cb : FVec Ideal S1024x256 .f32) : FVec Ideal S8x1024x256 .f32 :=
  addf z (subf (near256 z cb) z)

/-- The row passed on. -/
theorem pass256_at (z : FVec Ideal S8x1024x256 .f32) (cb : FVec Ideal S1024x256 .f32) (b : Fin 8) (r : Fin 1024) (j : Fin 256) :
    pass256 z cb (ix3 b r j) = Vq.pass (fun k i => cb (ix2 k i)) (fun i => z (ix3 b r i)) j := by
  show z (ix3 b r j) + (near256 z cb (ix3 b r j) - z (ix3 b r j)) = _
  rw [near256_at]
  rfl

/-- A stage's share of the loss: a quarter of the mean squared error. -/
def share256 (z : FVec Ideal S8x1024x256 .f32) (cb : FVec Ideal S1024x256 .f32) : FVec Ideal S_ .f32 :=
  mulf (constant S_ .f32 0x3E800000#32)
    (Host.divf (Host.reduceAdd (mulf (subf (near256 z cb) z) (subf (near256 z cb) z)) (constant S_ .f32 0x00000000#32) reducesTo_S8x1024x256_S_d0_1_2 h_S_)
      (constant S_ .f32 0x4A000000#32))

/-- A stage's share of the loss, from its rows' squared errors. -/
theorem share256_at (z : FVec Ideal S8x1024x256 .f32) (cb : FVec Ideal S1024x256 .f32) :
    share256 z cb ix0 = Ideal.ofBits .f32 0x3E800000#32
      * Ideal.div (∑ b : Fin 8, ∑ r : Fin 1024, err (fun k i => cb (ix2 k i)) (fun i => z (ix3 b r i))) (Ideal.ofBits .f32 0x4A000000#32) := by
  unfold err
  simp only [← near256_at]
  pointwise [share256]

end Cert.ReferenceIdeal.Row

end

end
-- ==== Proof.RefNet.lean ====
/- The reference's activations, its two small networks and its output layer as functions of arrays, each read at one row. -/
module

public import proofs.«01_k».proof.Proof.ArgMin

@[expose] public section

set_option maxRecDepth 16384

noncomputable section

open Idealize.ShloMosaic Idealize.ShloMosaic.TcCoe Idealize.SL.Sem

namespace Cert.ReferenceIdeal.Row

open Cert.ReferenceIdeal Cert.ReferenceIdeal.Gen Cert.Vq

/-- The float two is the number two. -/
theorem two_bits : Ideal.ofBits .f32 0x40000000#32 = ((2 : ℝ) : EReal) := by
  simp [Ideal.ofBits, Ideal.ieee, -EReal.coe_mul]
  norm_num

/-- Dividing by the root of two is multiplying by its inverse. -/
theorem div_sqrt2 (t : EReal) : Ideal.div t (Ideal.sqrt (Ideal.ofBits .f32 0x40000000#32)) = t * (((Real.sqrt 2)⁻¹ : ℝ) : EReal) := by
  rw [two_bits, Ideal.sqrt_coe, if_neg (by norm_num), Ideal.div_coe (Real.sqrt_pos.mpr (by norm_num)).ne', one_div]

/-- The activation of 128-wide rows. -/
def act128 (t : FVec Ideal S8x1024x128 .f32) : FVec Ideal S8x1024x128 .f32 :=
  mulf (mulf (broadcastInDim S8x1024x128 ![] bcast_S_S8x1024x128 (constant S_ .f32 0x3F000000#32)) t)
    (addf (broadcastInDim S8x1024x128 ![] bcast_S_S8x1024x128 (constant S_ .f32 0x3F800000#32))
      (Host.erf (Host.divf t (broadcastInDim S8x1024x128 ![] bcast_S_S8x1024x128 (Host.sqrt (constant S_ .f32 0x40000000#32))))))

/-- The activation of one entry. -/
theorem act128_at (t : FVec Ideal S8x1024x128 .f32) (i : S8x1024x128.Idx) : act128 t i = gelu (t i) := by
  unfold gelu
  rw [← div_sqrt2]
  idx_vars i
  pointwise [act128]

/-- The activation of 256-wide rows. -/
def act256 (t : FVec Ideal S8x1024x256 .f32) : FVec Ideal S8x1024x256 .f32 :=
  mulf (mulf (broadcastInDim S8x1024x256 ![] bcast_S_S8x1024x256 (constant S_ .f32 0x3F000000#32)) t)
    (addf (broadcastInDim S8x1024x256 ![] bcast_S_S8x1024x256 (constant S_ .f32 0x3F800000#32))
      (Host.erf (Host.divf t (broadcastInDim S8x1024x256 ![] bcast_S_S8x1024x256 (Host.sqrt (constant S_ .f32 0x40000000#32))))))

/-- The activation of one entry. -/
theorem act256_at (t : FVec Ideal S8x1024x256 .f32) (i : S8x1024x256.Idx) : act256 t i = gelu (t i) := by
  unfold gelu
  rw [← div_sqrt2]
  idx_vars i
  pointwise [act256]

/-- A serial stage's network on 256-wide rows. -/
def net256 (x : FVec Ideal S8x1024x256 .f32) (w1 : FVec Ideal S128x256 .f32) (b1 : FVec Ideal S128 .f32) (w2 : FVec Ideal S256x128 .f32)
    (b2 : FVec Ideal S256 .f32) : FVec Ideal S8x1024x256 .f32 :=
  addf (Host.dotGeneral dot_S8x1024x128_S128x256_S8x1024x256_2_0_01_1_n_n none
      (act128 (addf (Host.dotGeneral dot_S8x1024x256_S256x128_S8x1024x128_2_0_01_1_n_n none x (transpose S256x128 [1, 0] w1 transposes_S128x256_S256x128_1_0))
        (broadcastInDim S8x1024x128 ![0, 1, 2] bcast_S1x1x128_S8x1024x128_0_1_2 (broadcastInDim S1x1x128 ![2] bcast_S128_S1x1x128_2 b1))))
      (transpose S128x256 [1, 0] w2 transposes_S256x128_S128x256_1_0))
    (broadcastInDim S8x1024x256 ![0, 1, 2] bcast_S1x1x256_S8x1024x256_0_1_2 (broadcastInDim S1x1x256 ![2] bcast_S256_S1x1x256_2 b2))

/-- The network on one row. -/
theorem net256_at (x : FVec Ideal S8x1024x256 .f32) (w1 : FVec Ideal S128x256 .f32) (b1 : FVec Ideal S128 .f32) (w2 : FVec Ideal S256x128 .f32)
    (b2 : FVec Ideal S256 .f32) (b : Fin 8) (r : Fin 1024) (j : Fin 256) :
    net256 x w1 b1 w2 b2 (ix3 b r j) = lin (fun j i => w2 (ix2 j i)) (fun j => b2 (ix1 j))
      (fun k => gelu (lin (fun j i => w1 (ix2 j i)) (fun j => b1 (ix1 j)) (fun i => x (ix3 b r i)) k)) j := by
  unfold lin
  pointwise [net256]
  simp only [act128_at]
  pointwise []

/-- A serial stage's network on 512-wide rows. -/
def net512 (x : FVec Ideal S8x1024x512 .f32) (w1 : FVec Ideal S256x512 .f32) (b1 : FVec Ideal S256 .f32) (w2 : FVec Ideal S256x256 .f32)
    (b2 : FVec Ideal S256 .f32) : FVec Ideal S8x1024x256 .f32 :=
  addf (Host.dotGeneral dot_S8x1024x256_S256x256_S8x1024x256_2_0_01_1_n_n none
      (act256 (addf (Host.dotGeneral dot_S8x1024x512_S512x256_S8x1024x256_2_0_01_1_n_n none x (transpose S512x256 [1, 0] w1 transposes_S256x512_S512x256_1_0))
        (broadcastInDim S8x1024x256 ![0, 1, 2] bcast_S1x1x256_S8x1024x256_0_1_2 (broadcastInDim S1x1x256 ![2] bcast_S256_S1x1x256_2 b1))))
      (transpose S256x256 [1, 0] w2 transposes_S256x256_S256x256_1_0))
    (broadcastInDim S8x1024x256 ![0, 1, 2] bcast_S1x1x256_S8x1024x256_0_1_2 (broadcastInDim S1x1x256 ![2] bcast_S256_S1x1x256_2 b2))

/-- The network on one row. -/
theorem net512_at (x : FVec Ideal S8x1024x512 .f32) (w1 : FVec Ideal S256x512 .f32) (b1 : FVec Ideal S256 .f32) (w2 : FVec Ideal S256x256 .f32)
    (b2 : FVec Ideal S256 .f32) (b : Fin 8) (r : Fin 1024) (j : Fin 256) :
    net512 x w1 b1 w2 b2 (ix3 b r j) = lin (fun j i => w2 (ix2 j i)) (fun j => b2 (ix1 j))
      (fun k => gelu (lin (fun j i => w1 (ix2 j i)) (fun j => b1 (ix1 j)) (fun i => x (ix3 b r i)) k)) j := by
  unfold lin
  pointwise [net512]
  simp only [act256_at]
  pointwise []

/-- The two quantised projections side by side. -/
def cat256 (x y : FVec Ideal S8x1024x128 .f32) : FVec Ideal S8x1024x256 .f32 :=
  concatenate S8x1024x256 2 [⟨S8x1024x128, x⟩, ⟨S8x1024x128, y⟩] concatenates_S8x1024x128_S8x1024x128_S8x1024x256_d2

/-- One row of them. -/
theorem cat256_at (x y : FVec Ideal S8x1024x128 .f32) (b : Fin 8) (r : Fin 1024) (j : Fin 256) :
    cat256 x y (ix3 b r j) = cat (a := 128) (b := 128) rfl (fun j => x (ix3 b r j)) (fun j => y (ix3 b r j)) j := by
  pointwise [cat256, cat]

/-- Two 256-wide arrays side by side. -/
def cat512 (x y : FVec Ideal S8x1024x256 .f32) : FVec Ideal S8x1024x512 .f32 :=
  concatenate S8x1024x512 2 [⟨S8x1024x256, x⟩, ⟨S8x1024x256, y⟩] concatenates_S8x1024x256_S8x1024x256_S8x1024x512_d2

/-- One row of them. -/
theorem cat512_at (x y : FVec Ideal S8x1024x256 .f32) (b : Fin 8) (r : Fin 1024) (j : Fin 512) :
    cat512 x y (ix3 b r j) = cat (a := 256) (b := 256) rfl (fun j => x (ix3 b r j)) (fun j => y (ix3 b r j)) j := by
  pointwise [cat512, cat]

/-- The output layer over three 256-wide arrays side by side. -/
def out (x y z : FVec Ideal S8x1024x256 .f32) (w : FVec Ideal S768x768 .f32) (bs : FVec Ideal S768 .f32) : FVec Ideal S8x1024x768 .f32 :=
  addf (Host.dotGeneral dot_S8x1024x768_S768x768_S8x1024x768_2_0_01_1_n_n none
      (concatenate S8x1024x768 2 [⟨S8x1024x256, x⟩, ⟨S8x1024x256, y⟩, ⟨S8x1024x256, z⟩] concatenates_S8x1024x256_S8x1024x256_S8x1024x256_S8x1024x768_d2)
      (transpose S768x768 [1, 0] w transposes_S768x768_S768x768_1_0))
    (broadcastInDim S8x1024x768 ![0, 1, 2] bcast_S1x1x768_S8x1024x768_0_1_2 (broadcastInDim S1x1x768 ![2] bcast_S768_S1x1x768_2 bs))

/-- The output layer's row. -/
theorem out_at (x y z : FVec Ideal S8x1024x256 .f32) (w : FVec Ideal S768x768 .f32) (bs : FVec Ideal S768 .f32) (b : Fin 8) (r : Fin 1024) (j : Fin 768) :
    out x y z w bs (ix3 b r j) = lin (fun j i => w (ix2 j i)) (fun j => bs (ix1 j))
      (cat (a := 512) (b := 256) rfl (cat (a := 256) (b := 256) rfl (fun j => x (ix3 b r j)) (fun j => y (ix3 b r j))) (fun j => z (ix3 b r j))) j := by
  unfold lin
  pointwise [out]
  refine congrArg (· + bs (ix1 j)) (Finset.sum_congr rfl fun k _ => congrArg (· * w (ix2 j k)) ?_)
  unfold cat
  have hk := k.isLt
  by_cases h1 : k.val < 256
  · have h2 : k.val < 512 := by omega
    simp [h1, h2]
  · by_cases h3 : k.val - 256 < 256
    · have h2 : k.val < 512 := by omega
      simp [h1, h2, h3]
    · have h2 : ¬ k.val < 512 := by omega
      simp only [h1, h2, h3, dif_neg, not_false_iff]
      exact congrArg (fun q => z (ix3 b r q)) (Fin.ext (by show k.val - 256 - 256 = k.val - 512; omega))

end Cert.ReferenceIdeal.Row

end

end
-- ==== Proof.RefLine.lean ====
/- The reference's line of operations, stage by stage: what the memory's contents at the end of a run hold, as array functions of the
   arguments. -/
module

public import proofs.«01_k».proof.Proof.RefRun
public import proofs.«01_k».proof.Proof.RefOps
public import proofs.«01_k».proof.Proof.RefNet

@[expose] public section

set_option maxRecDepth 16384

noncomputable section

open Idealize.ShloMosaic Idealize.ShloMosaic.TcCoe Idealize.SL.Sem

namespace Cert.ReferenceIdeal.Line

open Cert.ReferenceIdeal Cert.ReferenceIdeal.Gen Cert.ReferenceIdeal.Row

variable {W : Valuation τ sig (Elt Ideal)}

/-- The buffer of call 0's result holds it as it is. -/
theorem toBuf0 (g : IVec S8x1024 32) : main_call0.v1_1.toBuf (Val := Elt Ideal) g = g := rfl

/-- The buffer of call 1's result holds it as it is. -/
theorem toBuf1 (g : IVec S8x1024 32) : main_call1.v1_1.toBuf (Val := Elt Ideal) g = g := rfl

/-- The buffer of call 2's result holds it as it is. -/
theorem toBuf2 (g : IVec S8x1024 32) : main_call2.v1_1.toBuf (Val := Elt Ideal) g = g := rfl

/-- The buffer of call 3's result holds it as it is. -/
theorem toBuf3 (g : IVec S8x1024 32) : main_call3.v1_1.toBuf (Val := Elt Ideal) g = g := rfl

/-- The first projection. -/
theorem z0_eq (h : Final W) : (W (Proc.devRef .tc main_v4) : FVec Ideal S8x1024x128 .f32)
    = proj (W (Proc.devRef .tc main_arg0)) (W (Proc.devRef .tc main_arg1)) (W (Proc.devRef .tc main_arg2)) := by
  rw [eq2 h.h0 4 rfl, eq1 h.h0 3 rfl, eq1 h.h0 2 rfl, eq2 h.h0 1 rfl, eq1 h.h0 0 rfl]
  rfl

/-- The first codebook: the distances. -/
theorem d0_eq (h : Final W) : (W (Proc.devRef .tc main_v18) : FVec Ideal S8x1024x1024 .f32)
    = dist128 (W (Proc.devRef .tc main_v4)) (W (Proc.devRef .tc main_arg5)) := by
  rw [eq2 h.h0 21 rfl, eq1 h.h0 20 rfl, eq1 h.h0 19 rfl, eq2 h.h0 18 rfl, eq0 h.h0 17 rfl, eq2 h.h0 16 rfl, eq2 h.h0 15 rfl,
    eq1 h.h0 14 rfl, eq2 h.h0 13 rfl, eq1 h.h0 12 rfl, eq0 h.h0 11 rfl, eq2 h.h0 10 rfl, eq1 h.h0 9 rfl, eq1 h.h0 8 rfl,
    eq2 h.h0 7 rfl, eq0 h.h0 6 rfl, eq2 h.h0 5 rfl]
  rfl

/-- The first codebook: the codes. -/
theorem i0_eq (h : Final W) : (W (Proc.devRef .tc main_v19) : IVec S8x1024 32) = codes (dist128 (W (Proc.devRef .tc main_v4)) (W (Proc.devRef .tc main_arg5))) := by
  rw [← d0_eq h, ← codes_eq]
  refine (eq4 h.h0 26 rfl).trans ?_
  rw [eq0 h.h0 22 rfl, eq0 h.h0 23 rfl, eq0 h.h0 24 rfl, StableHlo.TRef.ofBuf_toBuf, StableHlo.TRef.ofBuf_toBuf, StableHlo.TRef.ofBuf_toBuf]
  exact toBuf0 _

/-- The first codebook: the chosen codes. -/
theorem near0_eq (h : Final W) : (W (Proc.devRef .tc main_v26) : FVec Ideal S8x1024x128 .f32)
    = near128 (W (Proc.devRef .tc main_v4)) (W (Proc.devRef .tc main_arg5)) := by
  rw [eq2 h.h0 35 rfl, eq1 h.h0 34 rfl, eq3 h.h0 33 rfl, eq2 h.h0 32 rfl, eq1 h.h0 31 rfl, eq0 h.h0 30 rfl, eq2 h.h0 29 rfl,
    eq1 h.h0 28 rfl, eq0 h.h0 27 rfl,
    i0_eq h]
  rfl

/-- The first codebook: the rows passed on. -/
theorem pass0_eq (h : Final W) : (W (Proc.devRef .tc main_v33) : FVec Ideal S8x1024x128 .f32)
    = pass128 (W (Proc.devRef .tc main_v4)) (W (Proc.devRef .tc main_arg5)) := by
  rw [eq2 h.h0 45 rfl, eq2 h.h0 44 rfl,
    near0_eq h]
  rfl

/-- The first codebook: its share of the loss. -/
theorem share0_eq (h : Final W) : (W (Proc.devRef .tc main_v31) : FVec Ideal S_ .f32)
    = share128 (W (Proc.devRef .tc main_v4)) (W (Proc.devRef .tc main_arg5)) := by
  rw [eq2 h.h0 43 rfl, eq0 h.h0 42 rfl, eq2 h.h0 41 rfl, eq0 h.h0 40 rfl, eq2 h.h0 39 rfl, eq0 h.h0 38 rfl, eq2 h.h0 37 rfl,
    eq2 h.h0 36 rfl,
    near0_eq h]
  rfl

/-- The second projection. -/
theorem z1_eq (h : Final W) : (W (Proc.devRef .tc main_v38) : FVec Ideal S8x1024x128 .f32)
    = proj (W (Proc.devRef .tc main_arg0)) (W (Proc.devRef .tc main_arg3)) (W (Proc.devRef .tc main_arg4)) := by
  rw [eq2 h.h0 50 rfl, eq1 h.h0 49 rfl, eq1 h.h0 48 rfl, eq2 h.h0 47 rfl, eq1 h.h0 46 rfl]
  rfl

/-- The second codebook: the distances. -/
theorem d1_eq (h : Final W) : (W (Proc.devRef .tc main_v52) : FVec Ideal S8x1024x1024 .f32)
    = dist128 (W (Proc.devRef .tc main_v38)) (W (Proc.devRef .tc main_arg6)) := by
  rw [eq2 h.h1 3 rfl, eq1 h.h1 2 rfl, eq1 h.h1 1 rfl, eq2 h.h1 0 rfl, eq0 h.h0 63 rfl, eq2 h.h0 62 rfl, eq2 h.h0 61 rfl,
    eq1 h.h0 60 rfl, eq2 h.h0 59 rfl, eq1 h.h0 58 rfl, eq0 h.h0 57 rfl, eq2 h.h0 56 rfl, eq1 h.h0 55 rfl, eq1 h.h0 54 rfl,
    eq2 h.h0 53 rfl, eq0 h.h0 52 rfl, eq2 h.h0 51 rfl]
  rfl

/-- The second codebook: the codes. -/
theorem i1_eq (h : Final W) : (W (Proc.devRef .tc main_v53) : IVec S8x1024 32) = codes (dist128 (W (Proc.devRef .tc main_v38)) (W (Proc.devRef .tc main_arg6))) := by
  rw [← d1_eq h, ← codes_eq]
  refine (eq4 h.h1 8 rfl).trans ?_
  rw [eq0 h.h1 4 rfl, eq0 h.h1 5 rfl, eq0 h.h1 6 rfl, StableHlo.TRef.ofBuf_toBuf, StableHlo.TRef.ofBuf_toBuf, StableHlo.TRef.ofBuf_toBuf]
  exact toBuf1 _

/-- The second codebook: the chosen codes. -/
theorem near1_eq (h : Final W) : (W (Proc.devRef .tc main_v60) : FVec Ideal S8x1024x128 .f32)
    = near128 (W (Proc.devRef .tc main_v38)) (W (Proc.devRef .tc main_arg6)) := by
  rw [eq2 h.h1 17 rfl, eq1 h.h1 16 rfl, eq3 h.h1 15 rfl, eq2 h.h1 14 rfl, eq1 h.h1 13 rfl, eq0 h.h1 12 rfl, eq2 h.h1 11 rfl,
    eq1 h.h1 10 rfl, eq0 h.h1 9 rfl,
    i1_eq h]
  rfl

/-- The second codebook: the rows passed on. -/
theorem pass1_eq (h : Final W) : (W (Proc.devRef .tc main_v67) : FVec Ideal S8x1024x128 .f32)
    = pass128 (W (Proc.devRef .tc main_v38)) (W (Proc.devRef .tc main_arg6)) := by
  rw [eq2 h.h1 27 rfl, eq2 h.h1 26 rfl,
    near1_eq h]
  rfl

/-- The second codebook: its share of the loss. -/
theorem share1_eq (h : Final W) : (W (Proc.devRef .tc main_v65) : FVec Ideal S_ .f32)
    = share128 (W (Proc.devRef .tc main_v38)) (W (Proc.devRef .tc main_arg6)) := by
  rw [eq2 h.h1 25 rfl, eq0 h.h1 24 rfl, eq2 h.h1 23 rfl, eq0 h.h1 22 rfl, eq2 h.h1 21 rfl, eq0 h.h1 20 rfl, eq2 h.h1 19 rfl,
    eq2 h.h1 18 rfl,
    near1_eq h]
  rfl

/-- The quantised projections side by side. -/
theorem c_eq (h : Final W) : (W (Proc.devRef .tc main_v68) : FVec Ideal S8x1024x256 .f32)
    = cat256 (W (Proc.devRef .tc main_v33)) (W (Proc.devRef .tc main_v67)) := by
  rw [eq2 h.h1 28 rfl]
  rfl

/-- The first serial network. -/
theorem u0_eq (h : Final W) : (W (Proc.devRef .tc main_v88) : FVec Ideal S8x1024x256 .f32)
    = net256 (W (Proc.devRef .tc main_v68)) (W (Proc.devRef .tc main_arg7)) (W (Proc.devRef .tc main_arg8)) (W (Proc.devRef .tc main_arg9)) (W (Proc.devRef .tc main_arg10)) := by
  rw [eq2 h.h1 51 rfl, eq1 h.h1 50 rfl, eq1 h.h1 49 rfl, eq2 h.h1 48 rfl, eq1 h.h1 47 rfl, eq2 h.h1 46 rfl, eq2 h.h1 45 rfl,
    eq1 h.h1 44 rfl, eq0 h.h1 43 rfl, eq1 h.h1 42 rfl, eq2 h.h1 41 rfl, eq1 h.h1 40 rfl, eq1 h.h1 39 rfl, eq0 h.h1 38 rfl,
    eq2 h.h1 37 rfl, eq1 h.h1 36 rfl, eq0 h.h1 35 rfl, eq2 h.h1 34 rfl, eq1 h.h1 33 rfl, eq1 h.h1 32 rfl, eq2 h.h1 31 rfl,
    eq1 h.h1 30 rfl]
  rfl

/-- The first serial codebook: the distances. -/
theorem d2_eq (h : Final W) : (W (Proc.devRef .tc main_v102) : FVec Ideal S8x1024x1024 .f32)
    = dist256 (W (Proc.devRef .tc main_v88)) (W (Proc.devRef .tc main_arg11)) := by
  rw [eq2 h.h2 4 rfl, eq1 h.h2 3 rfl, eq1 h.h2 2 rfl, eq2 h.h2 1 rfl, eq0 h.h2 0 rfl, eq2 h.h1 63 rfl, eq2 h.h1 62 rfl,
    eq1 h.h1 61 rfl, eq2 h.h1 60 rfl, eq1 h.h1 59 rfl, eq0 h.h1 58 rfl, eq2 h.h1 57 rfl, eq1 h.h1 56 rfl, eq1 h.h1 55 rfl,
    eq2 h.h1 54 rfl, eq0 h.h1 53 rfl, eq2 h.h1 52 rfl]
  rfl

/-- The first serial codebook: the codes. -/
theorem i2_eq (h : Final W) : (W (Proc.devRef .tc main_v103) : IVec S8x1024 32) = codes (dist256 (W (Proc.devRef .tc main_v88)) (W (Proc.devRef .tc main_arg11))) := by
  rw [← d2_eq h, ← codes_eq]
  refine (eq4 h.h2 9 rfl).trans ?_
  rw [eq0 h.h2 5 rfl, eq0 h.h2 6 rfl, eq0 h.h2 7 rfl, StableHlo.TRef.ofBuf_toBuf, StableHlo.TRef.ofBuf_toBuf, StableHlo.TRef.ofBuf_toBuf]
  exact toBuf2 _

/-- The first serial codebook: the chosen codes. -/
theorem near2_eq (h : Final W) : (W (Proc.devRef .tc main_v110) : FVec Ideal S8x1024x256 .f32)
    = near256 (W (Proc.devRef .tc main_v88)) (W (Proc.devRef .tc main_arg11)) := by
  rw [eq2 h.h2 18 rfl, eq1 h.h2 17 rfl, eq3 h.h2 16 rfl, eq2 h.h2 15 rfl, eq1 h.h2 14 rfl, eq0 h.h2 13 rfl, eq2 h.h2 12 rfl,
    eq1 h.h2 11 rfl, eq0 h.h2 10 rfl,
    i2_eq h]
  rfl

/-- The first serial codebook: the rows passed on. -/
theorem pass2_eq (h : Final W) : (W (Proc.devRef .tc main_v117) : FVec Ideal S8x1024x256 .f32)
    = pass256 (W (Proc.devRef .tc main_v88)) (W (Proc.devRef .tc main_arg11)) := by
  rw [eq2 h.h2 28 rfl, eq2 h.h2 27 rfl,
    near2_eq h]
  rfl

/-- The first serial codebook: its share of the loss. -/
theorem share2_eq (h : Final W) : (W (Proc.devRef .tc main_v115) : FVec Ideal S_ .f32)
    = share256 (W (Proc.devRef .tc main_v88)) (W (Proc.devRef .tc main_arg11)) := by
  rw [eq2 h.h2 26 rfl, eq0 h.h2 25 rfl, eq2 h.h2 24 rfl, eq0 h.h2 23 rfl, eq2 h.h2 22 rfl, eq0 h.h2 21 rfl, eq2 h.h2 20 rfl,
    eq2 h.h2 19 rfl,
    near2_eq h]
  rfl

/-- The second serial network. -/
theorem u1_eq (h : Final W) : (W (Proc.devRef .tc main_v138) : FVec Ideal S8x1024x256 .f32)
    = net512 (cat512 (W (Proc.devRef .tc main_v68)) (W (Proc.devRef .tc main_v117))) (W (Proc.devRef .tc main_arg12)) (W (Proc.devRef .tc main_arg13)) (W (Proc.devRef .tc main_arg14)) (W (Proc.devRef .tc main_arg15)) := by
  rw [eq2 h.h2 52 rfl, eq1 h.h2 51 rfl, eq1 h.h2 50 rfl, eq2 h.h2 49 rfl, eq1 h.h2 48 rfl, eq2 h.h2 47 rfl, eq2 h.h2 46 rfl,
    eq1 h.h2 45 rfl, eq0 h.h2 44 rfl, eq1 h.h2 43 rfl, eq2 h.h2 42 rfl, eq1 h.h2 41 rfl, eq1 h.h2 40 rfl, eq0 h.h2 39 rfl,
    eq2 h.h2 38 rfl, eq1 h.h2 37 rfl, eq0 h.h2 36 rfl, eq2 h.h2 35 rfl, eq1 h.h2 34 rfl, eq1 h.h2 33 rfl, eq2 h.h2 32 rfl,
    eq1 h.h2 31 rfl, eq2 h.h2 30 rfl]
  rfl

/-- The second serial codebook: the distances. -/
theorem d3_eq (h : Final W) : (W (Proc.devRef .tc main_v152) : FVec Ideal S8x1024x1024 .f32)
    = dist256 (W (Proc.devRef .tc main_v138)) (W (Proc.devRef .tc main_arg16)) := by
  rw [eq2 h.h3 5 rfl, eq1 h.h3 4 rfl, eq1 h.h3 3 rfl, eq2 h.h3 2 rfl, eq0 h.h3 1 rfl, eq2 h.h3 0 rfl, eq2 h.h2 63 rfl,
    eq1 h.h2 62 rfl, eq2 h.h2 61 rfl, eq1 h.h2 60 rfl, eq0 h.h2 59 rfl, eq2 h.h2 58 rfl, eq1 h.h2 57 rfl, eq1 h.h2 56 rfl,
    eq2 h.h2 55 rfl, eq0 h.h2 54 rfl, eq2 h.h2 53 rfl]
  rfl

/-- The second serial codebook: the codes. -/
theorem i3_eq (h : Final W) : (W (Proc.devRef .tc main_v153) : IVec S8x1024 32) = codes (dist256 (W (Proc.devRef .tc main_v138)) (W (Proc.devRef .tc main_arg16))) := by
  rw [← d3_eq h, ← codes_eq]
  refine (eq4 h.h3 10 rfl).trans ?_
  rw [eq0 h.h3 6 rfl, eq0 h.h3 7 rfl, eq0 h.h3 8 rfl, StableHlo.TRef.ofBuf_toBuf, StableHlo.TRef.ofBuf_toBuf, StableHlo.TRef.ofBuf_toBuf]
  exact toBuf3 _

/-- The second serial codebook: the chosen codes. -/
theorem near3_eq (h : Final W) : (W (Proc.devRef .tc main_v160) : FVec Ideal S8x1024x256 .f32)
    = near256 (W (Proc.devRef .tc main_v138)) (W (Proc.devRef .tc main_arg16)) := by
  rw [eq2 h.h3 19 rfl, eq1 h.h3 18 rfl, eq3 h.h3 17 rfl, eq2 h.h3 16 rfl, eq1 h.h3 15 rfl, eq0 h.h3 14 rfl, eq2 h.h3 13 rfl,
    eq1 h.h3 12 rfl, eq0 h.h3 11 rfl,
    i3_eq h]
  rfl

/-- The second serial codebook: the rows passed on. -/
theorem pass3_eq (h : Final W) : (W (Proc.devRef .tc main_v167) : FVec Ideal S8x1024x256 .f32)
    = pass256 (W (Proc.devRef .tc main_v138)) (W (Proc.devRef .tc main_arg16)) := by
  rw [eq2 h.h3 29 rfl, eq2 h.h3 28 rfl,
    near3_eq h]
  rfl

/-- The second serial codebook: its share of the loss. -/
theorem share3_eq (h : Final W) : (W (Proc.devRef .tc main_v165) : FVec Ideal S_ .f32)
    = share256 (W (Proc.devRef .tc main_v138)) (W (Proc.devRef .tc main_arg16)) := by
  rw [eq2 h.h3 27 rfl, eq0 h.h3 26 rfl, eq2 h.h3 25 rfl, eq0 h.h3 24 rfl, eq2 h.h3 23 rfl, eq0 h.h3 22 rfl, eq2 h.h3 21 rfl,
    eq2 h.h3 20 rfl,
    near3_eq h]
  rfl

/-- The output. -/
theorem zq_eq (h : Final W) : (W (Proc.devRef .tc main_v174) : FVec Ideal S8x1024x768 .f32)
    = out (W (Proc.devRef .tc main_v68)) (W (Proc.devRef .tc main_v117)) (W (Proc.devRef .tc main_v167)) (W (Proc.devRef .tc main_arg17)) (W (Proc.devRef .tc main_arg18)) := by
  rw [eq2 h.h3 36 rfl, eq1 h.h3 35 rfl, eq1 h.h3 34 rfl, eq2 h.h3 33 rfl, eq1 h.h3 32 rfl, eqn h.h3 31 rfl]
  rfl

/-- The loss. -/
theorem loss_eq (h : Final W) : (W (Proc.devRef .tc main_v168) : FVec Ideal S_ .f32)
    = (addf (addf (addf (W (Proc.devRef .tc main_v31)) (W (Proc.devRef .tc main_v65)) : FVec Ideal S_ .f32) (W (Proc.devRef .tc main_v115)) : FVec Ideal S_ .f32) (W (Proc.devRef .tc main_v165)) : FVec Ideal S_ .f32) := by
  rw [eq2 h.h3 30 rfl, eq2 h.h2 29 rfl, eq2 h.h1 29 rfl]

end Cert.ReferenceIdeal.Line

end

end
-- ==== Proof.RefRow.lean ====
/- The reference's results row by row, in the row specification's names. -/
module

public import proofs.«01_k».proof.Proof.RefLine

@[expose] public section

set_option maxRecDepth 16384

noncomputable section

open Idealize.ShloMosaic Idealize.ShloMosaic.TcCoe Idealize.SL.Sem

namespace Cert.ReferenceIdeal.Line

open Cert.ReferenceIdeal Cert.ReferenceIdeal.Gen Cert.ReferenceIdeal.Row Cert.Vq

/-- The parameters as plain matrices, from the arguments' contents. -/
def params (W : Valuation τ sig (Elt Ideal)) : Params where
  pw0 j i := (W (Proc.devRef .tc main_arg1) : FVec Ideal S128x768 .f32) (ix2 j i)
  pb0 j := (W (Proc.devRef .tc main_arg2) : FVec Ideal S128 .f32) (ix1 j)
  pw1 j i := (W (Proc.devRef .tc main_arg3) : FVec Ideal S128x768 .f32) (ix2 j i)
  pb1 j := (W (Proc.devRef .tc main_arg4) : FVec Ideal S128 .f32) (ix1 j)
  cb0 j i := (W (Proc.devRef .tc main_arg5) : FVec Ideal S1024x128 .f32) (ix2 j i)
  cb1 j i := (W (Proc.devRef .tc main_arg6) : FVec Ideal S1024x128 .f32) (ix2 j i)
  sw1 j i := (W (Proc.devRef .tc main_arg7) : FVec Ideal S128x256 .f32) (ix2 j i)
  sb1 j := (W (Proc.devRef .tc main_arg8) : FVec Ideal S128 .f32) (ix1 j)
  sw2 j i := (W (Proc.devRef .tc main_arg9) : FVec Ideal S256x128 .f32) (ix2 j i)
  sb2 j := (W (Proc.devRef .tc main_arg10) : FVec Ideal S256 .f32) (ix1 j)
  sc j i := (W (Proc.devRef .tc main_arg11) : FVec Ideal S1024x256 .f32) (ix2 j i)
  tw1 j i := (W (Proc.devRef .tc main_arg12) : FVec Ideal S256x512 .f32) (ix2 j i)
  tb1 j := (W (Proc.devRef .tc main_arg13) : FVec Ideal S256 .f32) (ix1 j)
  tw2 j i := (W (Proc.devRef .tc main_arg14) : FVec Ideal S256x256 .f32) (ix2 j i)
  tb2 j := (W (Proc.devRef .tc main_arg15) : FVec Ideal S256 .f32) (ix1 j)
  tc j i := (W (Proc.devRef .tc main_arg16) : FVec Ideal S1024x256 .f32) (ix2 j i)
  ow j i := (W (Proc.devRef .tc main_arg17) : FVec Ideal S768x768 .f32) (ix2 j i)
  ob j := (W (Proc.devRef .tc main_arg18) : FVec Ideal S768 .f32) (ix1 j)

/-- One row of the input. -/
def row (W : Valuation τ sig (Elt Ideal)) (b : Fin 8) (r : Fin 1024) : Fin 768 → EReal :=
  fun i => (W (Proc.devRef .tc main_arg0) : FVec Ideal S8x1024x768 .f32) (ix3 b r i)

variable {W : Valuation τ sig (Elt Ideal)}

/-- The first projection. -/
theorem z0_row (h : Final W) (b : Fin 8) (r : Fin 1024) :
    (fun j => (W (Proc.devRef .tc main_v4) : FVec Ideal S8x1024x128 .f32) (ix3 b r j)) = (params W).z0 (row W b r) := by
  funext j
  rw [z0_eq h]
  exact proj_at _ _ _ b r j

/-- The second projection. -/
theorem z1_row (h : Final W) (b : Fin 8) (r : Fin 1024) :
    (fun j => (W (Proc.devRef .tc main_v38) : FVec Ideal S8x1024x128 .f32) (ix3 b r j)) = (params W).z1 (row W b r) := by
  funext j
  rw [z1_eq h]
  exact proj_at _ _ _ b r j

/-- The first quantised projection. -/
theorem q0_row (h : Final W) (b : Fin 8) (r : Fin 1024) :
    (fun j => (W (Proc.devRef .tc main_v33) : FVec Ideal S8x1024x128 .f32) (ix3 b r j)) = pass (params W).cb0 ((params W).z0 (row W b r)) := by
  funext j
  rw [pass0_eq h]
  refine (pass128_at _ _ b r j).trans ?_
  rw [z0_row h b r]
  rfl

/-- The second quantised projection. -/
theorem q1_row (h : Final W) (b : Fin 8) (r : Fin 1024) :
    (fun j => (W (Proc.devRef .tc main_v67) : FVec Ideal S8x1024x128 .f32) (ix3 b r j)) = pass (params W).cb1 ((params W).z1 (row W b r)) := by
  funext j
  rw [pass1_eq h]
  refine (pass128_at _ _ b r j).trans ?_
  rw [z1_row h b r]
  rfl

/-- The two quantised projections side by side. -/
theorem c_row (h : Final W) (b : Fin 8) (r : Fin 1024) :
    (fun j => (W (Proc.devRef .tc main_v68) : FVec Ideal S8x1024x256 .f32) (ix3 b r j)) = (params W).c (row W b r) := by
  funext j
  rw [c_eq h]
  refine (cat256_at _ _ b r j).trans ?_
  rw [q0_row h b r, q1_row h b r]
  rfl

/-- The first serial stage's row. -/
theorem u0_row (h : Final W) (b : Fin 8) (r : Fin 1024) :
    (fun j => (W (Proc.devRef .tc main_v88) : FVec Ideal S8x1024x256 .f32) (ix3 b r j)) = (params W).u0 (row W b r) := by
  funext j
  rw [u0_eq h]
  refine (net256_at _ _ _ _ _ b r j).trans ?_
  rw [c_row h b r]
  rfl

/-- The first serial stage's quantised row. -/
theorem s0_row (h : Final W) (b : Fin 8) (r : Fin 1024) :
    (fun j => (W (Proc.devRef .tc main_v117) : FVec Ideal S8x1024x256 .f32) (ix3 b r j)) = (params W).s0 (row W b r) := by
  funext j
  rw [pass2_eq h]
  refine (pass256_at _ _ b r j).trans ?_
  rw [u0_row h b r]
  rfl

/-- The second serial stage's row. -/
theorem u1_row (h : Final W) (b : Fin 8) (r : Fin 1024) :
    (fun j => (W (Proc.devRef .tc main_v138) : FVec Ideal S8x1024x256 .f32) (ix3 b r j)) = (params W).u1 (row W b r) := by
  funext j
  rw [u1_eq h]
  refine (net512_at _ _ _ _ _ b r j).trans ?_
  rw [show (fun i => cat512 (W (Proc.devRef .tc main_v68)) (W (Proc.devRef .tc main_v117)) (ix3 b r i)) = _ from funext fun i => cat512_at _ _ b r i,
    c_row h b r, s0_row h b r]
  rfl

/-- The second serial stage's quantised row. -/
theorem s1_row (h : Final W) (b : Fin 8) (r : Fin 1024) :
    (fun j => (W (Proc.devRef .tc main_v167) : FVec Ideal S8x1024x256 .f32) (ix3 b r j)) = (params W).s1 (row W b r) := by
  funext j
  rw [pass3_eq h]
  refine (pass256_at _ _ b r j).trans ?_
  rw [u1_row h b r]
  rfl

/-- The output row. -/
theorem zq_row (h : Final W) (b : Fin 8) (r : Fin 1024) (j : Fin 768) :
    (W (Proc.devRef .tc main_v174) : FVec Ideal S8x1024x768 .f32) (ix3 b r j) = (params W).zq (row W b r) j := by
  rw [zq_eq h]
  refine (out_at _ _ _ _ _ b r j).trans ?_
  rw [c_row h b r, s0_row h b r, s1_row h b r]
  rfl

/-- The index chosen in codebook 0. -/
theorem i0_row (h : Final W) (b : Fin 8) (r : Fin 1024) :
    (W (Proc.devRef .tc main_v19) : IVec S8x1024 32) (ix2 b r) = BitVec.ofNat 32 (code (params W).cb0 ((params W).z0 (row W b r))).val := by
  rw [i0_eq h]
  refine (codes128_at _ _ b r).trans ?_
  rw [z0_row h b r]
  rfl

/-- The index chosen in codebook 1. -/
theorem i1_row (h : Final W) (b : Fin 8) (r : Fin 1024) :
    (W (Proc.devRef .tc main_v53) : IVec S8x1024 32) (ix2 b r) = BitVec.ofNat 32 (code (params W).cb1 ((params W).z1 (row W b r))).val := by
  rw [i1_eq h]
  refine (codes128_at _ _ b r).trans ?_
  rw [z1_row h b r]
  rfl

/-- The index chosen in codebook 2. -/
theorem i2_row (h : Final W) (b : Fin 8) (r : Fin 1024) :
    (W (Proc.devRef .tc main_v103) : IVec S8x1024 32) (ix2 b r) = BitVec.ofNat 32 (code (params W).sc ((params W).u0 (row W b r))).val := by
  rw [i2_eq h]
  refine (codes256_at _ _ b r).trans ?_
  rw [u0_row h b r]
  rfl

/-- The index chosen in codebook 3. -/
theorem i3_row (h : Final W) (b : Fin 8) (r : Fin 1024) :
    (W (Proc.devRef .tc main_v153) : IVec S8x1024 32) (ix2 b r) = BitVec.ofNat 32 (code (params W).tc ((params W).u1 (row W b r))).val := by
  rw [i3_eq h]
  refine (codes256_at _ _ b r).trans ?_
  rw [u1_row h b r]
  rfl

/-- Stage 0's share of the loss. -/
theorem share0_row (h : Final W) : (W (Proc.devRef .tc main_v31) : FVec Ideal S_ .f32) ix0 = Ideal.ofBits .f32 0x3E800000#32
    * Ideal.div (∑ b : Fin 8, ∑ r : Fin 1024, err (params W).cb0 ((params W).z0 (row W b r))) (Ideal.ofBits .f32 0x49800000#32) := by
  rw [share0_eq h]
  refine (share128_at _ _).trans ?_
  simp only [z0_row h]
  rfl

/-- Stage 1's share of the loss. -/
theorem share1_row (h : Final W) : (W (Proc.devRef .tc main_v65) : FVec Ideal S_ .f32) ix0 = Ideal.ofBits .f32 0x3E800000#32
    * Ideal.div (∑ b : Fin 8, ∑ r : Fin 1024, err (params W).cb1 ((params W).z1 (row W b r))) (Ideal.ofBits .f32 0x49800000#32) := by
  rw [share1_eq h]
  refine (share128_at _ _).trans ?_
  simp only [z1_row h]
  rfl

/-- Stage 2's share of the loss. -/
theorem share2_row (h : Final W) : (W (Proc.devRef .tc main_v115) : FVec Ideal S_ .f32) ix0 = Ideal.ofBits .f32 0x3E800000#32
    * Ideal.div (∑ b : Fin 8, ∑ r : Fin 1024, err (params W).sc ((params W).u0 (row W b r))) (Ideal.ofBits .f32 0x4A000000#32) := by
  rw [share2_eq h]
  refine (share256_at _ _).trans ?_
  simp only [u0_row h]
  rfl

/-- Stage 3's share of the loss. -/
theorem share3_row (h : Final W) : (W (Proc.devRef .tc main_v165) : FVec Ideal S_ .f32) ix0 = Ideal.ofBits .f32 0x3E800000#32
    * Ideal.div (∑ b : Fin 8, ∑ r : Fin 1024, err (params W).tc ((params W).u1 (row W b r))) (Ideal.ofBits .f32 0x4A000000#32) := by
  rw [share3_eq h]
  refine (share256_at _ _).trans ?_
  simp only [u1_row h]
  rfl

/-- Four scalars added. -/
theorem add4 (a b c d : FVec Ideal S_ .f32) {x y z w : EReal} (ha : a ix0 = x) (hb : b ix0 = y) (hc : c ix0 = z) (hd : d ix0 = w) :
    @Eq EReal (addf (addf (addf a b) c) d ix0) (x + y + z + w) := by
  rw [← ha, ← hb, ← hc, ← hd]
  rfl

/-- The loss: the four shares added. -/
theorem loss_row (h : Final W) : @Eq EReal ((W (Proc.devRef .tc main_v168) : FVec Ideal S_ .f32) ix0)
    (Ideal.ofBits .f32 0x3E800000#32
        * Ideal.div (∑ b : Fin 8, ∑ r : Fin 1024, err (params W).cb0 ((params W).z0 (row W b r))) (Ideal.ofBits .f32 0x49800000#32)
      + Ideal.ofBits .f32 0x3E800000#32
        * Ideal.div (∑ b : Fin 8, ∑ r : Fin 1024, err (params W).cb1 ((params W).z1 (row W b r))) (Ideal.ofBits .f32 0x49800000#32)
      + Ideal.ofBits .f32 0x3E800000#32
        * Ideal.div (∑ b : Fin 8, ∑ r : Fin 1024, err (params W).sc ((params W).u0 (row W b r))) (Ideal.ofBits .f32 0x4A000000#32)
      + Ideal.ofBits .f32 0x3E800000#32
        * Ideal.div (∑ b : Fin 8, ∑ r : Fin 1024, err (params W).tc ((params W).u1 (row W b r))) (Ideal.ofBits .f32 0x4A000000#32)) := by
  rw [loss_eq h]
  exact add4 _ _ _ _ (share0_row h) (share1_row h) (share2_row h) (share3_row h)

end Cert.ReferenceIdeal.Line

end

end
-- ==== Proof.Loss.lean ====
/- The loss both ways: a quarter of the mean squared errors, added batch by batch or stage by stage. -/
module

public import proofs.«01_k».proof.Proof.Spec

@[expose] public section

noncomputable section

namespace Cert.Vq

open Idealize.ShloMosaic

/-- A square is not negative. -/
theorem sq_nonneg' (x : EReal) : 0 ≤ x * x := by
  induction x with
  | bot => simp
  | top => simp
  | coe r => exact_mod_cast mul_self_nonneg r

/-- A squared error is not negative. -/
theorem err_nonneg {a n : ℕ} [NeZero n] (cb : Fin n → Fin a → EReal) (z : Fin a → EReal) : 0 ≤ err cb z :=
  Finset.sum_nonneg fun j _ => sq_nonneg' _

/-- A sum of nonnegative terms times a factor. -/
theorem sum_mul_nonneg {n : ℕ} (f : Fin n → EReal) (h : ∀ i, 0 ≤ f i) (c : EReal) : (∑ i, f i) * c = ∑ i, f i * c := by
  classical
  suffices H : ∀ s : Finset (Fin n), (∑ i ∈ s, f i) * c = ∑ i ∈ s, f i * c from H Finset.univ
  intro s
  induction s using Finset.induction_on with
  | empty => simp
  | insert a s ha ih =>
    rw [Finset.sum_insert ha, Finset.sum_insert ha, EReal.right_distrib_of_nonneg (h a) (Finset.sum_nonneg fun i _ => h i), ih]

/-- One batch's share, term by term. -/
theorem share_split (q u v a b c d : EReal) (hu : 0 ≤ u) (hv : 0 ≤ v) (ha : 0 ≤ a) (hb : 0 ≤ b) (hc : 0 ≤ c) (hd : 0 ≤ d) :
    q * ((a + b) * u + (c + d) * v) = a * (u * q) + b * (u * q) + c * (v * q) + d * (v * q) := by
  have e1 : (a + b) * u = a * u + b * u := EReal.right_distrib_of_nonneg ha hb
  have e2 : (c + d) * v = c * v + d * v := EReal.right_distrib_of_nonneg hc hd
  have h1 : 0 ≤ a * u := mul_nonneg ha hu
  have h2 : 0 ≤ b * u := mul_nonneg hb hu
  have h3 : 0 ≤ c * v := mul_nonneg hc hv
  have h4 : 0 ≤ d * v := mul_nonneg hd hv
  rw [e1, e2, mul_comm q, EReal.right_distrib_of_nonneg (add_nonneg h1 h2) (add_nonneg h3 h4), EReal.right_distrib_of_nonneg h1 h2,
    EReal.right_distrib_of_nonneg h3 h4, mul_assoc, mul_assoc, mul_assoc, mul_assoc, add_assoc, add_assoc, add_assoc]

/-- The size of the narrow stages' arrays. -/
theorem size128 : Ideal.ofBits .f32 0x49800000#32 = ((1048576 : ℝ) : EReal) := by
  simp [Ideal.ofBits, Ideal.ieee, -EReal.coe_mul]
  norm_num

/-- The size of the wide stages' arrays. -/
theorem size256 : Ideal.ofBits .f32 0x4A000000#32 = ((2097152 : ℝ) : EReal) := by
  simp [Ideal.ofBits, Ideal.ieee, -EReal.coe_mul]
  norm_num

/-- The loss batch by batch is the loss stage by stage: the errors are not negative, so the factors distribute. -/
theorem loss_swap (q : EReal) (A B C D : Fin 8 → EReal) (hA : ∀ b, 0 ≤ A b) (hB : ∀ b, 0 ≤ B b) (hC : ∀ b, 0 ≤ C b) (hD : ∀ b, 0 ≤ D b) :
    (∑ b, q * (Ideal.div (A b + B b) (Ideal.ofBits .f32 0x49800000#32) + Ideal.div (C b + D b) (Ideal.ofBits .f32 0x4A000000#32)))
      = q * Ideal.div (∑ b, A b) (Ideal.ofBits .f32 0x49800000#32) + q * Ideal.div (∑ b, B b) (Ideal.ofBits .f32 0x49800000#32)
        + q * Ideal.div (∑ b, C b) (Ideal.ofBits .f32 0x4A000000#32) + q * Ideal.div (∑ b, D b) (Ideal.ofBits .f32 0x4A000000#32) := by
  have hu : (0 : EReal) ≤ ((1 / 1048576 : ℝ) : EReal) := EReal.coe_nonneg.mpr (by norm_num)
  have hv : (0 : EReal) ≤ ((1 / 2097152 : ℝ) : EReal) := EReal.coe_nonneg.mpr (by norm_num)
  rw [size128, size256]
  simp only [Ideal.div_coe (show (1048576 : ℝ) ≠ 0 by norm_num), Ideal.div_coe (show (2097152 : ℝ) ≠ 0 by norm_num)]
  rw [Finset.sum_congr rfl fun b _ => share_split q _ _ _ _ _ _ hu hv (hA b) (hB b) (hC b) (hD b),
    Finset.sum_add_distrib, Finset.sum_add_distrib, Finset.sum_add_distrib,
    ← sum_mul_nonneg A hA, ← sum_mul_nonneg B hB, ← sum_mul_nonneg C hC, ← sum_mul_nonneg D hD,
    mul_comm q, mul_comm q, mul_comm q, mul_comm q, mul_assoc, mul_assoc, mul_assoc, mul_assoc]

end Cert.Vq

end

end
-- ==== Proof.Equal.lean ====
/- The two programs compared: from equal arguments the reference's results are the kernel's. -/
module

public import proofs.«01_k».proof.Proof.KerRun
public import proofs.«01_k».proof.Proof.RefRow
public import proofs.«01_k».proof.Proof.Loss

@[expose] public section

set_option maxRecDepth 16384

noncomputable section

open Idealize.ShloMosaic Idealize.ShloMosaic.TcCoe Idealize.SL.Sem

namespace Cert.Equal

open Cert.Vq

/-- The reference's contents `W` hold device `c`'s arguments. -/
structure Agree (m : (ℓ : Loc Cert.KernelIdeal.nD Cert.KernelIdeal.τ Cert.KernelIdeal.sig) → Buf (Elt Ideal) ℓ) (c : Dev Cert.KernelIdeal.nD) (W : Valuation Cert.ReferenceIdeal.τ Cert.ReferenceIdeal.sig (Elt Ideal)) : Prop where
  /-- argument 0 -/
  a0 : W (Proc.devRef .tc Cert.ReferenceIdeal.main_arg0) = m ((c.tc : Thread Cert.KernelIdeal.nD Cert.KernelIdeal.τ).loc Cert.KernelIdeal.main_arg0)
  /-- argument 1 -/
  a1 : W (Proc.devRef .tc Cert.ReferenceIdeal.main_arg1) = m ((c.tc : Thread Cert.KernelIdeal.nD Cert.KernelIdeal.τ).loc Cert.KernelIdeal.main_arg1)
  /-- argument 2 -/
  a2 : W (Proc.devRef .tc Cert.ReferenceIdeal.main_arg2) = m ((c.tc : Thread Cert.KernelIdeal.nD Cert.KernelIdeal.τ).loc Cert.KernelIdeal.main_arg2)
  /-- argument 3 -/
  a3 : W (Proc.devRef .tc Cert.ReferenceIdeal.main_arg3) = m ((c.tc : Thread Cert.KernelIdeal.nD Cert.KernelIdeal.τ).loc Cert.KernelIdeal.main_arg3)
  /-- argument 4 -/
  a4 : W (Proc.devRef .tc Cert.ReferenceIdeal.main_arg4) = m ((c.tc : Thread Cert.KernelIdeal.nD Cert.KernelIdeal.τ).loc Cert.KernelIdeal.main_arg4)
  /-- argument 5 -/
  a5 : W (Proc.devRef .tc Cert.ReferenceIdeal.main_arg5) = m ((c.tc : Thread Cert.KernelIdeal.nD Cert.KernelIdeal.τ).loc Cert.KernelIdeal.main_arg5)
  /-- argument 6 -/
  a6 : W (Proc.devRef .tc Cert.ReferenceIdeal.main_arg6) = m ((c.tc : Thread Cert.KernelIdeal.nD Cert.KernelIdeal.τ).loc Cert.KernelIdeal.main_arg6)
  /-- argument 7 -/
  a7 : W (Proc.devRef .tc Cert.ReferenceIdeal.main_arg7) = m ((c.tc : Thread Cert.KernelIdeal.nD Cert.KernelIdeal.τ).loc Cert.KernelIdeal.main_arg7)
  /-- argument 8 -/
  a8 : W (Proc.devRef .tc Cert.ReferenceIdeal.main_arg8) = m ((c.tc : Thread Cert.KernelIdeal.nD Cert.KernelIdeal.τ).loc Cert.KernelIdeal.main_arg8)
  /-- argument 9 -/
  a9 : W (Proc.devRef .tc Cert.ReferenceIdeal.main_arg9) = m ((c.tc : Thread Cert.KernelIdeal.nD Cert.KernelIdeal.τ).loc Cert.KernelIdeal.main_arg9)
  /-- argument 10 -/
  a10 : W (Proc.devRef .tc Cert.ReferenceIdeal.main_arg10) = m ((c.tc : Thread Cert.KernelIdeal.nD Cert.KernelIdeal.τ).loc Cert.KernelIdeal.main_arg10)
  /-- argument 11 -/
  a11 : W (Proc.devRef .tc Cert.ReferenceIdeal.main_arg11) = m ((c.tc : Thread Cert.KernelIdeal.nD Cert.KernelIdeal.τ).loc Cert.KernelIdeal.main_arg11)
  /-- argument 12 -/
  a12 : W (Proc.devRef .tc Cert.ReferenceIdeal.main_arg12) = m ((c.tc : Thread Cert.KernelIdeal.nD Cert.KernelIdeal.τ).loc Cert.KernelIdeal.main_arg12)
  /-- argument 13 -/
  a13 : W (Proc.devRef .tc Cert.ReferenceIdeal.main_arg13) = m ((c.tc : Thread Cert.KernelIdeal.nD Cert.KernelIdeal.τ).loc Cert.KernelIdeal.main_arg13)
  /-- argument 14 -/
  a14 : W (Proc.devRef .tc Cert.ReferenceIdeal.main_arg14) = m ((c.tc : Thread Cert.KernelIdeal.nD Cert.KernelIdeal.τ).loc Cert.KernelIdeal.main_arg14)
  /-- argument 15 -/
  a15 : W (Proc.devRef .tc Cert.ReferenceIdeal.main_arg15) = m ((c.tc : Thread Cert.KernelIdeal.nD Cert.KernelIdeal.τ).loc Cert.KernelIdeal.main_arg15)
  /-- argument 16 -/
  a16 : W (Proc.devRef .tc Cert.ReferenceIdeal.main_arg16) = m ((c.tc : Thread Cert.KernelIdeal.nD Cert.KernelIdeal.τ).loc Cert.KernelIdeal.main_arg16)
  /-- argument 17 -/
  a17 : W (Proc.devRef .tc Cert.ReferenceIdeal.main_arg17) = m ((c.tc : Thread Cert.KernelIdeal.nD Cert.KernelIdeal.τ).loc Cert.KernelIdeal.main_arg17)
  /-- argument 18 -/
  a18 : W (Proc.devRef .tc Cert.ReferenceIdeal.main_arg18) = m ((c.tc : Thread Cert.KernelIdeal.nD Cert.KernelIdeal.τ).loc Cert.KernelIdeal.main_arg18)

variable {m : (ℓ : Loc Cert.KernelIdeal.nD Cert.KernelIdeal.τ Cert.KernelIdeal.sig) → Buf (Elt Ideal) ℓ} {c : Dev Cert.KernelIdeal.nD} {W : Valuation Cert.ReferenceIdeal.τ Cert.ReferenceIdeal.sig (Elt Ideal)}

/-- The same parameters. -/
theorem params_eq (a : Agree m c W) : Cert.ReferenceIdeal.Line.params W = Cert.KernelIdeal.Value.params m c := by
  unfold Cert.ReferenceIdeal.Line.params Cert.KernelIdeal.Value.params
  rw [a.a1, a.a2, a.a3, a.a4, a.a5, a.a6, a.a7, a.a8, a.a9, a.a10, a.a11, a.a12, a.a13, a.a14, a.a15, a.a16, a.a17, a.a18]

/-- The same rows. -/
theorem row_eq (a : Agree m c W) (b : Fin 8) (r : Fin 1024) : Cert.ReferenceIdeal.Line.row W b r = Cert.KernelIdeal.Value.row m c b r := by
  unfold Cert.ReferenceIdeal.Line.row Cert.KernelIdeal.Value.row
  rw [a.a0]

/-- The same output. -/
theorem zq_eq (h : Cert.ReferenceIdeal.Line.Final W) (a : Agree m c W) : W (Proc.devRef .tc Cert.ReferenceIdeal.main_v174) = Cert.KernelIdeal.Value.resZq m c := by
  funext y
  obtain ⟨b, r, j, rfl⟩ : ∃ (b : Fin 8) (r : Fin 1024) (j : Fin 768), y = ix3 b r j := ⟨y 0, y 1, y 2, eq_ix3 y⟩
  refine (Cert.ReferenceIdeal.Line.zq_row h b r j).trans ?_
  rw [params_eq a, row_eq a]
  rfl

/-- The same indices in codebook 0. -/
theorem i0_eq (h : Cert.ReferenceIdeal.Line.Final W) (a : Agree m c W) :
    W (Proc.devRef .tc Cert.ReferenceIdeal.main_v19) = Cert.KernelIdeal.Value.resIdx m (fun x => code (Cert.KernelIdeal.Value.params m c).cb0 ((Cert.KernelIdeal.Value.params m c).z0 x)) c := by
  funext y
  obtain ⟨b, r, rfl⟩ : ∃ (b : Fin 8) (r : Fin 1024), y = ix2 b r := ⟨y 0, y 1, eq_ix2 y⟩
  refine (Cert.ReferenceIdeal.Line.i0_row h b r).trans ?_
  rw [params_eq a, row_eq a]
  rfl

/-- The same indices in codebook 1. -/
theorem i1_eq (h : Cert.ReferenceIdeal.Line.Final W) (a : Agree m c W) :
    W (Proc.devRef .tc Cert.ReferenceIdeal.main_v53) = Cert.KernelIdeal.Value.resIdx m (fun x => code (Cert.KernelIdeal.Value.params m c).cb1 ((Cert.KernelIdeal.Value.params m c).z1 x)) c := by
  funext y
  obtain ⟨b, r, rfl⟩ : ∃ (b : Fin 8) (r : Fin 1024), y = ix2 b r := ⟨y 0, y 1, eq_ix2 y⟩
  refine (Cert.ReferenceIdeal.Line.i1_row h b r).trans ?_
  rw [params_eq a, row_eq a]
  rfl

/-- The same indices in codebook 2. -/
theorem i2_eq (h : Cert.ReferenceIdeal.Line.Final W) (a : Agree m c W) :
    W (Proc.devRef .tc Cert.ReferenceIdeal.main_v103) = Cert.KernelIdeal.Value.resIdx m (fun x => code (Cert.KernelIdeal.Value.params m c).sc ((Cert.KernelIdeal.Value.params m c).u0 x)) c := by
  funext y
  obtain ⟨b, r, rfl⟩ : ∃ (b : Fin 8) (r : Fin 1024), y = ix2 b r := ⟨y 0, y 1, eq_ix2 y⟩
  refine (Cert.ReferenceIdeal.Line.i2_row h b r).trans ?_
  rw [params_eq a, row_eq a]
  rfl

/-- The same indices in codebook 3. -/
theorem i3_eq (h : Cert.ReferenceIdeal.Line.Final W) (a : Agree m c W) :
    W (Proc.devRef .tc Cert.ReferenceIdeal.main_v153) = Cert.KernelIdeal.Value.resIdx m (fun x => code (Cert.KernelIdeal.Value.params m c).tc ((Cert.KernelIdeal.Value.params m c).u1 x)) c := by
  funext y
  obtain ⟨b, r, rfl⟩ : ∃ (b : Fin 8) (r : Fin 1024), y = ix2 b r := ⟨y 0, y 1, eq_ix2 y⟩
  refine (Cert.ReferenceIdeal.Line.i3_row h b r).trans ?_
  rw [params_eq a, row_eq a]
  rfl

/-- The same loss. -/
theorem loss_eq (h : Cert.ReferenceIdeal.Line.Final W) (a : Agree m c W) : W (Proc.devRef .tc Cert.ReferenceIdeal.main_v168) = Cert.KernelIdeal.Value.resLoss m c := by
  funext y
  obtain rfl : y = ix0 := funext fun i => i.elim0
  refine (Cert.ReferenceIdeal.Line.loss_row h).trans ?_
  simp only [params_eq a, row_eq a]
  exact (loss_swap _ _ _ _ _ (fun b => Finset.sum_nonneg fun r _ => err_nonneg _ _) (fun b => Finset.sum_nonneg fun r _ => err_nonneg _ _)
    (fun b => Finset.sum_nonneg fun r _ => err_nonneg _ _) (fun b => Finset.sum_nonneg fun r _ => err_nonneg _ _)).symm

end Cert.Equal

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Launch.KernelFrame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Launch.KernelIdealFrame
public import proofs.«01_k».proof.Proof.Gen.ReferenceIdeal
public import proofs.«01_k».proof.Proof.Equal
public import Idealize.ShloMosaic.Lib.Quiescent
public import Idealize.ShloMosaic.Adequacy
public import Idealize.ShloMosaic.Init

@[expose] public section

set_option maxRecDepth 16384

noncomputable section

namespace Cert.Proof

open Idealize.ShloMosaic Idealize.SL.Sem Cert.Kernel

/-- The reference runs, its arguments unchanged and its counters at zero. -/
theorem reference_frame (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)) ∧ r.2.sem = fun _ => 0) := by
  refine (θ_run _ _ _).mono (fun r h => ⟨fun c => ?_, Idealize.ShloMosaic.sem_eq_zero_of_no_sems (by decide) r.2⟩) (Cert.ReferenceIdeal.Line.run m g)
  obtain ⟨W, -, hb, ha⟩ := h c
  refine ⟨?_, ?_, ?_, ?_, ?_, ?_, ?_, ?_, ?_, ?_, ?_, ?_, ?_, ?_, ?_, ?_, ?_, ?_, ?_⟩ <;> exact (hb _).trans (ha _ (by decide))

/-- The reference's run against a kernel memory with the same arguments. -/
theorem reference_run (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (g' : Dev Cert.ReferenceIdeal.nD → PrngReg) (hW : ∀ (c : Dev Cert.KernelIdeal.nD) (W : Valuation Cert.ReferenceIdeal.τ Cert.ReferenceIdeal.sig (Elt Ideal)),
      (∀ b : Ref Cert.ReferenceIdeal.sig .tc, b.idx.val < 19 → W (Proc.devRef .tc b) = m' ((c.tc : Thread Cert.ReferenceIdeal.nD Cert.ReferenceIdeal.τ).loc b)) → Equal.Agree m c W) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      r.2.mem ((c.tc : Thread Cert.ReferenceIdeal.nD Cert.ReferenceIdeal.τ).loc Cert.ReferenceIdeal.main_v174) = Cert.KernelIdeal.Value.resZq m c
      ∧ r.2.mem ((c.tc : Thread Cert.ReferenceIdeal.nD Cert.ReferenceIdeal.τ).loc Cert.ReferenceIdeal.main_v19) = Cert.KernelIdeal.Value.resIdx m (fun x => Vq.code (Cert.KernelIdeal.Value.params m c).cb0 ((Cert.KernelIdeal.Value.params m c).z0 x)) c
      ∧ r.2.mem ((c.tc : Thread Cert.ReferenceIdeal.nD Cert.ReferenceIdeal.τ).loc Cert.ReferenceIdeal.main_v53) = Cert.KernelIdeal.Value.resIdx m (fun x => Vq.code (Cert.KernelIdeal.Value.params m c).cb1 ((Cert.KernelIdeal.Value.params m c).z1 x)) c
      ∧ r.2.mem ((c.tc : Thread Cert.ReferenceIdeal.nD Cert.ReferenceIdeal.τ).loc Cert.ReferenceIdeal.main_v103) = Cert.KernelIdeal.Value.resIdx m (fun x => Vq.code (Cert.KernelIdeal.Value.params m c).sc ((Cert.KernelIdeal.Value.params m c).u0 x)) c
      ∧ r.2.mem ((c.tc : Thread Cert.ReferenceIdeal.nD Cert.ReferenceIdeal.τ).loc Cert.ReferenceIdeal.main_v153) = Cert.KernelIdeal.Value.resIdx m (fun x => Vq.code (Cert.KernelIdeal.Value.params m c).tc ((Cert.KernelIdeal.Value.params m c).u1 x)) c
      ∧ r.2.mem ((c.tc : Thread Cert.ReferenceIdeal.nD Cert.ReferenceIdeal.τ).loc Cert.ReferenceIdeal.main_v168) = Cert.KernelIdeal.Value.resLoss m c
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)) := by
  refine (θ_run _ _ _).mono (fun r h c => ?_) (Cert.ReferenceIdeal.Line.run m' g')
  obtain ⟨W, hF, hb, ha⟩ := h c
  have a := hW c W ha
  refine ⟨(hb _).trans (Equal.zq_eq hF a), (hb _).trans (Equal.i0_eq hF a), (hb _).trans (Equal.i1_eq hF a), (hb _).trans (Equal.i2_eq hF a),
    (hb _).trans (Equal.i3_eq hF a), (hb _).trans (Equal.loss_eq hF a), ?_, ?_, ?_, ?_, ?_, ?_, ?_, ?_, ?_, ?_, ?_, ?_, ?_, ?_, ?_, ?_, ?_, ?_, ?_⟩ <;> exact (hb _).trans (ha _ (by decide))

/-- The claims. -/
theorem claim : Cert.Claim := ⟨Cert.Kernel.Gen.facts, Cert.KernelIdeal.Gen.facts, Cert.ReferenceIdeal.Gen.facts,
  fun m ρ _ => Cert.Kernel.Gen.frame m ρ,
  fun m ρ _ => Cert.KernelIdeal.Gen.frame m ρ,
  fun m ρ _ => reference_frame m ρ,
  IdealRules.named_const.statement Cert.KernelIdeal.κ "inv_sqrt2" .f32 0x3F3504F3#32 (((Real.sqrt 2)⁻¹ : ℝ) : EReal) rfl,
  fun m g m' g' _ hm => ⟨_, _, _, _, _, _,
    (θ_run _ _ _).mono (fun r h c => ⟨(h.1 c).1, (h.1 c).2.1, (h.1 c).2.2.1, (h.1 c).2.2.2.1, (h.1 c).2.2.2.2.1, (h.1 c).2.2.2.2.2, h.2.1 c⟩)
      (θ_run_and (Cert.KernelIdeal.Value.run m g) (Cert.KernelIdeal.Gen.frame m g)),
    reference_run m m' g' fun c W h => by
      obtain ⟨h0, h1, h2, h3, h4, h5, h6, h7, h8, h9, h10, h11, h12, h13, h14, h15, h16, h17, h18⟩ := hm c
      exact ⟨(h _ (by decide)).trans h0, (h _ (by decide)).trans h1, (h _ (by decide)).trans h2, (h _ (by decide)).trans h3, (h _ (by decide)).trans h4, (h _ (by decide)).trans h5, (h _ (by decide)).trans h6, (h _ (by decide)).trans h7, (h _ (by decide)).trans h8, (h _ (by decide)).trans h9, (h _ (by decide)).trans h10, (h _ (by decide)).trans h11, (h _ (by decide)).trans h12, (h _ (by decide)).trans h13, (h _ (by decide)).trans h14, (h _ (by decide)).trans h15, (h _ (by decide)).trans h16, (h _ (by decide)).trans h17, (h _ (by decide)).trans h18⟩⟩⟩

end Cert.Proof

end
